-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_SampleAttn (m : (ℓ : Loc Cert.SampleAttn.nD Cert.SampleAttn.τ Cert.SampleAttn.sig) → Buf (Elt Bits) ℓ) : Prop :=
  True

def Pre_SampleAttnIdeal (m : (ℓ : Loc Cert.SampleAttnIdeal.nD Cert.SampleAttnIdeal.τ Cert.SampleAttnIdeal.sig) → Buf (Elt Ideal) ℓ) : Prop :=
  True

def Pre_SampleAttnRefIdeal (m : (ℓ : Loc Cert.SampleAttnRefIdeal.nD Cert.SampleAttnRefIdeal.τ Cert.SampleAttnRefIdeal.sig) → Buf (Elt Ideal) ℓ) : Prop :=
  True

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_LruRefIdeal (m : (ℓ : Loc Cert.LruRefIdeal.nD Cert.LruRefIdeal.τ Cert.LruRefIdeal.sig) → Buf (Elt Ideal) ℓ) : Prop :=
  True

def Pre_MoeSample (m : (ℓ : Loc Cert.MoeSample.nD Cert.MoeSample.τ Cert.MoeSample.sig) → Buf (Elt Bits) ℓ) : Prop :=
  True

def Pre_MoeSampleIdeal (m : (ℓ : Loc Cert.MoeSampleIdeal.nD Cert.MoeSampleIdeal.τ Cert.MoeSampleIdeal.sig) → Buf (Elt Ideal) ℓ) : Prop :=
  True

def Pre_MoeSampleRefIdeal (m : (ℓ : Loc Cert.MoeSampleRefIdeal.nD Cert.MoeSampleRefIdeal.τ Cert.MoeSampleRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_SampleAttn [hSampleAttn : Cert.SampleAttn.Facts] : Prop :=
  ∀ (m : (ℓ : Loc Cert.SampleAttn.nD Cert.SampleAttn.τ Cert.SampleAttn.sig) → Buf (Elt Bits) ℓ) (g : Dev Cert.SampleAttn.nD → PrngReg), Pre_SampleAttn m →
    θ_run (Cert.SampleAttn.defs (F := Bits)) (onTc (τ := Cert.SampleAttn.τ) (Cert.SampleAttn.main (F := Bits))) ⟨m, fun _ => 0, g⟩ (fun r => (∀ c : Dev Cert.SampleAttn.nD,
      r.2.mem ((c.tc : Thread Cert.SampleAttn.nD Cert.SampleAttn.τ).loc Cert.SampleAttn.main_arg0) = m ((c.tc : Thread Cert.SampleAttn.nD Cert.SampleAttn.τ).loc Cert.SampleAttn.main_arg0)
      ∧ r.2.mem ((c.tc : Thread Cert.SampleAttn.nD Cert.SampleAttn.τ).loc Cert.SampleAttn.main_arg1) = m ((c.tc : Thread Cert.SampleAttn.nD Cert.SampleAttn.τ).loc Cert.SampleAttn.main_arg1)
      ∧ r.2.mem ((c.tc : Thread Cert.SampleAttn.nD Cert.SampleAttn.τ).loc Cert.SampleAttn.main_arg2) = m ((c.tc : Thread Cert.SampleAttn.nD Cert.SampleAttn.τ).loc Cert.SampleAttn.main_arg2)
      ∧ r.2.mem ((c.tc : Thread Cert.SampleAttn.nD Cert.SampleAttn.τ).loc Cert.SampleAttn.main_arg3) = m ((c.tc : Thread Cert.SampleAttn.nD Cert.SampleAttn.τ).loc Cert.SampleAttn.main_arg3)
      ∧ r.2.mem ((c.tc : Thread Cert.SampleAttn.nD Cert.SampleAttn.τ).loc Cert.SampleAttn.main_arg4) = m ((c.tc : Thread Cert.SampleAttn.nD Cert.SampleAttn.τ).loc Cert.SampleAttn.main_arg4)
      ∧ r.2.mem ((c.tc : Thread Cert.SampleAttn.nD Cert.SampleAttn.τ).loc Cert.SampleAttn.main_arg5) = m ((c.tc : Thread Cert.SampleAttn.nD Cert.SampleAttn.τ).loc Cert.SampleAttn.main_arg5))
      ∧ r.2.sem = fun _ => 0)

def quiescent_SampleAttnIdeal [hSampleAttnIdeal : Cert.SampleAttnIdeal.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg), Pre_SampleAttnIdeal m →
    θ_run (Cert.SampleAttnIdeal.defs (F := Ideal)) (onTc (τ := Cert.SampleAttnIdeal.τ) (Cert.SampleAttnIdeal.main (F := Ideal))) ⟨m, fun _ => 0, g⟩ (fun r => (∀ c : Dev Cert.SampleAttnIdeal.nD,
      r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
      ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
      ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
      ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
      ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4)
      ∧ r.2.mem ((c.tc : Thread Cert.SampleAttnIdeal.nD Cert.SampleAttnIdeal.τ).loc Cert.SampleAttnIdeal.main_arg5) = m ((c.tc : Thread Cert.SampleAttnIdeal.nD Cert.SampleAttnIdeal.τ).loc Cert.SampleAttnIdeal.main_arg5))
      ∧ r.2.sem = fun _ => 0)

def quiescent_SampleAttnRefIdeal [hSampleAttnRefIdeal : Cert.SampleAttnRefIdeal.Facts] : Prop :=
  ∀ (m : (ℓ : Loc Cert.SampleAttnRefIdeal.nD Cert.SampleAttnRefIdeal.τ Cert.SampleAttnRefIdeal.sig) → Buf (Elt Ideal) ℓ) (g : Dev Cert.SampleAttnRefIdeal.nD → PrngReg), Pre_SampleAttnRefIdeal m →
    θ_run (Cert.SampleAttnRefIdeal.defs (F := Ideal)) (onTc (τ := Cert.SampleAttnRefIdeal.τ) (Cert.SampleAttnRefIdeal.main (F := Ideal))) ⟨m, fun _ => 0, g⟩ (fun r => (∀ c : Dev Cert.SampleAttnRefIdeal.nD,
      r.2.mem ((c.tc : Thread Cert.SampleAttnRefIdeal.nD Cert.SampleAttnRefIdeal.τ).loc Cert.SampleAttnRefIdeal.main_arg0) = m ((c.tc : Thread Cert.SampleAttnRefIdeal.nD Cert.SampleAttnRefIdeal.τ).loc Cert.SampleAttnRefIdeal.main_arg0)
      ∧ r.2.mem ((c.tc : Thread Cert.SampleAttnRefIdeal.nD Cert.SampleAttnRefIdeal.τ).loc Cert.SampleAttnRefIdeal.main_arg1) = m ((c.tc : Thread Cert.SampleAttnRefIdeal.nD Cert.SampleAttnRefIdeal.τ).loc Cert.SampleAttnRefIdeal.main_arg1)
      ∧ r.2.mem ((c.tc : Thread Cert.SampleAttnRefIdeal.nD Cert.SampleAttnRefIdeal.τ).loc Cert.SampleAttnRefIdeal.main_arg2) = m ((c.tc : Thread Cert.SampleAttnRefIdeal.nD Cert.SampleAttnRefIdeal.τ).loc Cert.SampleAttnRefIdeal.main_arg2)
      ∧ r.2.mem ((c.tc : Thread Cert.SampleAttnRefIdeal.nD Cert.SampleAttnRefIdeal.τ).loc Cert.SampleAttnRefIdeal.main_arg3) = m ((c.tc : Thread Cert.SampleAttnRefIdeal.nD Cert.SampleAttnRefIdeal.τ).loc Cert.SampleAttnRefIdeal.main_arg3)
      ∧ r.2.mem ((c.tc : Thread Cert.SampleAttnRefIdeal.nD Cert.SampleAttnRefIdeal.τ).loc Cert.SampleAttnRefIdeal.main_arg4) = m ((c.tc : Thread Cert.SampleAttnRefIdeal.nD Cert.SampleAttnRefIdeal.τ).loc Cert.SampleAttnRefIdeal.main_arg4)
      ∧ r.2.mem ((c.tc : Thread Cert.SampleAttnRefIdeal.nD Cert.SampleAttnRefIdeal.τ).loc Cert.SampleAttnRefIdeal.main_arg5) = m ((c.tc : Thread Cert.SampleAttnRefIdeal.nD Cert.SampleAttnRefIdeal.τ).loc Cert.SampleAttnRefIdeal.main_arg5))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ r.2.sem = fun _ => 0)

def quiescent_LruRefIdeal [hLruRefIdeal : Cert.LruRefIdeal.Facts] : Prop :=
  ∀ (m : (ℓ : Loc Cert.LruRefIdeal.nD Cert.LruRefIdeal.τ Cert.LruRefIdeal.sig) → Buf (Elt Ideal) ℓ) (g : Dev Cert.LruRefIdeal.nD → PrngReg), Pre_LruRefIdeal m →
    θ_run (Cert.LruRefIdeal.defs (F := Ideal)) (onTc (τ := Cert.LruRefIdeal.τ) (Cert.LruRefIdeal.main (F := Ideal))) ⟨m, fun _ => 0, g⟩ (fun r => (∀ c : Dev Cert.LruRefIdeal.nD,
      r.2.mem ((c.tc : Thread Cert.LruRefIdeal.nD Cert.LruRefIdeal.τ).loc Cert.LruRefIdeal.main_arg0) = m ((c.tc : Thread Cert.LruRefIdeal.nD Cert.LruRefIdeal.τ).loc Cert.LruRefIdeal.main_arg0)
      ∧ r.2.mem ((c.tc : Thread Cert.LruRefIdeal.nD Cert.LruRefIdeal.τ).loc Cert.LruRefIdeal.main_arg1) = m ((c.tc : Thread Cert.LruRefIdeal.nD Cert.LruRefIdeal.τ).loc Cert.LruRefIdeal.main_arg1)
      ∧ r.2.mem ((c.tc : Thread Cert.LruRefIdeal.nD Cert.LruRefIdeal.τ).loc Cert.LruRefIdeal.main_arg2) = m ((c.tc : Thread Cert.LruRefIdeal.nD Cert.LruRefIdeal.τ).loc Cert.LruRefIdeal.main_arg2)
      ∧ r.2.mem ((c.tc : Thread Cert.LruRefIdeal.nD Cert.LruRefIdeal.τ).loc Cert.LruRefIdeal.main_arg3) = m ((c.tc : Thread Cert.LruRefIdeal.nD Cert.LruRefIdeal.τ).loc Cert.LruRefIdeal.main_arg3)
      ∧ r.2.mem ((c.tc : Thread Cert.LruRefIdeal.nD Cert.LruRefIdeal.τ).loc Cert.LruRefIdeal.main_arg4) = m ((c.tc : Thread Cert.LruRefIdeal.nD Cert.LruRefIdeal.τ).loc Cert.LruRefIdeal.main_arg4)
      ∧ r.2.mem ((c.tc : Thread Cert.LruRefIdeal.nD Cert.LruRefIdeal.τ).loc Cert.LruRefIdeal.main_arg5) = m ((c.tc : Thread Cert.LruRefIdeal.nD Cert.LruRefIdeal.τ).loc Cert.LruRefIdeal.main_arg5)
      ∧ r.2.mem ((c.tc : Thread Cert.LruRefIdeal.nD Cert.LruRefIdeal.τ).loc Cert.LruRefIdeal.main_arg6) = m ((c.tc : Thread Cert.LruRefIdeal.nD Cert.LruRefIdeal.τ).loc Cert.LruRefIdeal.main_arg6)
      ∧ r.2.mem ((c.tc : Thread Cert.LruRefIdeal.nD Cert.LruRefIdeal.τ).loc Cert.LruRefIdeal.main_arg7) = m ((c.tc : Thread Cert.LruRefIdeal.nD Cert.LruRefIdeal.τ).loc Cert.LruRefIdeal.main_arg7))
      ∧ r.2.sem = fun _ => 0)

def quiescent_MoeSample [hMoeSample : Cert.MoeSample.Facts] : Prop :=
  ∀ (m : (ℓ : Loc Cert.MoeSample.nD Cert.MoeSample.τ Cert.MoeSample.sig) → Buf (Elt Bits) ℓ) (g : Dev Cert.MoeSample.nD → PrngReg), Pre_MoeSample m →
    θ_run (Cert.MoeSample.defs (F := Bits)) (onTc (τ := Cert.MoeSample.τ) (Cert.MoeSample.main (F := Bits))) ⟨m, fun _ => 0, g⟩ (fun r => (∀ c : Dev Cert.MoeSample.nD,
      r.2.mem ((c.tc : Thread Cert.MoeSample.nD Cert.MoeSample.τ).loc Cert.MoeSample.main_arg0) = m ((c.tc : Thread Cert.MoeSample.nD Cert.MoeSample.τ).loc Cert.MoeSample.main_arg0)
      ∧ r.2.mem ((c.tc : Thread Cert.MoeSample.nD Cert.MoeSample.τ).loc Cert.MoeSample.main_arg1) = m ((c.tc : Thread Cert.MoeSample.nD Cert.MoeSample.τ).loc Cert.MoeSample.main_arg1)
      ∧ r.2.mem ((c.tc : Thread Cert.MoeSample.nD Cert.MoeSample.τ).loc Cert.MoeSample.main_arg2) = m ((c.tc : Thread Cert.MoeSample.nD Cert.MoeSample.τ).loc Cert.MoeSample.main_arg2)
      ∧ r.2.mem ((c.tc : Thread Cert.MoeSample.nD Cert.MoeSample.τ).loc Cert.MoeSample.main_arg3) = m ((c.tc : Thread Cert.MoeSample.nD Cert.MoeSample.τ).loc Cert.MoeSample.main_arg3)
      ∧ r.2.mem ((c.tc : Thread Cert.MoeSample.nD Cert.MoeSample.τ).loc Cert.MoeSample.main_arg4) = m ((c.tc : Thread Cert.MoeSample.nD Cert.MoeSample.τ).loc Cert.MoeSample.main_arg4)
      ∧ r.2.mem ((c.tc : Thread Cert.MoeSample.nD Cert.MoeSample.τ).loc Cert.MoeSample.main_arg5) = m ((c.tc : Thread Cert.MoeSample.nD Cert.MoeSample.τ).loc Cert.MoeSample.main_arg5)
      ∧ r.2.mem ((c.tc : Thread Cert.MoeSample.nD Cert.MoeSample.τ).loc Cert.MoeSample.main_arg6) = m ((c.tc : Thread Cert.MoeSample.nD Cert.MoeSample.τ).loc Cert.MoeSample.main_arg6)
      ∧ r.2.mem ((c.tc : Thread Cert.MoeSample.nD Cert.MoeSample.τ).loc Cert.MoeSample.main_arg7) = m ((c.tc : Thread Cert.MoeSample.nD Cert.MoeSample.τ).loc Cert.MoeSample.main_arg7))
      ∧ r.2.sem = fun _ => 0)

def quiescent_MoeSampleIdeal [hMoeSampleIdeal : Cert.MoeSampleIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg), Pre_MoeSampleIdeal m →
    θ_run (Cert.MoeSampleIdeal.defs (F := Ideal)) (onTc (τ := Cert.MoeSampleIdeal.τ) (Cert.MoeSampleIdeal.main (F := Ideal))) ⟨m, fun _ => 0, g⟩ (fun r => (∀ c : Dev Cert.MoeSampleIdeal.nD,
      r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
      ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
      ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
      ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
      ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
      ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
      ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
      ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7))
      ∧ r.2.sem = fun _ => 0)

def quiescent_MoeSampleRefIdeal [hMoeSampleRefIdeal : Cert.MoeSampleRefIdeal.Facts] : Prop :=
  ∀ (m : (ℓ : Loc Cert.MoeSampleRefIdeal.nD Cert.MoeSampleRefIdeal.τ Cert.MoeSampleRefIdeal.sig) → Buf (Elt Ideal) ℓ) (g : Dev Cert.MoeSampleRefIdeal.nD → PrngReg), Pre_MoeSampleRefIdeal m →
    θ_run (Cert.MoeSampleRefIdeal.defs (F := Ideal)) (onTc (τ := Cert.MoeSampleRefIdeal.τ) (Cert.MoeSampleRefIdeal.main (F := Ideal))) ⟨m, fun _ => 0, g⟩ (fun r => (∀ c : Dev Cert.MoeSampleRefIdeal.nD,
      r.2.mem ((c.tc : Thread Cert.MoeSampleRefIdeal.nD Cert.MoeSampleRefIdeal.τ).loc Cert.MoeSampleRefIdeal.main_arg0) = m ((c.tc : Thread Cert.MoeSampleRefIdeal.nD Cert.MoeSampleRefIdeal.τ).loc Cert.MoeSampleRefIdeal.main_arg0)
      ∧ r.2.mem ((c.tc : Thread Cert.MoeSampleRefIdeal.nD Cert.MoeSampleRefIdeal.τ).loc Cert.MoeSampleRefIdeal.main_arg1) = m ((c.tc : Thread Cert.MoeSampleRefIdeal.nD Cert.MoeSampleRefIdeal.τ).loc Cert.MoeSampleRefIdeal.main_arg1)
      ∧ r.2.mem ((c.tc : Thread Cert.MoeSampleRefIdeal.nD Cert.MoeSampleRefIdeal.τ).loc Cert.MoeSampleRefIdeal.main_arg2) = m ((c.tc : Thread Cert.MoeSampleRefIdeal.nD Cert.MoeSampleRefIdeal.τ).loc Cert.MoeSampleRefIdeal.main_arg2)
      ∧ r.2.mem ((c.tc : Thread Cert.MoeSampleRefIdeal.nD Cert.MoeSampleRefIdeal.τ).loc Cert.MoeSampleRefIdeal.main_arg3) = m ((c.tc : Thread Cert.MoeSampleRefIdeal.nD Cert.MoeSampleRefIdeal.τ).loc Cert.MoeSampleRefIdeal.main_arg3)
      ∧ r.2.mem ((c.tc : Thread Cert.MoeSampleRefIdeal.nD Cert.MoeSampleRefIdeal.τ).loc Cert.MoeSampleRefIdeal.main_arg4) = m ((c.tc : Thread Cert.MoeSampleRefIdeal.nD Cert.MoeSampleRefIdeal.τ).loc Cert.MoeSampleRefIdeal.main_arg4)
      ∧ r.2.mem ((c.tc : Thread Cert.MoeSampleRefIdeal.nD Cert.MoeSampleRefIdeal.τ).loc Cert.MoeSampleRefIdeal.main_arg5) = m ((c.tc : Thread Cert.MoeSampleRefIdeal.nD Cert.MoeSampleRefIdeal.τ).loc Cert.MoeSampleRefIdeal.main_arg5)
      ∧ r.2.mem ((c.tc : Thread Cert.MoeSampleRefIdeal.nD Cert.MoeSampleRefIdeal.τ).loc Cert.MoeSampleRefIdeal.main_arg6) = m ((c.tc : Thread Cert.MoeSampleRefIdeal.nD Cert.MoeSampleRefIdeal.τ).loc Cert.MoeSampleRefIdeal.main_arg6)
      ∧ r.2.mem ((c.tc : Thread Cert.MoeSampleRefIdeal.nD Cert.MoeSampleRefIdeal.τ).loc Cert.MoeSampleRefIdeal.main_arg7) = m ((c.tc : Thread Cert.MoeSampleRefIdeal.nD Cert.MoeSampleRefIdeal.τ).loc Cert.MoeSampleRefIdeal.main_arg7))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v13)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v18) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_SampleAttn_SampleAttnIdeal : Prop :=
  True

def algebraic_SampleAttnIdeal_SampleAttnRefIdeal [hSampleAttnIdeal : Cert.SampleAttnIdeal.Facts] [hSampleAttnRefIdeal : Cert.SampleAttnRefIdeal.Facts] : Prop :=
  ∀ (m : (ℓ : Loc Cert.SampleAttnIdeal.nD Cert.SampleAttnIdeal.τ Cert.SampleAttnIdeal.sig) → Buf (Elt Ideal) ℓ) (g : Dev Cert.SampleAttnIdeal.nD → PrngReg)
    (m' : (ℓ : Loc Cert.SampleAttnRefIdeal.nD Cert.SampleAttnRefIdeal.τ Cert.SampleAttnRefIdeal.sig) → Buf (Elt Ideal) ℓ) (g' : Dev Cert.SampleAttnRefIdeal.nD → PrngReg), Pre_SampleAttnIdeal m →
    (∀ c : Dev Cert.SampleAttnIdeal.nD,
      m' ((c.tc : Thread Cert.SampleAttnRefIdeal.nD Cert.SampleAttnRefIdeal.τ).loc Cert.SampleAttnRefIdeal.main_arg0) = m ((c.tc : Thread Cert.SampleAttnIdeal.nD Cert.SampleAttnIdeal.τ).loc Cert.SampleAttnIdeal.main_arg0)
      ∧ m' ((c.tc : Thread Cert.SampleAttnRefIdeal.nD Cert.SampleAttnRefIdeal.τ).loc Cert.SampleAttnRefIdeal.main_arg1) = m ((c.tc : Thread Cert.SampleAttnIdeal.nD Cert.SampleAttnIdeal.τ).loc Cert.SampleAttnIdeal.main_arg1)
      ∧ m' ((c.tc : Thread Cert.SampleAttnRefIdeal.nD Cert.SampleAttnRefIdeal.τ).loc Cert.SampleAttnRefIdeal.main_arg2) = m ((c.tc : Thread Cert.SampleAttnIdeal.nD Cert.SampleAttnIdeal.τ).loc Cert.SampleAttnIdeal.main_arg2)
      ∧ m' ((c.tc : Thread Cert.SampleAttnRefIdeal.nD Cert.SampleAttnRefIdeal.τ).loc Cert.SampleAttnRefIdeal.main_arg3) = m ((c.tc : Thread Cert.SampleAttnIdeal.nD Cert.SampleAttnIdeal.τ).loc Cert.SampleAttnIdeal.main_arg3)
      ∧ m' ((c.tc : Thread Cert.SampleAttnRefIdeal.nD Cert.SampleAttnRefIdeal.τ).loc Cert.SampleAttnRefIdeal.main_arg4) = m ((c.tc : Thread Cert.SampleAttnIdeal.nD Cert.SampleAttnIdeal.τ).loc Cert.SampleAttnIdeal.main_arg4)
      ∧ m' ((c.tc : Thread Cert.SampleAttnRefIdeal.nD Cert.SampleAttnRefIdeal.τ).loc Cert.SampleAttnRefIdeal.main_arg5) = m ((c.tc : Thread Cert.SampleAttnIdeal.nD Cert.SampleAttnIdeal.τ).loc Cert.SampleAttnIdeal.main_arg5)) →
    ∃ (v0 : (c : Dev Cert.SampleAttnIdeal.nD) → Buf (Elt Ideal) ((c.tc : Thread Cert.SampleAttnIdeal.nD Cert.SampleAttnIdeal.τ).loc Cert.SampleAttnIdeal.main_v6_1)) (v1 : (c : Dev Cert.SampleAttnIdeal.nD) → Buf (Elt Ideal) ((c.tc : Thread Cert.SampleAttnIdeal.nD Cert.SampleAttnIdeal.τ).loc Cert.SampleAttnIdeal.main_v6_2)),
      θ_run (Cert.SampleAttnIdeal.defs (F := Ideal)) (onTc (τ := Cert.SampleAttnIdeal.τ) (Cert.SampleAttnIdeal.main (F := Ideal))) ⟨m, fun _ => 0, g⟩ (fun r => ∀ c : Dev Cert.SampleAttnIdeal.nD,
          r.2.mem ((c.tc : Thread Cert.SampleAttnIdeal.nD Cert.SampleAttnIdeal.τ).loc Cert.SampleAttnIdeal.main_v6_1) = v0 c
          ∧ r.2.mem ((c.tc : Thread Cert.SampleAttnIdeal.nD Cert.SampleAttnIdeal.τ).loc Cert.SampleAttnIdeal.main_v6_2) = v1 c
          ∧ r.2.mem ((c.tc : Thread Cert.SampleAttnIdeal.nD Cert.SampleAttnIdeal.τ).loc Cert.SampleAttnIdeal.main_arg0) = m ((c.tc : Thread Cert.SampleAttnIdeal.nD Cert.SampleAttnIdeal.τ).loc Cert.SampleAttnIdeal.main_arg0)
          ∧ r.2.mem ((c.tc : Thread Cert.SampleAttnIdeal.nD Cert.SampleAttnIdeal.τ).loc Cert.SampleAttnIdeal.main_arg1) = m ((c.tc : Thread Cert.SampleAttnIdeal.nD Cert.SampleAttnIdeal.τ).loc Cert.SampleAttnIdeal.main_arg1)
          ∧ r.2.mem ((c.tc : Thread Cert.SampleAttnIdeal.nD Cert.SampleAttnIdeal.τ).loc Cert.SampleAttnIdeal.main_arg2) = m ((c.tc : Thread Cert.SampleAttnIdeal.nD Cert.SampleAttnIdeal.τ).loc Cert.SampleAttnIdeal.main_arg2)
          ∧ r.2.mem ((c.tc : Thread Cert.SampleAttnIdeal.nD Cert.SampleAttnIdeal.τ).loc Cert.SampleAttnIdeal.main_arg3) = m ((c.tc : Thread Cert.SampleAttnIdeal.nD Cert.SampleAttnIdeal.τ).loc Cert.SampleAttnIdeal.main_arg3)
          ∧ r.2.mem ((c.tc : Thread Cert.SampleAttnIdeal.nD Cert.SampleAttnIdeal.τ).loc Cert.SampleAttnIdeal.main_arg4) = m ((c.tc : Thread Cert.SampleAttnIdeal.nD Cert.SampleAttnIdeal.τ).loc Cert.SampleAttnIdeal.main_arg4)
          ∧ r.2.mem ((c.tc : Thread Cert.SampleAttnIdeal.nD Cert.SampleAttnIdeal.τ).loc Cert.SampleAttnIdeal.main_arg5) = m ((c.tc : Thread Cert.SampleAttnIdeal.nD Cert.SampleAttnIdeal.τ).loc Cert.SampleAttnIdeal.main_arg5))
      ∧ θ_run (Cert.SampleAttnRefIdeal.defs (F := Ideal)) (onTc (τ := Cert.SampleAttnRefIdeal.τ) (Cert.SampleAttnRefIdeal.main (F := Ideal))) ⟨m', fun _ => 0, g'⟩ (fun r => ∀ c : Dev Cert.SampleAttnRefIdeal.nD,
          r.2.mem ((c.tc : Thread Cert.SampleAttnRefIdeal.nD Cert.SampleAttnRefIdeal.τ).loc Cert.SampleAttnRefIdeal.main_v7) = v0 c
          ∧ r.2.mem ((c.tc : Thread Cert.SampleAttnRefIdeal.nD Cert.SampleAttnRefIdeal.τ).loc Cert.SampleAttnRefIdeal.main_v9) = v1 c
          ∧ r.2.mem ((c.tc : Thread Cert.SampleAttnRefIdeal.nD Cert.SampleAttnRefIdeal.τ).loc Cert.SampleAttnRefIdeal.main_arg0) = m' ((c.tc : Thread Cert.SampleAttnRefIdeal.nD Cert.SampleAttnRefIdeal.τ).loc Cert.SampleAttnRefIdeal.main_arg0)
          ∧ r.2.mem ((c.tc : Thread Cert.SampleAttnRefIdeal.nD Cert.SampleAttnRefIdeal.τ).loc Cert.SampleAttnRefIdeal.main_arg1) = m' ((c.tc : Thread Cert.SampleAttnRefIdeal.nD Cert.SampleAttnRefIdeal.τ).loc Cert.SampleAttnRefIdeal.main_arg1)
          ∧ r.2.mem ((c.tc : Thread Cert.SampleAttnRefIdeal.nD Cert.SampleAttnRefIdeal.τ).loc Cert.SampleAttnRefIdeal.main_arg2) = m' ((c.tc : Thread Cert.SampleAttnRefIdeal.nD Cert.SampleAttnRefIdeal.τ).loc Cert.SampleAttnRefIdeal.main_arg2)
          ∧ r.2.mem ((c.tc : Thread Cert.SampleAttnRefIdeal.nD Cert.SampleAttnRefIdeal.τ).loc Cert.SampleAttnRefIdeal.main_arg3) = m' ((c.tc : Thread Cert.SampleAttnRefIdeal.nD Cert.SampleAttnRefIdeal.τ).loc Cert.SampleAttnRefIdeal.main_arg3)
          ∧ r.2.mem ((c.tc : Thread Cert.SampleAttnRefIdeal.nD Cert.SampleAttnRefIdeal.τ).loc Cert.SampleAttnRefIdeal.main_arg4) = m' ((c.tc : Thread Cert.SampleAttnRefIdeal.nD Cert.SampleAttnRefIdeal.τ).loc Cert.SampleAttnRefIdeal.main_arg4)
          ∧ r.2.mem ((c.tc : Thread Cert.SampleAttnRefIdeal.nD Cert.SampleAttnRefIdeal.τ).loc Cert.SampleAttnRefIdeal.main_arg5) = m' ((c.tc : Thread Cert.SampleAttnRefIdeal.nD Cert.SampleAttnRefIdeal.τ).loc Cert.SampleAttnRefIdeal.main_arg5))

def preserves_Lru_LruIdeal : Prop :=
  True

def algebraic_LruIdeal_LruRefIdeal [hLruIdeal : Cert.LruIdeal.Facts] [hLruRefIdeal : Cert.LruRefIdeal.Facts] : Prop :=
  ∀ (m : (ℓ : Loc Cert.LruIdeal.nD Cert.LruIdeal.τ Cert.LruIdeal.sig) → Buf (Elt Ideal) ℓ) (g : Dev Cert.LruIdeal.nD → PrngReg)
    (m' : (ℓ : Loc Cert.LruRefIdeal.nD Cert.LruRefIdeal.τ Cert.LruRefIdeal.sig) → Buf (Elt Ideal) ℓ) (g' : Dev Cert.LruRefIdeal.nD → PrngReg), Pre_LruIdeal m →
    (∀ c : Dev Cert.LruIdeal.nD,
      m' ((c.tc : Thread Cert.LruRefIdeal.nD Cert.LruRefIdeal.τ).loc Cert.LruRefIdeal.main_arg0) = m ((c.tc : Thread Cert.LruIdeal.nD Cert.LruIdeal.τ).loc Cert.LruIdeal.main_arg0)
      ∧ m' ((c.tc : Thread Cert.LruRefIdeal.nD Cert.LruRefIdeal.τ).loc Cert.LruRefIdeal.main_arg1) = m ((c.tc : Thread Cert.LruIdeal.nD Cert.LruIdeal.τ).loc Cert.LruIdeal.main_arg1)
      ∧ m' ((c.tc : Thread Cert.LruRefIdeal.nD Cert.LruRefIdeal.τ).loc Cert.LruRefIdeal.main_arg2) = m ((c.tc : Thread Cert.LruIdeal.nD Cert.LruIdeal.τ).loc Cert.LruIdeal.main_arg2)
      ∧ m' ((c.tc : Thread Cert.LruRefIdeal.nD Cert.LruRefIdeal.τ).loc Cert.LruRefIdeal.main_arg3) = m ((c.tc : Thread Cert.LruIdeal.nD Cert.LruIdeal.τ).loc Cert.LruIdeal.main_arg3)
      ∧ m' ((c.tc : Thread Cert.LruRefIdeal.nD Cert.LruRefIdeal.τ).loc Cert.LruRefIdeal.main_arg4) = m ((c.tc : Thread Cert.LruIdeal.nD Cert.LruIdeal.τ).loc Cert.LruIdeal.main_arg4)
      ∧ m' ((c.tc : Thread Cert.LruRefIdeal.nD Cert.LruRefIdeal.τ).loc Cert.LruRefIdeal.main_arg5) = m ((c.tc : Thread Cert.LruIdeal.nD Cert.LruIdeal.τ).loc Cert.LruIdeal.main_arg5)
      ∧ m' ((c.tc : Thread Cert.LruRefIdeal.nD Cert.LruRefIdeal.τ).loc Cert.LruRefIdeal.main_arg6) = m ((c.tc : Thread Cert.LruIdeal.nD Cert.LruIdeal.τ).loc Cert.LruIdeal.main_arg6)
      ∧ m' ((c.tc : Thread Cert.LruRefIdeal.nD Cert.LruRefIdeal.τ).loc Cert.LruRefIdeal.main_arg7) = m ((c.tc : Thread Cert.LruIdeal.nD Cert.LruIdeal.τ).loc Cert.LruIdeal.main_arg7)) →
    ∃ (v0 : (c : Dev Cert.LruIdeal.nD) → Buf (Elt Ideal) ((c.tc : Thread Cert.LruIdeal.nD Cert.LruIdeal.τ).loc Cert.LruIdeal.main_v69_1)) (v1 : (c : Dev Cert.LruIdeal.nD) → Buf (Elt Ideal) ((c.tc : Thread Cert.LruIdeal.nD Cert.LruIdeal.τ).loc Cert.LruIdeal.main_v69_2)),
      θ_run (Cert.LruIdeal.defs (F := Ideal)) (onTc (τ := Cert.LruIdeal.τ) (Cert.LruIdeal.main (F := Ideal))) ⟨m, fun _ => 0, g⟩ (fun r => ∀ c : Dev Cert.LruIdeal.nD,
          r.2.mem ((c.tc : Thread Cert.LruIdeal.nD Cert.LruIdeal.τ).loc Cert.LruIdeal.main_v69_1) = v0 c
          ∧ r.2.mem ((c.tc : Thread Cert.LruIdeal.nD Cert.LruIdeal.τ).loc Cert.LruIdeal.main_v69_2) = v1 c
          ∧ r.2.mem ((c.tc : Thread Cert.LruIdeal.nD Cert.LruIdeal.τ).loc Cert.LruIdeal.main_arg0) = m ((c.tc : Thread Cert.LruIdeal.nD Cert.LruIdeal.τ).loc Cert.LruIdeal.main_arg0)
          ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
          ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
          ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
          ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
          ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
          ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
          ∧ r.2.mem ((c.tc : Thread Cert.LruIdeal.nD Cert.LruIdeal.τ).loc Cert.LruIdeal.main_arg7) = m ((c.tc : Thread Cert.LruIdeal.nD Cert.LruIdeal.τ).loc Cert.LruIdeal.main_arg7))
      ∧ θ_run (Cert.LruRefIdeal.defs (F := Ideal)) (onTc (τ := Cert.LruRefIdeal.τ) (Cert.LruRefIdeal.main (F := Ideal))) ⟨m', fun _ => 0, g'⟩ (fun r => ∀ c : Dev Cert.LruRefIdeal.nD,
          r.2.mem ((c.tc : Thread Cert.LruRefIdeal.nD Cert.LruRefIdeal.τ).loc Cert.LruRefIdeal.main_v92) = v0 c
          ∧ r.2.mem ((c.tc : Thread Cert.LruRefIdeal.nD Cert.LruRefIdeal.τ).loc Cert.LruRefIdeal.main_v93) = v1 c
          ∧ r.2.mem ((c.tc : Thread Cert.LruRefIdeal.nD Cert.LruRefIdeal.τ).loc Cert.LruRefIdeal.main_arg0) = m' ((c.tc : Thread Cert.LruRefIdeal.nD Cert.LruRefIdeal.τ).loc Cert.LruRefIdeal.main_arg0)
          ∧ r.2.mem ((c.tc : Thread Cert.LruRefIdeal.nD Cert.LruRefIdeal.τ).loc Cert.LruRefIdeal.main_arg1) = m' ((c.tc : Thread Cert.LruRefIdeal.nD Cert.LruRefIdeal.τ).loc Cert.LruRefIdeal.main_arg1)
          ∧ r.2.mem ((c.tc : Thread Cert.LruRefIdeal.nD Cert.LruRefIdeal.τ).loc Cert.LruRefIdeal.main_arg2) = m' ((c.tc : Thread Cert.LruRefIdeal.nD Cert.LruRefIdeal.τ).loc Cert.LruRefIdeal.main_arg2)
          ∧ r.2.mem ((c.tc : Thread Cert.LruRefIdeal.nD Cert.LruRefIdeal.τ).loc Cert.LruRefIdeal.main_arg3) = m' ((c.tc : Thread Cert.LruRefIdeal.nD Cert.LruRefIdeal.τ).loc Cert.LruRefIdeal.main_arg3)
          ∧ r.2.mem ((c.tc : Thread Cert.LruRefIdeal.nD Cert.LruRefIdeal.τ).loc Cert.LruRefIdeal.main_arg4) = m' ((c.tc : Thread Cert.LruRefIdeal.nD Cert.LruRefIdeal.τ).loc Cert.LruRefIdeal.main_arg4)
          ∧ r.2.mem ((c.tc : Thread Cert.LruRefIdeal.nD Cert.LruRefIdeal.τ).loc Cert.LruRefIdeal.main_arg5) = m' ((c.tc : Thread Cert.LruRefIdeal.nD Cert.LruRefIdeal.τ).loc Cert.LruRefIdeal.main_arg5)
          ∧ r.2.mem ((c.tc : Thread Cert.LruRefIdeal.nD Cert.LruRefIdeal.τ).loc Cert.LruRefIdeal.main_arg6) = m' ((c.tc : Thread Cert.LruRefIdeal.nD Cert.LruRefIdeal.τ).loc Cert.LruRefIdeal.main_arg6)
          ∧ r.2.mem ((c.tc : Thread Cert.LruRefIdeal.nD Cert.LruRefIdeal.τ).loc Cert.LruRefIdeal.main_arg7) = m' ((c.tc : Thread Cert.LruRefIdeal.nD Cert.LruRefIdeal.τ).loc Cert.LruRefIdeal.main_arg7))

def preserves_MoeSample_MoeSampleIdeal : Prop :=
  True

def algebraic_MoeSampleIdeal_MoeSampleRefIdeal [hMoeSampleIdeal : Cert.MoeSampleIdeal.Facts] [hMoeSampleRefIdeal : Cert.MoeSampleRefIdeal.Facts] : Prop :=
  ∀ (m : (ℓ : Loc Cert.MoeSampleIdeal.nD Cert.MoeSampleIdeal.τ Cert.MoeSampleIdeal.sig) → Buf (Elt Ideal) ℓ) (g : Dev Cert.MoeSampleIdeal.nD → PrngReg)
    (m' : (ℓ : Loc Cert.MoeSampleRefIdeal.nD Cert.MoeSampleRefIdeal.τ Cert.MoeSampleRefIdeal.sig) → Buf (Elt Ideal) ℓ) (g' : Dev Cert.MoeSampleRefIdeal.nD → PrngReg), Pre_MoeSampleIdeal m →
    (∀ c : Dev Cert.MoeSampleIdeal.nD,
      m' ((c.tc : Thread Cert.MoeSampleRefIdeal.nD Cert.MoeSampleRefIdeal.τ).loc Cert.MoeSampleRefIdeal.main_arg0) = m ((c.tc : Thread Cert.MoeSampleIdeal.nD Cert.MoeSampleIdeal.τ).loc Cert.MoeSampleIdeal.main_arg0)
      ∧ m' ((c.tc : Thread Cert.MoeSampleRefIdeal.nD Cert.MoeSampleRefIdeal.τ).loc Cert.MoeSampleRefIdeal.main_arg1) = m ((c.tc : Thread Cert.MoeSampleIdeal.nD Cert.MoeSampleIdeal.τ).loc Cert.MoeSampleIdeal.main_arg1)
      ∧ m' ((c.tc : Thread Cert.MoeSampleRefIdeal.nD Cert.MoeSampleRefIdeal.τ).loc Cert.MoeSampleRefIdeal.main_arg2) = m ((c.tc : Thread Cert.MoeSampleIdeal.nD Cert.MoeSampleIdeal.τ).loc Cert.MoeSampleIdeal.main_arg2)
      ∧ m' ((c.tc : Thread Cert.MoeSampleRefIdeal.nD Cert.MoeSampleRefIdeal.τ).loc Cert.MoeSampleRefIdeal.main_arg3) = m ((c.tc : Thread Cert.MoeSampleIdeal.nD Cert.MoeSampleIdeal.τ).loc Cert.MoeSampleIdeal.main_arg3)
      ∧ m' ((c.tc : Thread Cert.MoeSampleRefIdeal.nD Cert.MoeSampleRefIdeal.τ).loc Cert.MoeSampleRefIdeal.main_arg4) = m ((c.tc : Thread Cert.MoeSampleIdeal.nD Cert.MoeSampleIdeal.τ).loc Cert.MoeSampleIdeal.main_arg4)
      ∧ m' ((c.tc : Thread Cert.MoeSampleRefIdeal.nD Cert.MoeSampleRefIdeal.τ).loc Cert.MoeSampleRefIdeal.main_arg5) = m ((c.tc : Thread Cert.MoeSampleIdeal.nD Cert.MoeSampleIdeal.τ).loc Cert.MoeSampleIdeal.main_arg5)
      ∧ m' ((c.tc : Thread Cert.MoeSampleRefIdeal.nD Cert.MoeSampleRefIdeal.τ).loc Cert.MoeSampleRefIdeal.main_arg6) = m ((c.tc : Thread Cert.MoeSampleIdeal.nD Cert.MoeSampleIdeal.τ).loc Cert.MoeSampleIdeal.main_arg6)
      ∧ m' ((c.tc : Thread Cert.MoeSampleRefIdeal.nD Cert.MoeSampleRefIdeal.τ).loc Cert.MoeSampleRefIdeal.main_arg7) = m ((c.tc : Thread Cert.MoeSampleIdeal.nD Cert.MoeSampleIdeal.τ).loc Cert.MoeSampleIdeal.main_arg7)) →
    ∃ (v0 : (c : Dev Cert.MoeSampleIdeal.nD) → Buf (Elt Ideal) ((c.tc : Thread Cert.MoeSampleIdeal.nD Cert.MoeSampleIdeal.τ).loc Cert.MoeSampleIdeal.main_v10)),
      θ_run (Cert.MoeSampleIdeal.defs (F := Ideal)) (onTc (τ := Cert.MoeSampleIdeal.τ) (Cert.MoeSampleIdeal.main (F := Ideal))) ⟨m, fun _ => 0, g⟩ (fun r => ∀ c : Dev Cert.MoeSampleIdeal.nD,
          r.2.mem ((c.tc : Thread Cert.MoeSampleIdeal.nD Cert.MoeSampleIdeal.τ).loc Cert.MoeSampleIdeal.main_v10) = v0 c
          ∧ r.2.mem ((c.tc : Thread Cert.MoeSampleIdeal.nD Cert.MoeSampleIdeal.τ).loc Cert.MoeSampleIdeal.main_arg0) = m ((c.tc : Thread Cert.MoeSampleIdeal.nD Cert.MoeSampleIdeal.τ).loc Cert.MoeSampleIdeal.main_arg0)
          ∧ r.2.mem ((c.tc : Thread Cert.MoeSampleIdeal.nD Cert.MoeSampleIdeal.τ).loc Cert.MoeSampleIdeal.main_arg1) = m ((c.tc : Thread Cert.MoeSampleIdeal.nD Cert.MoeSampleIdeal.τ).loc Cert.MoeSampleIdeal.main_arg1)
          ∧ r.2.mem ((c.tc : Thread Cert.MoeSampleIdeal.nD Cert.MoeSampleIdeal.τ).loc Cert.MoeSampleIdeal.main_arg2) = m ((c.tc : Thread Cert.MoeSampleIdeal.nD Cert.MoeSampleIdeal.τ).loc Cert.MoeSampleIdeal.main_arg2)
          ∧ r.2.mem ((c.tc : Thread Cert.MoeSampleIdeal.nD Cert.MoeSampleIdeal.τ).loc Cert.MoeSampleIdeal.main_arg3) = m ((c.tc : Thread Cert.MoeSampleIdeal.nD Cert.MoeSampleIdeal.τ).loc Cert.MoeSampleIdeal.main_arg3)
          ∧ r.2.mem ((c.tc : Thread Cert.MoeSampleIdeal.nD Cert.MoeSampleIdeal.τ).loc Cert.MoeSampleIdeal.main_arg4) = m ((c.tc : Thread Cert.MoeSampleIdeal.nD Cert.MoeSampleIdeal.τ).loc Cert.MoeSampleIdeal.main_arg4)
          ∧ r.2.mem ((c.tc : Thread Cert.MoeSampleIdeal.nD Cert.MoeSampleIdeal.τ).loc Cert.MoeSampleIdeal.main_arg5) = m ((c.tc : Thread Cert.MoeSampleIdeal.nD Cert.MoeSampleIdeal.τ).loc Cert.MoeSampleIdeal.main_arg5)
          ∧ r.2.mem ((c.tc : Thread Cert.MoeSampleIdeal.nD Cert.MoeSampleIdeal.τ).loc Cert.MoeSampleIdeal.main_arg6) = m ((c.tc : Thread Cert.MoeSampleIdeal.nD Cert.MoeSampleIdeal.τ).loc Cert.MoeSampleIdeal.main_arg6)
          ∧ r.2.mem ((c.tc : Thread Cert.MoeSampleIdeal.nD Cert.MoeSampleIdeal.τ).loc Cert.MoeSampleIdeal.main_arg7) = m ((c.tc : Thread Cert.MoeSampleIdeal.nD Cert.MoeSampleIdeal.τ).loc Cert.MoeSampleIdeal.main_arg7))
      ∧ θ_run (Cert.MoeSampleRefIdeal.defs (F := Ideal)) (onTc (τ := Cert.MoeSampleRefIdeal.τ) (Cert.MoeSampleRefIdeal.main (F := Ideal))) ⟨m', fun _ => 0, g'⟩ (fun r => ∀ c : Dev Cert.MoeSampleRefIdeal.nD,
          r.2.mem ((c.tc : Thread Cert.MoeSampleRefIdeal.nD Cert.MoeSampleRefIdeal.τ).loc Cert.MoeSampleRefIdeal.main_v56) = v0 c
          ∧ r.2.mem ((c.tc : Thread Cert.MoeSampleRefIdeal.nD Cert.MoeSampleRefIdeal.τ).loc Cert.MoeSampleRefIdeal.main_arg0) = m' ((c.tc : Thread Cert.MoeSampleRefIdeal.nD Cert.MoeSampleRefIdeal.τ).loc Cert.MoeSampleRefIdeal.main_arg0)
          ∧ r.2.mem ((c.tc : Thread Cert.MoeSampleRefIdeal.nD Cert.MoeSampleRefIdeal.τ).loc Cert.MoeSampleRefIdeal.main_arg1) = m' ((c.tc : Thread Cert.MoeSampleRefIdeal.nD Cert.MoeSampleRefIdeal.τ).loc Cert.MoeSampleRefIdeal.main_arg1)
          ∧ r.2.mem ((c.tc : Thread Cert.MoeSampleRefIdeal.nD Cert.MoeSampleRefIdeal.τ).loc Cert.MoeSampleRefIdeal.main_arg2) = m' ((c.tc : Thread Cert.MoeSampleRefIdeal.nD Cert.MoeSampleRefIdeal.τ).loc Cert.MoeSampleRefIdeal.main_arg2)
          ∧ r.2.mem ((c.tc : Thread Cert.MoeSampleRefIdeal.nD Cert.MoeSampleRefIdeal.τ).loc Cert.MoeSampleRefIdeal.main_arg3) = m' ((c.tc : Thread Cert.MoeSampleRefIdeal.nD Cert.MoeSampleRefIdeal.τ).loc Cert.MoeSampleRefIdeal.main_arg3)
          ∧ r.2.mem ((c.tc : Thread Cert.MoeSampleRefIdeal.nD Cert.MoeSampleRefIdeal.τ).loc Cert.MoeSampleRefIdeal.main_arg4) = m' ((c.tc : Thread Cert.MoeSampleRefIdeal.nD Cert.MoeSampleRefIdeal.τ).loc Cert.MoeSampleRefIdeal.main_arg4)
          ∧ r.2.mem ((c.tc : Thread Cert.MoeSampleRefIdeal.nD Cert.MoeSampleRefIdeal.τ).loc Cert.MoeSampleRefIdeal.main_arg5) = m' ((c.tc : Thread Cert.MoeSampleRefIdeal.nD Cert.MoeSampleRefIdeal.τ).loc Cert.MoeSampleRefIdeal.main_arg5)
          ∧ r.2.mem ((c.tc : Thread Cert.MoeSampleRefIdeal.nD Cert.MoeSampleRefIdeal.τ).loc Cert.MoeSampleRefIdeal.main_arg6) = m' ((c.tc : Thread Cert.MoeSampleRefIdeal.nD Cert.MoeSampleRefIdeal.τ).loc Cert.MoeSampleRefIdeal.main_arg6)
          ∧ r.2.mem ((c.tc : Thread Cert.MoeSampleRefIdeal.nD Cert.MoeSampleRefIdeal.τ).loc Cert.MoeSampleRefIdeal.main_arg7) = m' ((c.tc : Thread Cert.MoeSampleRefIdeal.nD Cert.MoeSampleRefIdeal.τ).loc Cert.MoeSampleRefIdeal.main_arg7))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)
      ∧ m' ((c.tc : Thread Cert.OutprojRefIdeal.nD Cert.OutprojRefIdeal.τ).loc Cert.OutprojRefIdeal.main_arg10) = m ((c.tc : Thread Cert.OutprojIdeal.nD Cert.OutprojIdeal.τ).loc Cert.OutprojIdeal.main_arg10)) →
    ∃ (v0 : (c : Dev Cert.OutprojIdeal.nD) → Buf (Elt Ideal) ((c.tc : Thread Cert.OutprojIdeal.nD Cert.OutprojIdeal.τ).loc Cert.OutprojIdeal.main_v7_0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v7_0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v67) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9)
          ∧ r.2.mem ((c.tc : Thread Cert.OutprojRefIdeal.nD Cert.OutprojRefIdeal.τ).loc Cert.OutprojRefIdeal.main_arg10) = m' ((c.tc : Thread Cert.OutprojRefIdeal.nD Cert.OutprojRefIdeal.τ).loc Cert.OutprojRefIdeal.main_arg10))

def Claim : Prop :=
  ∃ (hKernel : Cert.Kernel.Facts) (hKernelIdeal : Cert.KernelIdeal.Facts) (hReferenceIdeal : Cert.ReferenceIdeal.Facts) (hAttn : Cert.Attn.Facts) (hAttnIdeal : Cert.AttnIdeal.Facts) (hAttnRefIdeal : Cert.AttnRefIdeal.Facts) (hInproj : Cert.Inproj.Facts) (hInprojIdeal : Cert.InprojIdeal.Facts) (hInprojRefIdeal : Cert.InprojRefIdeal.Facts) (hSampleAttn : Cert.SampleAttn.Facts) (hSampleAttnIdeal : Cert.SampleAttnIdeal.Facts) (hSampleAttnRefIdeal : Cert.SampleAttnRefIdeal.Facts) (hLru : Cert.Lru.Facts) (hLruIdeal : Cert.LruIdeal.Facts) (hLruRefIdeal : Cert.LruRefIdeal.Facts) (hMoeSample : Cert.MoeSample.Facts) (hMoeSampleIdeal : Cert.MoeSampleIdeal.Facts) (hMoeSampleRefIdeal : Cert.MoeSampleRefIdeal.Facts) (hOutproj : Cert.Outproj.Facts) (hOutprojIdeal : Cert.OutprojIdeal.Facts) (hOutprojRefIdeal : Cert.OutprojRefIdeal.Facts) (hPre_finite_scores : Cert.Pre_finite_scores.Facts),
    quiescent_Kernel (hKernel := hKernel)
    ∧ quiescent_KernelIdeal (hKernelIdeal := hKernelIdeal)
    ∧ quiescent_ReferenceIdeal (hReferenceIdeal := hReferenceIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Inproj (hInproj := hInproj)
    ∧ quiescent_InprojIdeal (hInprojIdeal := hInprojIdeal)
    ∧ quiescent_InprojRefIdeal (hInprojRefIdeal := hInprojRefIdeal)
    ∧ quiescent_SampleAttn (hSampleAttn := hSampleAttn)
    ∧ quiescent_SampleAttnIdeal (hSampleAttnIdeal := hSampleAttnIdeal)
    ∧ quiescent_SampleAttnRefIdeal (hSampleAttnRefIdeal := hSampleAttnRefIdeal)
    ∧ quiescent_Lru (hLru := hLru)
    ∧ quiescent_LruIdeal (hLruIdeal := hLruIdeal)
    ∧ quiescent_LruRefIdeal (hLruRefIdeal := hLruRefIdeal)
    ∧ quiescent_MoeSample (hMoeSample := hMoeSample)
    ∧ quiescent_MoeSampleIdeal (hMoeSampleIdeal := hMoeSampleIdeal)
    ∧ quiescent_MoeSampleRefIdeal (hMoeSampleRefIdeal := hMoeSampleRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ preserves_Kernel_KernelIdeal
    ∧ algebraic_KernelIdeal_ReferenceIdeal (hKernelIdeal := hKernelIdeal) (hReferenceIdeal := hReferenceIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Inproj_InprojIdeal
    ∧ algebraic_InprojIdeal_InprojRefIdeal (hInprojIdeal := hInprojIdeal) (hInprojRefIdeal := hInprojRefIdeal)
    ∧ preserves_SampleAttn_SampleAttnIdeal
    ∧ algebraic_SampleAttnIdeal_SampleAttnRefIdeal (hSampleAttnIdeal := hSampleAttnIdeal) (hSampleAttnRefIdeal := hSampleAttnRefIdeal)
    ∧ preserves_Lru_LruIdeal
    ∧ algebraic_LruIdeal_LruRefIdeal (hLruIdeal := hLruIdeal) (hLruRefIdeal := hLruRefIdeal)
    ∧ preserves_MoeSample_MoeSampleIdeal
    ∧ algebraic_MoeSampleIdeal_MoeSampleRefIdeal (hMoeSampleIdeal := hMoeSampleIdeal) (hMoeSampleRefIdeal := hMoeSampleRefIdeal)
    ∧ preserves_Outproj_OutprojIdeal
    ∧ algebraic_OutprojIdeal_OutprojRefIdeal (hOutprojIdeal := hOutprojIdeal) (hOutprojRefIdeal := hOutprojRefIdeal)
-- ==== Pre_finite_scores.lean ====
abbrev S4x4096x1792 : Shape := ⟨3, ![4, 4096, 1792]⟩
abbrev S1x8 : Shape := ⟨2, ![1, 8]⟩
abbrev S4x4096x640 : Shape := ⟨3, ![4, 4096, 640]⟩
abbrev S_ : Shape := ⟨0, ![]⟩

class Facts : Prop where
  slices_S4x4096x1792_S4x4096x640_0_0_1024 : S4x4096x1792.Slices ![0, 0, 1024] S4x4096x640
  bcast_S_S4x4096x640 : S_.BroadcastsInDim S4x4096x640 (![] : Fin 0 → Fin S4x4096x640.rank)
  bcast_S_S1x8 : S_.BroadcastsInDim S1x8 (![] : Fin 0 → Fin S1x8.rank)

variable [Facts]

def fn {F : FTy → Type} [FloatOps F] (main_arg0 : FVec F S4x4096x1792 .f32) (main_arg1 : FVec F S1x8 .f32) : IVec S4x4096x640 1 × IVec S1x8 1 :=
  let main_v0 : FVec F S4x4096x640 .f32 := (extractStridedSlice S4x4096x640 ![0, 0, 1024] · slices_S4x4096x1792_S4x4096x640_0_0_1024) main_arg0
  let main_v1 : FVec F S4x4096x640 .f32 := Host.absf main_v0
  let main_cst : FVec F S_ .f32 := constant S_ .f32 0x7F800000#32
  let main_v2 : FVec F S4x4096x640 .f32 := broadcastInDim S4x4096x640 ![] bcast_S_S4x4096x640 main_cst
  let main_v3 : IVec S4x4096x640 1 := cmpf .olt main_v1 main_v2
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  (main_v3, main_v6)
-- ==== Kernel.lean ====
abbrev S16384x1024 : Shape := ⟨2, ![16384, 1024]⟩
abbrev S16384x128 : Shape := ⟨2, ![16384, 128]⟩
abbrev S4x6x1024 : Shape := ⟨3, ![4, 6, 1024]⟩
abbrev S1x32x1024x256 : Shape := ⟨4, ![1, 32, 1024, 256]⟩
abbrev S1x32x256x1024 : Shape := ⟨4, ![1, 32, 256, 1024]⟩
abbrev S1x1024 : Shape := ⟨2, ![1, 1024]⟩
abbrev S1024 : Shape := ⟨1, ![1024]⟩
abbrev S4x1x1024 : Shape := ⟨3, ![4, 1, 1024]⟩
abbrev S4x1024 : Shape := ⟨2, ![4, 1024]⟩
abbrev S32x1024x256 : Shape := ⟨3, ![32, 1024, 256]⟩
abbrev S32x256x1024 : Shape := ⟨3, ![32, 256, 1024]⟩
abbrev S1024x1024 : Shape := ⟨2, ![1024, 1024]⟩
abbrev S1024x128 : Shape := ⟨2, ![1024, 128]⟩
abbrev S1x1x1024 : Shape := ⟨3, ![1, 1, 1024]⟩
abbrev S1x1024x256 : Shape := ⟨3, ![1, 1024, 256]⟩
abbrev S1x256x1024 : Shape := ⟨3, ![1, 256, 1024]⟩
abbrev S1024x256 : Shape := ⟨2, ![1024, 256]⟩
abbrev S1024x1 : Shape := ⟨2, ![1024, 1]⟩
abbrev S256x1024 : Shape := ⟨2, ![256, 1024]⟩

abbrev nBuf : Space → Nat
  | .hbm => 25
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S4x6x1024, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S4x1x1024, .f32⟩
  | .hbm, ⟨13, _⟩ => ⟨S4x1024, .f32⟩
  | .hbm, ⟨14, _⟩ => ⟨S4x1x1024, .f32⟩
  | .hbm, ⟨15, _⟩ => ⟨S4x1024, .f32⟩
  | .hbm, ⟨16, _⟩ => ⟨S4x1x1024, .f32⟩
  | .hbm, ⟨17, _⟩ => ⟨S4x1024, .f32⟩
  | .hbm, ⟨18, _⟩ => ⟨S32x1024x256, .f32⟩
  | .hbm, ⟨19, _⟩ => ⟨S32x1024x256, .f32⟩
  | .hbm, ⟨20, _⟩ => ⟨S32x256x1024, .f32⟩
  | .hbm, ⟨21, _⟩ => ⟨S4x1x1024, .f32⟩
  | .hbm, ⟨22, _⟩ => ⟨S4x1x1024, .f32⟩
  | .hbm, ⟨23, _⟩ => ⟨S4x1x1024, .f32⟩
  | .hbm, ⟨24, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x256, .f32⟩
  | .local _ .vmem, ⟨13, _⟩ => ⟨S1x1024x256, .f32⟩
  | .local _ .vmem, ⟨14, _⟩ => ⟨S1x256x1024, .f32⟩
  | .local _ .vmem, ⟨15, _⟩ => ⟨S1x256x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v41 : BitVec 1 := Scalar.cmpi .eq arg1 c31_i32
  let v42 : BitVec 32 := Scalar.extui v41
  let c0_i32_27 : BitVec 32 := 0#32
  let v43 : BitVec 1 := Scalar.cmpi .ne v42 c0_i32_27
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S16384x1024 : Shape := ⟨2, ![16384, 1024]⟩
abbrev S16384x128 : Shape := ⟨2, ![16384, 128]⟩
abbrev S4x6x1024 : Shape := ⟨3, ![4, 6, 1024]⟩
abbrev S1x32x1024x256 : Shape := ⟨4, ![1, 32, 1024, 256]⟩
abbrev S1x32x256x1024 : Shape := ⟨4, ![1, 32, 256, 1024]⟩
abbrev S1x1024 : Shape := ⟨2, ![1, 1024]⟩
abbrev S4x4096x1024 : Shape := ⟨3, ![4, 4096, 1024]⟩
abbrev S4x4096x128 : Shape := ⟨3, ![4, 4096, 128]⟩
abbrev S4x4096x32 : Shape := ⟨3, ![4, 4096, 32]⟩
abbrev S4x1x1024 : Shape := ⟨3, ![4, 1, 1024]⟩
abbrev S_ : Shape := ⟨0, ![]⟩
abbrev S32x1024x256 : Shape := ⟨3, ![32, 1024, 256]⟩
abbrev S4x4096x32x256 : Shape := ⟨4, ![4, 4096, 32, 256]⟩
abbrev S4x4096x32x1 : Shape := ⟨4, ![4, 4096, 32, 1]⟩
abbrev S32x256x1024 : Shape := ⟨3, ![32, 256, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S4x6x1024, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1x1024, .f32⟩
  | .hbm, ⟨7, _⟩ => ⟨S1x1024, .f32⟩
  | .hbm, ⟨8, _⟩ => ⟨S4x4096x1024, .f32⟩
  | .hbm, ⟨9, _⟩ => ⟨S4x4096x128, .f32⟩
  | .hbm, ⟨10, _⟩ => ⟨S4x4096x32, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S_, .f32⟩
  | .hbm, ⟨15, _⟩ => ⟨S4x1x1024, .f32⟩
  | .hbm, ⟨16, _⟩ => ⟨S4x1x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S32x1024x256, .f32⟩
  | .hbm, ⟨22, _⟩ => ⟨S4x4096x32x256, .f32⟩
  | .hbm, ⟨23, _⟩ => ⟨S32x1024x256, .f32⟩
  | .hbm, ⟨24, _⟩ => ⟨S4x4096x32x256, .f32⟩
  | .hbm, ⟨25, _⟩ => ⟨S4x4096x32x256, .f32⟩
  | .hbm, ⟨26, _⟩ => ⟨S4x4096x32x256, .f32⟩
  | .hbm, ⟨27, _⟩ => ⟨S_, .f32⟩
  | .hbm, ⟨28, _⟩ => ⟨S4x4096x32x256, .f32⟩
  | .hbm, ⟨29, _⟩ => ⟨S4x4096x32x256, .f32⟩
  | .hbm, ⟨30, _⟩ => ⟨S_, .f32⟩
  | .hbm, ⟨31, _⟩ => ⟨S4x4096x32x256, .f32⟩
  | .hbm, ⟨32, _⟩ => ⟨S4x4096x32x256, .f32⟩
  | .hbm, ⟨33, _⟩ => ⟨S4x4096x32x256, .f32⟩
  | .hbm, ⟨34, _⟩ => ⟨S4x4096x32x256, .f32⟩
  | .hbm, ⟨35, _⟩ => ⟨S4x4096x32x1, .f32⟩
  | .hbm, ⟨36, _⟩ => ⟨S4x4096x32x256, .f32⟩
  | .hbm, ⟨37, _⟩ => ⟨S4x4096x32x256, .f32⟩
  | .hbm, ⟨38, _⟩ => ⟨S32x256x1024, .f32⟩
  | .hbm, ⟨39, _⟩ => ⟨S4x4096x1024, .f32⟩
  | .hbm, ⟨40, _⟩ => ⟨S_, .f32⟩
  | .hbm, ⟨41, _⟩ => ⟨S4x4096x1024, .f32⟩
  | .hbm, ⟨42, _⟩ => ⟨S4x4096x1024, .f32⟩
  | .hbm, ⟨43, _⟩ => ⟨S_, .f32⟩
  | .hbm, ⟨44, _⟩ => ⟨S4x1x1024, .f32⟩
  | .hbm, ⟨45, _⟩ => ⟨S4x1x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S4x4096, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S_, .f32⟩
  | .hbm, ⟨61, _⟩ => ⟨S4x4096, .f32⟩
  | .hbm, ⟨62, _⟩ => ⟨S4x4096x1, .f32⟩
  | .hbm, ⟨63, _⟩ => ⟨S_, .f32⟩
  | .hbm, ⟨64, _⟩ => ⟨S4x4096x1, .f32⟩
  | .hbm, ⟨65, _⟩ => ⟨S4x4096x1, .f32⟩
  | .hbm, ⟨66, _⟩ => ⟨S4x4096x1024, .f32⟩
  | .hbm, ⟨67, _⟩ => ⟨S4x4096x1024, .f32⟩
  | .hbm, ⟨68, _⟩ => ⟨S_, .f32⟩
  | .hbm, ⟨69, _⟩ => ⟨S4x4096x1, .f32⟩
  | .hbm, ⟨70, _⟩ => ⟨S4x4096x1, .f32⟩
  | .hbm, ⟨71, _⟩ => ⟨S4x4096x1, .f32⟩
  | .hbm, ⟨72, _⟩ => ⟨S4x4096x1024, .f32⟩
  | .hbm, ⟨73, _⟩ => ⟨S4x4096x1024, .f32⟩
  | .hbm, ⟨74, _⟩ => ⟨S1x1x1024, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | .hbm, ⟨80, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Attn.lean ====
abbrev S4x4096x1792 : Shape := ⟨3, ![4, 4096, 1792]⟩
abbrev S1x8 : Shape := ⟨2, ![1, 8]⟩
abbrev S8 : Shape := ⟨1, ![8]⟩
abbrev S8x128 : Shape := ⟨2, ![8, 128]⟩
abbrev S1024 : Shape := ⟨1, ![1024]⟩
abbrev S1024x1 : Shape := ⟨2, ![1024, 1]⟩
abbrev S4x4096x512 : Shape := ⟨3, ![4, 4096, 512]⟩
abbrev S1x128x512 : Shape := ⟨3, ![1, 128, 512]⟩
abbrev S1x128x128 : Shape := ⟨3, ![1, 128, 128]⟩
abbrev S128x128 : Shape := ⟨2, ![128, 128]⟩
abbrev S128x512 : Shape := ⟨2, ![128, 512]⟩
abbrev S1024x128 : Shape := ⟨2, ![1024, 128]⟩
abbrev S256x128 : Shape := ⟨2, ![256, 128]⟩
abbrev S1024x256 : Shape := ⟨2, ![1024, 256]⟩
abbrev S8x128x256 : Shape := ⟨3, ![8, 128, 256]⟩
abbrev S128x256 : Shape := ⟨2, ![128, 256]⟩
abbrev S1x128x256 : Shape := ⟨3, ![1, 128, 256]⟩
abbrev S8x128x1 : Shape := ⟨3, ![8, 128, 1]⟩

abbrev nBuf : Space → Nat
  | .hbm => 7
  | .vmem => 11
  | .smem => 0
  | _ => 0

abbrev bufTy : (tb : Table) → Fin (tcTables nBuf tb) → BufTy
  | .hbm, ⟨0, _⟩ => ⟨S4x4096x1792, .f32⟩
  | .hbm, ⟨1, _⟩ => ⟨S1x8, .f32⟩
  | .hbm, ⟨2, _⟩ => ⟨S8, .f32⟩
  | .hbm, ⟨3, _⟩ => ⟨S8x128, .f32⟩
  | .hbm, ⟨4, _⟩ => ⟨S1024, .f32⟩
  | .hbm, ⟨5, _⟩ => ⟨S1024x1, .f32⟩
  | .hbm, ⟨6, _⟩ => ⟨S4x4096x512, .f32⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1024x1, .f32⟩
  | .local _ .vmem, ⟨7, _⟩ => ⟨S1x128x512, .f32⟩
  | .local _ .vmem, ⟨8, _⟩ => ⟨S1x128x512, .f32⟩
  | .local _ .vmem, ⟨9, _⟩ => ⟨S128x128, .f32⟩
  | .local _ .vmem, ⟨10, _⟩ => ⟨S128x128, .f32⟩
  | _, _ => ⟨S4x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  ![arg0.toNat, arg1.toNat, c12_i32.toNat]

def cc0_transform_2 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S4x4096x1792 : Shape := ⟨3, ![4, 4096, 1792]⟩
abbrev S1x8 : Shape := ⟨2, ![1, 8]⟩
abbrev S4x4096x512 : Shape := ⟨3, ![4, 4096, 512]⟩
abbrev S4x32x128x4x2x64 : Shape := ⟨6, ![4, 32, 128, 4, 2, 64]⟩
abbrev S4x32x128x2x4x64 : Shape := ⟨6, ![4, 32, 128, 2, 4, 64]⟩
abbrev S4x4096x128 : Shape := ⟨3, ![4, 4096, 128]⟩
abbrev S4x4096x2x64 : Shape := ⟨4, ![4, 4096, 2, 64]⟩
abbrev S4x32x128x2x64 : Shape := ⟨5, ![4, 32, 128, 2, 64]⟩
abbrev S_ : Shape := ⟨0, ![]⟩
abbrev S4x33x128x2x64 : Shape := ⟨5, ![4, 33, 128, 2, 64]⟩
abbrev S4x32x256x2x64 : Shape := ⟨5, ![4, 32, 256, 2, 64]⟩
abbrev S4x32x2x256x128x4 : Shape := ⟨6, ![4, 32, 2, 256, 128, 4]⟩
abbrev S4x32x2x4x128x256 : Shape := ⟨6, ![4, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S8 : Shape := ⟨1, ![8]⟩
abbrev S2x4 : Shape := ⟨2, ![2, 4]⟩
abbrev S2x4x1x1 : Shape := ⟨4, ![2, 4, 1, 1]⟩
abbrev S4x32x2x4x128x1 : Shape := ⟨6, ![4, 32, 2, 4, 128, 1]⟩
abbrev S4x32x2x4x128x257 : Shape := ⟨6, ![4, 32, 2, 4, 128, 257]⟩
abbrev S4x32x2x4x128 : Shape := ⟨5, ![4, 32, 2, 4, 128]⟩
abbrev S4x32x2x64x4x128 : Shape := ⟨6, ![4, 32, 2, 64, 4, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1792, .f32⟩
  | .hbm, ⟨1, _⟩ => ⟨S1x8, .f32⟩
  | .hbm, ⟨2, _⟩ => ⟨S4x4096x512, .f32⟩
  | .hbm, ⟨3, _⟩ => ⟨S4x32x128x4x2x64, .f32⟩
  | .hbm, ⟨4, _⟩ => ⟨S4x32x128x2x4x64, .f32⟩
  | .hbm, ⟨5, _⟩ => ⟨S4x4096x128, .f32⟩
  | .hbm, ⟨6, _⟩ => ⟨S4x4096x2x64, .f32⟩
  | .hbm, ⟨7, _⟩ => ⟨S4x4096x128, .f32⟩
  | .hbm, ⟨8, _⟩ => ⟨S4x4096x2x64, .f32⟩
  | .hbm, ⟨9, _⟩ => ⟨S4x32x128x2x64, .f32⟩
  | .hbm, ⟨10, _⟩ => ⟨S_, .i32⟩
  | .hbm, ⟨11, _⟩ => ⟨S_, .f32⟩
  | .hbm, ⟨12, _⟩ => ⟨S4x33x128x2x64, .f32⟩
  | .hbm, ⟨13, _⟩ => ⟨S4x32x128x2x64, .f32⟩
  | .hbm, ⟨14, _⟩ => ⟨S4x32x256x2x64, .f32⟩
  | .hbm, ⟨15, _⟩ => ⟨S4x32x128x2x64, .f32⟩
  | .hbm, ⟨16, _⟩ => ⟨S_, .i32⟩
  | .hbm, ⟨17, _⟩ => ⟨S_, .f32⟩
  | .hbm, ⟨18, _⟩ => ⟨S4x33x128x2x64, .f32⟩
  | .hbm, ⟨19, _⟩ => ⟨S4x32x128x2x64, .f32⟩
  | .hbm, ⟨20, _⟩ => ⟨S4x32x256x2x64, .f32⟩
  | .hbm, ⟨21, _⟩ => ⟨S4x32x2x256x128x4, .f32⟩
  | .hbm, ⟨22, _⟩ => ⟨S4x32x2x4x128x256, .f32⟩
  | .hbm, ⟨23, _⟩ => ⟨S_, .f32⟩
  | .hbm, ⟨24, _⟩ => ⟨S4x32x2x4x128x256, .f32⟩
  | .hbm, ⟨25, _⟩ => ⟨S4x32x2x4x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S32, .i32⟩
  | .hbm, ⟨44, _⟩ => ⟨S32x1x1, .i32⟩
  | .hbm, ⟨45, _⟩ => ⟨S_, .i32⟩
  | .hbm, ⟨46, _⟩ => ⟨S32x1x1, .i32⟩
  | .hbm, ⟨47, _⟩ => ⟨S32x1x1, .i1⟩
  | .hbm, ⟨48, _⟩ => ⟨S1x1x256, .i32⟩
  | .hbm, ⟨49, _⟩ => ⟨S_, .i32⟩
  | .hbm, ⟨50, _⟩ => ⟨S1x1x256, .i32⟩
  | .hbm, ⟨51, _⟩ => ⟨S1x1x256, .i1⟩
  | .hbm, ⟨52, _⟩ => ⟨S32x1x256, .i1⟩
  | .hbm, ⟨53, _⟩ => ⟨S32x1x256, .i1⟩
  | .hbm, ⟨54, _⟩ => ⟨S32x1x256, .i1⟩
  | .hbm, ⟨55, _⟩ => ⟨S1x128x256, .i1⟩
  | .hbm, ⟨56, _⟩ => ⟨S32x1x256, .i1⟩
  | .hbm, ⟨57, _⟩ => ⟨S32x128x256, .i1⟩
  | .hbm, ⟨58, _⟩ => ⟨S32x128x256, .i1⟩
  | .hbm, ⟨59, _⟩ => ⟨S32x128x256, .i1⟩
  | .hbm, ⟨60, _⟩ => ⟨S1x32x1x1x128x256, .i1⟩
  | .hbm, ⟨61, _⟩ => ⟨S_, .f32⟩
  | .hbm, ⟨62, _⟩ => ⟨S_, .f32⟩
  | .hbm, ⟨63, _⟩ => ⟨S4x32x2x4x128x256, .i1⟩
  | .hbm, ⟨64, _⟩ => ⟨S4x32x2x4x128x256, .f32⟩
  | .hbm, ⟨65, _⟩ => ⟨S4x32x2x4x128x256, .f32⟩
  | .hbm, ⟨66, _⟩ => ⟨S8, .f32⟩
  | .hbm, ⟨67, _⟩ => ⟨S2x4, .f32⟩
  | .hbm, ⟨68, _⟩ => ⟨S2x4x1x1, .f32⟩
  | .hbm, ⟨69, _⟩ => ⟨S4x32x2x4x128x1, .f32⟩
  | .hbm, ⟨70, _⟩ => ⟨S4x32x2x4x128x257, .f32⟩
  | .hbm, ⟨71, _⟩ => ⟨S_, .f32⟩
  | .hbm, ⟨72, _⟩ => ⟨S4x32x2x4x128, .f32⟩
  | .hbm, ⟨73, _⟩ => ⟨S_, .f32⟩
  | .hbm, ⟨74, _⟩ => ⟨S4x32x2x4x128, .f32⟩
  | .hbm, ⟨75, _⟩ => ⟨S4x32x2x4x128, .f32⟩
  | .hbm, ⟨76, _⟩ => ⟨S4x32x2x4x128x1, .f32⟩
  | .hbm, ⟨77, _⟩ => ⟨S4x32x2x4x128x257, .f32⟩
  | .hbm, ⟨78, _⟩ => ⟨S4x32x2x4x128x257, .f32⟩
  | .hbm, ⟨79, _⟩ => ⟨S4x32x2x4x128x257, .f32⟩
  | .hbm, ⟨80, _⟩ => ⟨S_, .f32⟩
  | .hbm, ⟨81, _⟩ => ⟨S4x32x2x4x128, .f32⟩
  | .hbm, ⟨82, _⟩ => ⟨S4x32x2x4x128x1, .f32⟩
  | .hbm, ⟨83, _⟩ => ⟨S4x32x2x4x128x257, .f32⟩
  | .hbm, ⟨84, _⟩ => ⟨S4x32x2x4x128x257, .f32⟩
  | .hbm, ⟨85, _⟩ => ⟨S4x32x2x4x128x256, .f32⟩
  | .hbm, ⟨86, _⟩ => ⟨S4x32x2x64x4x128, .f32⟩
  | .hbm, ⟨87, _⟩ => ⟨S4x32x128x4x2x64, .f32⟩
  | .hbm, ⟨88, _⟩ => ⟨S4x4096x512, .f32⟩
  | _, _ => ⟨S4x4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩

abbrev nD : Nat := 1
abbrev τ : Topo := Topo.v7x

variable {F : FTy → Type} [FloatOps F]
-- ==== Inproj.lean ====
abbrev S4x4096x1024 : Shape := ⟨3, ![4, 4096, 1024]⟩
abbrev S4x6x1024 : Shape := ⟨3, ![4, 6, 1024]⟩
abbrev S1x1024x1792 : Shape := ⟨3, ![1, 1024, 1792]⟩
abbrev S512 : Shape := ⟨1, ![512]⟩
abbrev S1024x1792 : Shape := ⟨2, ![1024, 1792]⟩
abbrev S1024x1024 : Shape := ⟨2, ![1024, 1024]⟩
abbrev S1024x512 : Shape := ⟨2, ![1024, 512]⟩
abbrev S_ : Shape := ⟨0, ![]⟩
abbrev S512x1 : Shape := ⟨2, ![512, 1]⟩
abbrev S1024x256 : Shape := ⟨2, ![1024, 256]⟩
abbrev S4x4096x1792 : Shape := ⟨3, ![4, 4096, 1792]⟩
abbrev S1x512x1024 : Shape := ⟨3, ![1, 512, 1024]⟩
abbrev S1x6x1024 : Shape := ⟨3, ![1, 6, 1024]⟩
abbrev S1x512x1792 : Shape := ⟨3, ![1, 512, 1792]⟩
abbrev S1x1x1024 : Shape := ⟨3, ![1, 1, 1024]⟩
abbrev S1x1024 : Shape := ⟨2, ![1, 1024]⟩
abbrev S512x1024 : Shape := ⟨2, ![512, 1024]⟩
abbrev S512x1792 : Shape := ⟨2, ![512, 1792]⟩

abbrev nBuf : Space → Nat
  | .hbm => 20
  | .vmem => 7
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1x1024x1792, .f32⟩
  | .hbm, ⟨3, _⟩ => ⟨S512, .i32⟩
  | .hbm, ⟨4, _⟩ => ⟨S1024x1792, .f32⟩
  | .hbm, ⟨5, _⟩ => ⟨S1024x1024, .f32⟩
  | .hbm, ⟨6, _⟩ => ⟨S1024x512, .f32⟩
  | .hbm, ⟨7, _⟩ => ⟨S_, .i32⟩
  | .hbm, ⟨8, _⟩ => ⟨S512, .i32⟩
  | .hbm, ⟨9, _⟩ => ⟨S512, .i1⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S512x1, .i32⟩
  | .hbm, ⟨15, _⟩ => ⟨S1024x512, .f32⟩
  | .hbm, ⟨16, _⟩ => ⟨S1024x256, .f32⟩
  | .hbm, ⟨17, _⟩ => ⟨S1024x1792, .f32⟩
  | .hbm, ⟨18, _⟩ => ⟨S1024x1792, .bf16⟩
  | .hbm, ⟨19, _⟩ => ⟨S4x4096x1792, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x1792, .bf16⟩
  | .local _ .vmem, ⟨5, _⟩ => ⟨S1x512x1792, .f32⟩
  | .local _ .vmem, ⟨6, _⟩ => ⟨S1x512x1792, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_c_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S4x4096x1024 : Shape := ⟨3, ![4, 4096, 1024]⟩
abbrev S4x6x1024 : Shape := ⟨3, ![4, 6, 1024]⟩
abbrev S1x1024x1792 : Shape := ⟨3, ![1, 1024, 1792]⟩
abbrev S4x1x1024 : Shape := ⟨3, ![4, 1, 1024]⟩
abbrev S_ : Shape := ⟨0, ![]⟩
abbrev S1024x1792 : Shape := ⟨2, ![1024, 1792]⟩
abbrev S4x4096x1792 : Shape := ⟨3, ![4, 4096, 1792]⟩
abbrev S4x4096x512 : Shape := ⟨3, ![4, 4096, 512]⟩
abbrev S4x4096x128 : Shape := ⟨3, ![4, 4096, 128]⟩
abbrev S4x4096x2x4x64 : Shape := ⟨5, ![4, 4096, 2, 4, 64]⟩
abbrev S4x4096x4x2x64 : Shape := ⟨5, ![4, 4096, 4, 2, 64]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S1x1024x1792, .f32⟩
  | .hbm, ⟨3, _⟩ => ⟨S4x1x1024, .f32⟩
  | .hbm, ⟨4, _⟩ => ⟨S4x1x1024, .f32⟩
  | .hbm, ⟨5, _⟩ => ⟨S_, .f32⟩
  | .hbm, ⟨6, _⟩ => ⟨S4x1x1024, .f32⟩
  | .hbm, ⟨7, _⟩ => ⟨S4x1x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S1024x1792, .f32⟩
  | .hbm, ⟨13, _⟩ => ⟨S4x4096x1792, .f32⟩
  | .hbm, ⟨14, _⟩ => ⟨S4x4096x512, .f32⟩
  | .hbm, ⟨15, _⟩ => ⟨S4x4096x512, .f32⟩
  | .hbm, ⟨16, _⟩ => ⟨S4x4096x512, .f32⟩
  | .hbm, ⟨17, _⟩ => ⟨S4x4096x128, .f32⟩
  | .hbm, ⟨18, _⟩ => ⟨S4x4096x128, .f32⟩
  | .hbm, ⟨19, _⟩ => ⟨S4x4096x2x4x64, .f32⟩
  | .hbm, ⟨20, _⟩ => ⟨S4x4096x4x2x64, .f32⟩
  | .hbm, ⟨21, _⟩ => ⟨S4x4096x512, .f32⟩
  | .hbm, ⟨22, _⟩ => ⟨S4x4096x1792, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== SampleAttn.lean ====
abbrev S128x8x128 : Shape := ⟨3, ![128, 8, 128]⟩
abbrev S128x128 : Shape := ⟨2, ![128, 128]⟩
abbrev S1x128x128x2x64 : Shape := ⟨5, ![1, 128, 128, 2, 64]⟩
abbrev S1x8 : Shape := ⟨2, ![1, 8]⟩
abbrev S128x128x2x64 : Shape := ⟨4, ![128, 128, 2, 64]⟩
abbrev S128x128x128 : Shape := ⟨3, ![128, 128, 128]⟩
abbrev S8 : Shape := ⟨1, ![8]⟩
abbrev S8x1 : Shape := ⟨2, ![8, 1]⟩
abbrev S8x8x128 : Shape := ⟨3, ![8, 8, 128]⟩
abbrev S8x128 : Shape := ⟨2, ![8, 128]⟩
abbrev S8x128x128 : Shape := ⟨3, ![8, 128, 128]⟩
abbrev S1x8x128 : Shape := ⟨3, ![1, 8, 128]⟩
abbrev S1x128x128 : Shape := ⟨3, ![1, 128, 128]⟩
abbrev S1x128 : Shape := ⟨2, ![1, 128]⟩

abbrev nBuf : Space → Nat
  | .hbm => 15
  | .vmem => 17
  | .smem => 0
  | _ => 0

abbrev bufTy : (tb : Table) → Fin (tcTables nBuf tb) → BufTy
  | .hbm, ⟨0, _⟩ => ⟨S128x8x128, .f32⟩
  | .hbm, ⟨1, _⟩ => ⟨S128x128, .f32⟩
  | .hbm, ⟨2, _⟩ => ⟨S128x128, .f32⟩
  | .hbm, ⟨3, _⟩ => ⟨S1x128x128x2x64, .f32⟩
  | .hbm, ⟨4, _⟩ => ⟨S1x128x128x2x64, .f32⟩
  | .hbm, ⟨5, _⟩ => ⟨S1x8, .f32⟩
  | .hbm, ⟨6, _⟩ => ⟨S128x128x2x64, .f32⟩
  | .hbm, ⟨7, _⟩ => ⟨S128x128x128, .f32⟩
  | .hbm, ⟨8, _⟩ => ⟨S128x128x2x64, .f32⟩
  | .hbm, ⟨9, _⟩ => ⟨S128x128x128, .f32⟩
  | .hbm, ⟨10, _⟩ => ⟨S8, .f32⟩
  | .hbm, ⟨11, _⟩ => ⟨S8x1, .f32⟩
  | .hbm, ⟨12, _⟩ => ⟨S128x8x128, .f32⟩
  | .hbm, ⟨13, _⟩ => ⟨S128x128x128, .f32⟩
  | .hbm, ⟨14, _⟩ => ⟨S128x128x128, .f32⟩
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128x128, .f32⟩
  | .local _ .vmem, ⟨7, _⟩ => ⟨S8x128x128, .f32⟩
  | .local _ .vmem, ⟨8, _⟩ => ⟨S8x128x128, .f32⟩
  | .local _ .vmem, ⟨9, _⟩ => ⟨S8x128x128, .f32⟩
  | .local _ .vmem, ⟨10, _⟩ => ⟨S8x1, .f32⟩
  | .local _ .vmem, ⟨11, _⟩ => ⟨S8x8x128, .f32⟩
  | .local _ .vmem, ⟨12, _⟩ => ⟨S8x8x128, .f32⟩
  | .local _ .vmem, ⟨13, _⟩ => ⟨S8x128x128, .f32⟩
  | .local _ .vmem, ⟨14, _⟩ => ⟨S8x128x128, .f32⟩
  | .local _ .vmem, ⟨15, _⟩ => ⟨S8x128x128, .f32⟩
  | .local _ .vmem, ⟨16, _⟩ => ⟨S8x128x128, .f32⟩
  | _, _ => ⟨S128x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SampleAttnRefIdeal.lean ====
abbrev S128x8x128 : Shape := ⟨3, ![128, 8, 128]⟩
abbrev S128x128 : Shape := ⟨2, ![128, 128]⟩
abbrev S1x128x128x2x64 : Shape := ⟨5, ![1, 128, 128, 2, 64]⟩
abbrev S1x8 : Shape := ⟨2, ![1, 8]⟩
abbrev S128x1x2x64 : Shape := ⟨4, ![128, 1, 2, 64]⟩
abbrev S128x128x2x64 : Shape := ⟨4, ![128, 128, 2, 64]⟩
abbrev S128x129x2x64 : Shape := ⟨4, ![128, 129, 2, 64]⟩
abbrev S128x128x128 : Shape := ⟨3, ![128, 128, 128]⟩

abbrev nBuf : Space → Nat
  | .hbm => 16
  | .vmem => 0
  | .smem => 0
  | _ => 0

abbrev bufTy : (tb : Table) → Fin (tcTables nBuf tb) → BufTy
  | .hbm, ⟨0, _⟩ => ⟨S128x8x128, .f32⟩
  | .hbm, ⟨1, _⟩ => ⟨S128x128, .f32⟩
  | .hbm, ⟨2, _⟩ => ⟨S128x128, .f32⟩
  | .hbm, ⟨3, _⟩ => ⟨S1x128x128x2x64, .f32⟩
  | .hbm, ⟨4, _⟩ => ⟨S1x128x128x2x64, .f32⟩
  | .hbm, ⟨5, _⟩ => ⟨S1x8, .f32⟩
  | .hbm, ⟨6, _⟩ => ⟨S128x1x2x64, .f32⟩
  | .hbm, ⟨7, _⟩ => ⟨S128x1x2x64, .f32⟩
  | .hbm, ⟨8, _⟩ => ⟨S128x128x2x64, .f32⟩
  | .hbm, ⟨9, _⟩ => ⟨S128x129x2x64, .f32⟩
  | .hbm, ⟨10, _⟩ => ⟨S128x128x2x64, .f32⟩
  | .hbm, ⟨11, _⟩ => ⟨S128x129x2x64, .f32⟩
  | .hbm, ⟨12, _⟩ => ⟨S128x128x2x64, .f32⟩
  | .hbm, ⟨13, _⟩ => ⟨S128x128x128, .f32⟩
  | .hbm, ⟨14, _⟩ => ⟨S128x128x2x64, .f32⟩
  | .hbm, ⟨15, _⟩ => ⟨S128x128x128, .f32⟩
  | _, _ => ⟨S128x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Lru.lean ====
abbrev S4x4096x1792 : Shape := ⟨3, ![4, 4096, 1792]⟩
abbrev S1x4x512 : Shape := ⟨3, ![1, 4, 512]⟩
abbrev S1x512 : Shape := ⟨2, ![1, 512]⟩
abbrev S1x8x64x64 : Shape := ⟨4, ![1, 8, 64, 64]⟩
abbrev S1x8x64 : Shape := ⟨3, ![1, 8, 64]⟩
abbrev S8x64x64 : Shape := ⟨3, ![8, 64, 64]⟩
abbrev S4x64x64 : Shape := ⟨3, ![4, 64, 64]⟩
abbrev S4x4 : Shape := ⟨2, ![4, 4]⟩
abbrev S_ : Shape := ⟨0, ![]⟩
abbrev S4x64x1x64 : Shape := ⟨4, ![4, 64, 1, 64]⟩
abbrev S4x1x4x1 : Shape := ⟨4, ![4, 1, 4, 1]⟩
abbrev S4x64x4x64 : Shape := ⟨4, ![4, 64, 4, 64]⟩
abbrev S256x256 : Shape := ⟨2, ![256, 256]⟩
abbrev S256x512 : Shape := ⟨2, ![256, 512]⟩
abbrev S8x64 : Shape := ⟨2, ![8, 64]⟩
abbrev S512 : Shape := ⟨1, ![512]⟩
abbrev S1024 : Shape := ⟨1, ![1024]⟩
abbrev S1x1024 : Shape := ⟨2, ![1, 1024]⟩
abbrev S4x512 : Shape := ⟨2, ![4, 512]⟩
abbrev S4x4096x512 : Shape := ⟨3, ![4, 4096, 512]⟩
abbrev S4x8x512 : Shape := ⟨3, ![4, 8, 512]⟩
abbrev S1x512x1024 : Shape := ⟨3, ![1, 512, 1024]⟩
abbrev S1x512x512 : Shape := ⟨3, ![1, 512, 512]⟩
abbrev S1x8x512 : Shape := ⟨3, ![1, 8, 512]⟩
abbrev S8x512 : Shape := ⟨2, ![8, 512]⟩
abbrev S512x512 : Shape := ⟨2, ![512, 512]⟩
abbrev S504x512 : Shape := ⟨2, ![504, 512]⟩
abbrev S512x256 : Shape := ⟨2, ![512, 256]⟩

abbrev nBuf : Space → Nat
  | .hbm => 84
  | .vmem => 16
  | .smem => 0
  | _ => 0

abbrev bufTy : (tb : Table) → Fin (tcTables nBuf tb) → BufTy
  | .hbm, ⟨0, _⟩ => ⟨S4x4096x1792, .f32⟩
  | .hbm, ⟨1, _⟩ => ⟨S1x4x512, .f32⟩
  | .hbm, ⟨2, _⟩ => ⟨S1x512, .f32⟩
  | .hbm, ⟨3, _⟩ => ⟨S1x8x64x64, .f32⟩
  | .hbm, ⟨4, _⟩ => ⟨S1x8x64, .f32⟩
  | .hbm, ⟨5, _⟩ => ⟨S1x8x64x64, .f32⟩
  | .hbm, ⟨6, _⟩ => ⟨S1x8x64, .f32⟩
  | .hbm, ⟨7, _⟩ => ⟨S1x512, .f32⟩
  | .hbm, ⟨8, _⟩ => ⟨S8x64x64, .f32⟩
  | .hbm, ⟨9, _⟩ => ⟨S8x64x64, .f32⟩
  | .hbm, ⟨10, _⟩ => ⟨S4x64x64, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x64x1x64, .f32⟩
  | .hbm, ⟨19, _⟩ => ⟨S4x1x4x1, .f32⟩
  | .hbm, ⟨20, _⟩ => ⟨S4x64x4x64, .f32⟩
  | .hbm, ⟨21, _⟩ => ⟨S4x64x4x64, .f32⟩
  | .hbm, ⟨22, _⟩ => ⟨S4x64x4x64, .f32⟩
  | .hbm, ⟨23, _⟩ => ⟨S256x256, .f32⟩
  | .hbm, ⟨24, _⟩ => ⟨S4x64x64, .f32⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S4x64x1x64, .f32⟩
  | .hbm, ⟨33, _⟩ => ⟨S4x1x4x1, .f32⟩
  | .hbm, ⟨34, _⟩ => ⟨S4x64x4x64, .f32⟩
  | .hbm, ⟨35, _⟩ => ⟨S4x64x4x64, .f32⟩
  | .hbm, ⟨36, _⟩ => ⟨S4x64x4x64, .f32⟩
  | .hbm, ⟨37, _⟩ => ⟨S256x256, .f32⟩
  | .hbm, ⟨38, _⟩ => ⟨S256x512, .f32⟩
  | .hbm, ⟨39, _⟩ => ⟨S4x64x64, .f32⟩
  | .hbm, ⟨40, _⟩ => ⟨S4x4, .i32⟩
  | .hbm, ⟨41, _⟩ => ⟨S4x4, .i32⟩
  | .hbm, ⟨42, _⟩ => ⟨S_, .i32⟩
  | .hbm, ⟨43, _⟩ => ⟨S4x4, .i32⟩
  | .hbm, ⟨44, _⟩ => ⟨S4x4, .i32⟩
  | .hbm, ⟨45, _⟩ => ⟨S4x4, .i1⟩
  | .hbm, ⟨46, _⟩ => ⟨S4x4, .f32⟩
  | .hbm, ⟨47, _⟩ => ⟨S4x64x1x64, .f32⟩
  | .hbm, ⟨48, _⟩ => ⟨S4x1x4x1, .f32⟩
  | .hbm, ⟨49, _⟩ => ⟨S4x64x4x64, .f32⟩
  | .hbm, ⟨50, _⟩ => ⟨S4x64x4x64, .f32⟩
  | .hbm, ⟨51, _⟩ => ⟨S4x64x4x64, .f32⟩
  | .hbm, ⟨52, _⟩ => ⟨S256x256, .f32⟩
  | .hbm, ⟨53, _⟩ => ⟨S4x64x64, .f32⟩
  | .hbm, ⟨54, _⟩ => ⟨S4x4, .i32⟩
  | .hbm, ⟨55, _⟩ => ⟨S4x4, .i32⟩
  | .hbm, ⟨56, _⟩ => ⟨S_, .i32⟩
  | .hbm, ⟨57, _⟩ => ⟨S4x4, .i32⟩
  | .hbm, ⟨58, _⟩ => ⟨S4x4, .i32⟩
  | .hbm, ⟨59, _⟩ => ⟨S4x4, .i1⟩
  | .hbm, ⟨60, _⟩ => ⟨S4x4, .f32⟩
  | .hbm, ⟨61, _⟩ => ⟨S4x64x1x64, .f32⟩
  | .hbm, ⟨62, _⟩ => ⟨S4x1x4x1, .f32⟩
  | .hbm, ⟨63, _⟩ => ⟨S4x64x4x64, .f32⟩
  | .hbm, ⟨64, _⟩ => ⟨S4x64x4x64, .f32⟩
  | .hbm, ⟨65, _⟩ => ⟨S4x64x4x64, .f32⟩
  | .hbm, ⟨66, _⟩ => ⟨S256x256, .f32⟩
  | .hbm, ⟨67, _⟩ => ⟨S256x512, .f32⟩
  | .hbm, ⟨68, _⟩ => ⟨S8x64, .f32⟩
  | .hbm, ⟨69, _⟩ => ⟨S512, .f32⟩
  | .hbm, ⟨70, _⟩ => ⟨S8x64, .f32⟩
  | .hbm, ⟨71, _⟩ => ⟨S512, .f32⟩
  | .hbm, ⟨72, _⟩ => ⟨S1024, .f32⟩
  | .hbm, ⟨73, _⟩ => ⟨S1x1024, .f32⟩
  | .hbm, ⟨74, _⟩ => ⟨S512, .f32⟩
  | .hbm, ⟨75, _⟩ => ⟨S1x512, .f32⟩
  | .hbm, ⟨76, _⟩ => ⟨S4x512, .f32⟩
  | .hbm, ⟨77, _⟩ => ⟨S512, .f32⟩
  | .hbm, ⟨78, _⟩ => ⟨S1x512, .f32⟩
  | .hbm, ⟨79, _⟩ => ⟨S256x512, .bf16⟩
  | .hbm, ⟨80, _⟩ => ⟨S256x512, .bf16⟩
  | .hbm, ⟨81, _⟩ => ⟨S4x4096x512, .f32⟩
  | .hbm, ⟨82, _⟩ => ⟨S4x8x512, .f32⟩
  | .hbm, ⟨83, _⟩ => ⟨S4x8x512, .f32⟩
  | .local _ .vmem, ⟨0, _⟩ => ⟨S1x512x1024, .f32⟩
  | .local _ .vmem, ⟨1, _⟩ => ⟨S1x512x1024, .f32⟩
  | .local _ .vmem, ⟨2, _⟩ => ⟨S4x512, .f32⟩
  | .local _ .vmem, ⟨3, _⟩ => ⟨S1x512, .f32⟩
  | .local _ .vmem, ⟨4, _⟩ => ⟨S256x512, .bf16⟩
  | .local _ .vmem, ⟨5, _⟩ => ⟨S256x512, .bf16⟩
  | .local _ .vmem, ⟨6, _⟩ => ⟨S1x1024, .f32⟩
  | .local _ .vmem, ⟨7, _⟩ => ⟨S1x512, .f32⟩
  | .local _ .vmem, ⟨8, _⟩ => ⟨S1x512x512, .f32⟩
  | .local _ .vmem, ⟨9, _⟩ => ⟨S1x512x512, .f32⟩
  | .local _ .vmem, ⟨10, _⟩ => ⟨S1x8x512, .f32⟩
  | .local _ .vmem, ⟨11, _⟩ => ⟨S1x8x512, .f32⟩
  | .local _ .vmem, ⟨12, _⟩ => ⟨S1x8x512, .f32⟩
  | .local _ .vmem, ⟨13, _⟩ => ⟨S1x8x512, .f32⟩
  | .local _ .vmem, ⟨14, _⟩ => ⟨S8x512, .f32⟩
  | .local _ .vmem, ⟨15, _⟩ => ⟨S8x512, .f32⟩
  | _, _ => ⟨S4x4096x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_1 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69_0 : Ref sig .tc := ⟨.hbm, 81, rfl⟩
abbrev main_v69_1 : Ref sig .tc := ⟨.hbm, 82, rfl⟩
abbrev main_v69_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== LruRefIdeal.lean ====
abbrev S4x4096x1792 : Shape := ⟨3, ![4, 4096, 1792]⟩
abbrev S1x4x512 : Shape := ⟨3, ![1, 4, 512]⟩
abbrev S1x512 : Shape := ⟨2, ![1, 512]⟩
abbrev S1x8x64x64 : Shape := ⟨4, ![1, 8, 64, 64]⟩
abbrev S1x8x64 : Shape := ⟨3, ![1, 8, 64]⟩
abbrev S4x4096x512 : Shape := ⟨3, ![4, 4096, 512]⟩
abbrev S_ : Shape := ⟨0, ![]⟩
abbrev S4x3x512 : Shape := ⟨3, ![4, 3, 512]⟩
abbrev S4x4099x512 : Shape := ⟨3, ![4, 4099, 512]⟩
abbrev S512 : Shape := ⟨1, ![512]⟩
abbrev S4x512 : Shape := ⟨2, ![4, 512]⟩
abbrev S1x1x512 : Shape := ⟨3, ![1, 1, 512]⟩
abbrev S8x64x64 : Shape := ⟨3, ![8, 64, 64]⟩
abbrev S8x64 : Shape := ⟨2, ![8, 64]⟩
abbrev S4x4096x8x64 : Shape := ⟨4, ![4, 4096, 8, 64]⟩
abbrev S8x64x4x4096 : Shape := ⟨4, ![8, 64, 4, 4096]⟩
abbrev S1x1x8x64 : Shape := ⟨4, ![1, 1, 8, 64]⟩
abbrev S4096x4x512 : Shape := ⟨3, ![4096, 4, 512]⟩
abbrev S4x8x512 : Shape := ⟨3, ![4, 8, 512]⟩

abbrev nBuf : Space → Nat
  | .hbm => 148
  | .vmem => 0
  | .smem => 0
  | _ => 0

abbrev hbmTy0_0 (i : Nat) : BufTy := match i % 128 with
  | 0 => ⟨S4x4096x1792, .f32⟩
  | 1 => ⟨S1x4x512, .f32⟩
  | 2 => ⟨S1x512, .f32⟩
  | 3 => ⟨S1x8x64x64, .f32⟩
  | 4 => ⟨S1x8x64, .f32⟩
  | 5 => ⟨S1x8x64x64, .f32⟩
  | 6 => ⟨S1x8x64, .f32⟩
  | 7 => ⟨S1x512, .f32⟩
  | 8 => ⟨S4x4096x512, .f32⟩
  | 9 => ⟨S_, .f32⟩
  | 10 => ⟨S4x3x512, .f32⟩
  | 11 => ⟨S4x4099x512, .f32⟩
  | 12 => ⟨S512, .f32⟩
  | 13 => ⟨S4x512, .f32⟩
  | 14 => ⟨S1x512, .f32⟩
  | 15 => ⟨S512, .f32⟩
  | 16 => ⟨S4x4096x512, .f32⟩
  | 17 => ⟨S1x1x512, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S4x512, .f32⟩
  | 24 => ⟨S1x512, .f32⟩
  | 25 => ⟨S512, .f32⟩
  | 26 => ⟨S4x4096x512, .f32⟩
  | 27 => ⟨S1x1x512, .f32⟩
  | 28 => ⟨S4x4096x512, .f32⟩
  | 29 => ⟨S4x4096x512, .f32⟩
  | 30 => ⟨S4x4096x512, .f32⟩
  | 31 => ⟨S4x512, .f32⟩
  | 32 => ⟨S1x512, .f32⟩
  | 33 => ⟨S512, .f32⟩
  | 34 => ⟨S4x4096x512, .f32⟩
  | 35 => ⟨S1x1x512, .f32⟩
  | 36 => ⟨S4x4096x512, .f32⟩
  | 37 => ⟨S4x4096x512, .f32⟩
  | 38 => ⟨S4x4096x512, .f32⟩
  | 39 => ⟨S4x512, .f32⟩
  | 40 => ⟨S1x512, .f32⟩
  | 41 => ⟨S512, .f32⟩
  | 42 => ⟨S4x4096x512, .f32⟩
  | 43 => ⟨S1x1x512, .f32⟩
  | 44 => ⟨S4x4096x512, .f32⟩
  | 45 => ⟨S4x4096x512, .f32⟩
  | 46 => ⟨S4x4096x512, .f32⟩
  | 47 => ⟨S1x1x512, .f32⟩
  | 48 => ⟨S4x4096x512, .f32⟩
  | 49 => ⟨S4x4096x512, .f32⟩
  | 50 => ⟨S8x64x64, .f32⟩
  | 51 => ⟨S8x64, .f32⟩
  | 52 => ⟨S4x4096x8x64, .f32⟩
  | 53 => ⟨S8x64x4x4096, .f32⟩
  | 54 => ⟨S4x4096x8x64, .f32⟩
  | 55 => ⟨S1x1x8x64, .f32⟩
  | 56 => ⟨S4x4096x8x64, .f32⟩
  | 57 => ⟨S4x4096x8x64, .f32⟩
  | 58 => ⟨S4x4096x512, .f32⟩
  | 59 => ⟨S4x4096x512, .f32⟩
  | 60 => ⟨S4x4096x512, .f32⟩
  | 61 => ⟨S_, .f32⟩
  | 62 => ⟨S4x4096x512, .f32⟩
  | 63 => ⟨S4x4096x512, .f32⟩
  | 64 => ⟨S_, .f32⟩
  | 65 => ⟨S4x4096x512, .f32⟩
  | 66 => ⟨S4x4096x512, .f32⟩
  | 67 => ⟨S8x64x64, .f32⟩
  | 68 => ⟨S8x64, .f32⟩
  | 69 => ⟨S4x4096x8x64, .f32⟩
  | 70 => ⟨S8x64x4x4096, .f32⟩
  | 71 => ⟨S4x4096x8x64, .f32⟩
  | 72 => ⟨S1x1x8x64, .f32⟩
  | 73 => ⟨S4x4096x8x64, .f32⟩
  | 74 => ⟨S4x4096x8x64, .f32⟩
  | 75 => ⟨S4x4096x512, .f32⟩
  | 76 => ⟨S4x4096x512, .f32⟩
  | 77 => ⟨S4x4096x512, .f32⟩
  | 78 => ⟨S_, .f32⟩
  | 79 => ⟨S4x4096x512, .f32⟩
  | 80 => ⟨S4x4096x512, .f32⟩
  | 81 => ⟨S_, .f32⟩
  | 82 => ⟨S4x4096x512, .f32⟩
  | 83 => ⟨S4x4096x512, .f32⟩
  | 84 => ⟨S_, .f32⟩
  | 85 => ⟨S4x4096x512, .f32⟩
  | 86 => ⟨S4x4096x512, .f32⟩
  | 87 => ⟨S512, .f32⟩
  | 88 => ⟨S512, .f32⟩
  | 89 => ⟨S_, .f32⟩
  | 90 => ⟨S512, .f32⟩
  | 91 => ⟨S512, .f32⟩
  | 92 => ⟨S512, .f32⟩
  | 93 => ⟨S512, .f32⟩
  | 94 => ⟨S512, .i1⟩
  | 95 => ⟨S512, .f32⟩
  | 96 => ⟨S512, .f32⟩
  | 97 => ⟨S512, .f32⟩
  | 98 => ⟨S512, .f32⟩
  | 99 => ⟨S512, .f32⟩
  | 100 => ⟨S512, .f32⟩
  | 101 => ⟨S512, .f32⟩
  | 102 => ⟨S512, .f32⟩
  | 103 => ⟨S1x1x512, .f32⟩
  | 104 => ⟨S4x4096x512, .f32⟩
  | 105 => ⟨S4x4096x512, .f32⟩
  | 106 => ⟨S4x4096x512, .f32⟩
  | 107 => ⟨S_, .f32⟩
  | 108 => ⟨S4x4096x512, .f32⟩
  | 109 => ⟨S4x4096x512, .f32⟩
  | 110 => ⟨S4x4096x512, .f32⟩
  | 111 => ⟨S4x4096x512, .f32⟩
  | 112 => ⟨S4x4096x512, .f32⟩
  | 113 => ⟨S4x4096x512, .f32⟩
  | 114 => ⟨S4x4096x512, .f32⟩
  | 115 => ⟨S_, .f32⟩
  | 116 => ⟨S4x512, .f32⟩
  | 117 => ⟨S4096x4x512, .f32⟩
  | 118 => ⟨S4096x4x512, .f32⟩
  | 119 => ⟨S_, .f32⟩
  | 120 => ⟨S4096x4x512, .f32⟩
  | 121 => ⟨S_, .i32⟩
  | 122 => ⟨S4096x4x512, .f32⟩
  | 123 => ⟨S4096x4x512, .f32⟩
  | 124 => ⟨S_, .i32⟩
  | 125 => ⟨S4x512, .f32⟩
  | 126 => ⟨S4096x4x512, .f32⟩
  | 127 => ⟨S_, .i32⟩
  | _ => ⟨S4x4096x1792, .f32⟩

abbrev hbmTy0_1 (i : Nat) : BufTy := match i % 128 with
  | 0 => ⟨S_, .i1⟩
  | 1 => ⟨S_, .i32⟩
  | 2 => ⟨S_, .i32⟩
  | 3 => ⟨S1x4x512, .f32⟩
  | 4 => ⟨S4x512, .f32⟩
  | 5 => ⟨S_, .i32⟩
  | 6 => ⟨S_, .i32⟩
  | 7 => ⟨S1x4x512, .f32⟩
  | 8 => ⟨S4x512, .f32⟩
  | 9 => ⟨S4x512, .f32⟩
  | 10 => ⟨S4x512, .f32⟩
  | 11 => ⟨S1x4x512, .f32⟩
  | 12 => ⟨S_, .i32⟩
  | 13 => ⟨S_, .i32⟩
  | 14 => ⟨S4096x4x512, .f32⟩
  | 15 => ⟨S_, .i32⟩
  | 16 => ⟨S_, .i32⟩
  | 17 => ⟨S4x4096x512, .f32⟩
  | 18 => ⟨S4x8x512, .f32⟩
  | 19 => ⟨S4x8x512, .f32⟩
  | _ => ⟨S4x4096x1792, .f32⟩

abbrev hbmTy (i : Nat) : BufTy := match i / 128 with
  | 0 => hbmTy0_0 i
  | 1 => hbmTy0_1 i
  | _ => ⟨S4x4096x1792, .f32⟩

abbrev bufTy : (tb : Table) → Fin (tcTables nBuf tb) → BufTy
  | .hbm, ⟨i, _⟩ => hbmTy i
  | _, _ => ⟨S4x4096x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_1 : Ref sig .tc := ⟨.hbm, 61, rfl⟩
abbrev main_v51 : Ref sig .tc := ⟨.hbm, 62, rfl⟩
abbrev main_v52 : Ref sig .tc := ⟨.hbm, 63, rfl⟩
abbrev main_cst_2 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_3 : Ref sig .tc := ⟨.hbm, 78, rfl⟩
abbrev main_v66 : Ref sig .tc := ⟨.hbm, 79, rfl⟩
abbrev main_v67 : Ref sig .tc := ⟨.hbm, 80, rfl⟩
abbrev main_cst_4 : Ref sig .tc := ⟨.hbm, 81, rfl⟩
abbrev main_v68 : Ref sig .tc := ⟨.hbm, 82, rfl⟩
abbrev main_v69 : Ref sig .tc := ⟨.hbm, 83, rfl⟩
abbrev main_cst_5 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_call0_cst : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_call0_v3 : Ref sig .tc := ⟨.hbm, 93, rfl⟩
abbrev main_call0_v4 : Ref sig .tc := ⟨.hbm, 94, rfl⟩
abbrev main_call0_v5 : Ref sig .tc := ⟨.hbm, 95, rfl⟩
abbrev main_call0_v6 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_6 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_7 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_8 : Ref sig .tc := ⟨.hbm, 119, rfl⟩
abbrev main_v89 : Ref sig .tc := ⟨.hbm, 120, rfl⟩
abbrev main_c : Ref sig .tc := ⟨.hbm, 121, rfl⟩
abbrev main_v90_0 : Ref sig .tc := ⟨.hbm, 122, rfl⟩
abbrev main_v90_1 : Ref sig .tc := ⟨.hbm, 123, rfl⟩
abbrev main_v90_2 : Ref sig .tc := ⟨.hbm, 124, rfl⟩
abbrev main_v90_3 : Ref sig .tc := ⟨.hbm, 125, rfl⟩
abbrev main_v90_4 : Ref sig .tc := ⟨.hbm, 126, rfl⟩
abbrev main_while0c_c_13 : Ref sig .tc := ⟨.hbm, 127, rfl⟩
abbrev main_while0c_v94 : Ref sig .tc := ⟨.hbm, 128, rfl⟩
abbrev main_while0b_call1_c : Ref sig .tc := ⟨.hbm, 129, rfl⟩
abbrev main_while0b_call1_c_0 : Ref sig .tc := ⟨.hbm, 130, rfl⟩
abbrev main_while0b_call1_v0 : Ref sig .tc := ⟨.hbm, 131, rfl⟩
abbrev main_while0b_v94 : Ref sig .tc := ⟨.hbm, 132, rfl⟩
abbrev main_while0b_call2_c : Ref sig .tc := ⟨.hbm, 133, rfl⟩
abbrev main_while0b_call2_c_0 : Ref sig .tc := ⟨.hbm, 134, rfl⟩
abbrev main_while0b_call2_v0 : Ref sig .tc := ⟨.hbm, 135, rfl⟩
abbrev main_while0b_v95 : Ref sig .tc := ⟨.hbm, 136, rfl⟩
abbrev main_while0b_v96 : Ref sig .tc := ⟨.hbm, 137, rfl⟩
abbrev main_while0b_v97 : Ref sig .tc := ⟨.hbm, 138, rfl⟩
abbrev main_while0b_call3_v0 : Ref sig .tc := ⟨.hbm, 139, rfl⟩
abbrev main_while0b_call3_c : Ref sig .tc := ⟨.hbm, 140, rfl⟩
abbrev main_while0b_call3_c_0 : Ref sig .tc := ⟨.hbm, 141, rfl⟩
abbrev main_while0b_v98 : Ref sig .tc := ⟨.hbm, 142, rfl⟩
abbrev main_while0b_c_13 : Ref sig .tc := ⟨.hbm, 143, rfl⟩
abbrev main_while0b_v99 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩

abbrev nD : Nat := 1
abbrev τ : Topo := Topo.v7x

variable {F : FTy → Type} [FloatOps F]

abbrev main_while0_count : Scf.Loop 32 := ⟨0#32, 4096#32, 1#32⟩
-- ==== MoeSample.lean ====
abbrev S128x1024 : Shape := ⟨2, ![128, 1024]⟩
abbrev S128x128 : Shape := ⟨2, ![128, 128]⟩
abbrev S128x6144 : Shape := ⟨2, ![128, 6144]⟩
abbrev S1x32x1024x256 : Shape := ⟨4, ![1, 32, 1024, 256]⟩
abbrev S1x32x256x1024 : Shape := ⟨4, ![1, 32, 256, 1024]⟩
abbrev S1x1024 : Shape := ⟨2, ![1, 1024]⟩
abbrev S1024 : Shape := ⟨1, ![1024]⟩
abbrev S32x1024x256 : Shape := ⟨3, ![32, 1024, 256]⟩
abbrev S32x256x1024 : Shape := ⟨3, ![32, 256, 1024]⟩
abbrev S1x1024x256 : Shape := ⟨3, ![1, 1024, 256]⟩
abbrev S1x256x1024 : Shape := ⟨3, ![1, 256, 1024]⟩
abbrev S1024x256 : Shape := ⟨2, ![1024, 256]⟩
abbrev S128x256 : Shape := ⟨2, ![128, 256]⟩
abbrev S128 : Shape := ⟨1, ![128]⟩
abbrev S128x1 : Shape := ⟨2, ![128, 1]⟩
abbrev S256x1024 : Shape := ⟨2, ![256, 1024]⟩

abbrev nBuf : Space → Nat
  | .hbm => 19
  | .vmem => 16
  | .smem => 0
  | _ => 0

abbrev bufTy : (tb : Table) → Fin (tcTables nBuf tb) → BufTy
  | .hbm, ⟨0, _⟩ => ⟨S128x1024, .f32⟩
  | .hbm, ⟨1, _⟩ => ⟨S128x128, .f32⟩
  | .hbm, ⟨2, _⟩ => ⟨S128x6144, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S32x1024x256, .f32⟩
  | .hbm, ⟨16, _⟩ => ⟨S32x1024x256, .f32⟩
  | .hbm, ⟨17, _⟩ => ⟨S32x256x1024, .f32⟩
  | .hbm, ⟨18, _⟩ => ⟨S128x1024, .f32⟩
  | .local _ .vmem, ⟨0, _⟩ => ⟨S128x1024, .f32⟩
  | .local _ .vmem, ⟨1, _⟩ => ⟨S128x128, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x256x1024, .f32⟩
  | .local _ .vmem, ⟨10, _⟩ => ⟨S1x256x1024, .f32⟩
  | .local _ .vmem, ⟨11, _⟩ => ⟨S1x1024, .f32⟩
  | .local _ .vmem, ⟨12, _⟩ => ⟨S1x1024, .f32⟩
  | .local _ .vmem, ⟨13, _⟩ => ⟨S128x1024, .f32⟩
  | .local _ .vmem, ⟨14, _⟩ => ⟨S128x1024, .bf16⟩
  | .local _ .vmem, ⟨15, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v41 : BitVec 1 := Scalar.cmpi .eq arg1 c31_i32
  let v42 : BitVec 32 := Scalar.extui v41
  let c0_i32_24 : BitVec 32 := 0#32
  let v43 : BitVec 1 := Scalar.cmpi .ne v42 c0_i32_24
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== MoeSampleRefIdeal.lean ====
abbrev S128x1024 : Shape := ⟨2, ![128, 1024]⟩
abbrev S128x128 : Shape := ⟨2, ![128, 128]⟩
abbrev S128x6144 : Shape := ⟨2, ![128, 6144]⟩
abbrev S1x32x1024x256 : Shape := ⟨4, ![1, 32, 1024, 256]⟩
abbrev S1x32x256x1024 : Shape := ⟨4, ![1, 32, 256, 1024]⟩
abbrev S1x1024 : Shape := ⟨2, ![1, 1024]⟩
abbrev S128x1x1024 : Shape := ⟨3, ![128, 1, 1024]⟩
abbrev S128x32 : Shape := ⟨2, ![128, 32]⟩
abbrev S128x1x32 : Shape := ⟨3, ![128, 1, 32]⟩
abbrev S_ : Shape := ⟨0, ![]⟩
abbrev S32x1024x256 : Shape := ⟨3, ![32, 1024, 256]⟩
abbrev S128x1x32x256 : Shape := ⟨4, ![128, 1, 32, 256]⟩
abbrev S128x1x32x1 : Shape := ⟨4, ![128, 1, 32, 1]⟩
abbrev S32x256x1024 : Shape := ⟨3, ![32, 256, 1024]⟩
abbrev S1024 : Shape := ⟨1, ![1024]⟩
abbrev S128x1 : Shape := ⟨2, ![128, 1]⟩
abbrev S128x1x1 : Shape := ⟨3, ![128, 1, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x128, .f32⟩
  | .hbm, ⟨2, _⟩ => ⟨S128x6144, .f32⟩
  | .hbm, ⟨3, _⟩ => ⟨S1x32x1024x256, .f32⟩
  | .hbm, ⟨4, _⟩ => ⟨S1x32x1024x256, .f32⟩
  | .hbm, ⟨5, _⟩ => ⟨S1x32x256x1024, .f32⟩
  | .hbm, ⟨6, _⟩ => ⟨S1x1024, .f32⟩
  | .hbm, ⟨7, _⟩ => ⟨S1x1024, .f32⟩
  | .hbm, ⟨8, _⟩ => ⟨S128x1x1024, .f32⟩
  | .hbm, ⟨9, _⟩ => ⟨S128x32, .f32⟩
  | .hbm, ⟨10, _⟩ => ⟨S128x1x32, .f32⟩
  | .hbm, ⟨11, _⟩ => ⟨S128x1024, .f32⟩
  | .hbm, ⟨12, _⟩ => ⟨S128x1x1024, .f32⟩
  | .hbm, ⟨13, _⟩ => ⟨S128x1024, .f32⟩
  | .hbm, ⟨14, _⟩ => ⟨S128x1x1024, .f32⟩
  | .hbm, ⟨15, _⟩ => ⟨S128x1024, .f32⟩
  | .hbm, ⟨16, _⟩ => ⟨S128x1x1024, .f32⟩
  | .hbm, ⟨17, _⟩ => ⟨S_, .f32⟩
  | .hbm, ⟨18, _⟩ => ⟨S128x1x1024, .f32⟩
  | .hbm, ⟨19, _⟩ => ⟨S128x1x1024, .f32⟩
  | .hbm, ⟨20, _⟩ => ⟨S128x1x1024, .f32⟩
  | .hbm, ⟨21, _⟩ => ⟨S128x1x1024, .f32⟩
  | .hbm, ⟨22, _⟩ => ⟨S32x1024x256, .f32⟩
  | .hbm, ⟨23, _⟩ => ⟨S128x1x32x256, .f32⟩
  | .hbm, ⟨24, _⟩ => ⟨S32x1024x256, .f32⟩
  | .hbm, ⟨25, _⟩ => ⟨S128x1x32x256, .f32⟩
  | .hbm, ⟨26, _⟩ => ⟨S128x1x32x256, .f32⟩
  | .hbm, ⟨27, _⟩ => ⟨S128x1x32x256, .f32⟩
  | .hbm, ⟨28, _⟩ => ⟨S_, .f32⟩
  | .hbm, ⟨29, _⟩ => ⟨S128x1x32x256, .f32⟩
  | .hbm, ⟨30, _⟩ => ⟨S128x1x32x256, .f32⟩
  | .hbm, ⟨31, _⟩ => ⟨S_, .f32⟩
  | .hbm, ⟨32, _⟩ => ⟨S128x1x32x256, .f32⟩
  | .hbm, ⟨33, _⟩ => ⟨S128x1x32x256, .f32⟩
  | .hbm, ⟨34, _⟩ => ⟨S128x1x32x256, .f32⟩
  | .hbm, ⟨35, _⟩ => ⟨S128x1x32x256, .f32⟩
  | .hbm, ⟨36, _⟩ => ⟨S128x1x32x1, .f32⟩
  | .hbm, ⟨37, _⟩ => ⟨S128x1x32x256, .f32⟩
  | .hbm, ⟨38, _⟩ => ⟨S128x1x32x256, .f32⟩
  | .hbm, ⟨39, _⟩ => ⟨S32x256x1024, .f32⟩
  | .hbm, ⟨40, _⟩ => ⟨S128x1x1024, .f32⟩
  | .hbm, ⟨41, _⟩ => ⟨S_, .f32⟩
  | .hbm, ⟨42, _⟩ => ⟨S128x1x1024, .f32⟩
  | .hbm, ⟨43, _⟩ => ⟨S128x1x1024, .f32⟩
  | .hbm, ⟨44, _⟩ => ⟨S_, .f32⟩
  | .hbm, ⟨45, _⟩ => ⟨S128x1x1024, .f32⟩
  | .hbm, ⟨46, _⟩ => ⟨S128x1x1024, .f32⟩
  | .hbm, ⟨47, _⟩ => ⟨S128x1x1024, .f32⟩
  | .hbm, ⟨48, _⟩ => ⟨S128x1x1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S128x1, .f32⟩
  | .hbm, ⟨53, _⟩ => ⟨S128x1x1, .f32⟩
  | .hbm, ⟨54, _⟩ => ⟨S_, .f32⟩
  | .hbm, ⟨55, _⟩ => ⟨S128x1x1, .f32⟩
  | .hbm, ⟨56, _⟩ => ⟨S128x1x1, .f32⟩
  | .hbm, ⟨57, _⟩ => ⟨S128x1x1024, .f32⟩
  | .hbm, ⟨58, _⟩ => ⟨S128x1x1024, .f32⟩
  | .hbm, ⟨59, _⟩ => ⟨S128x1x1024, .f32⟩
  | .hbm, ⟨60, _⟩ => ⟨S_, .f32⟩
  | .hbm, ⟨61, _⟩ => ⟨S128x1, .f32⟩
  | .hbm, ⟨62, _⟩ => ⟨S128x1x1, .f32⟩
  | .hbm, ⟨63, _⟩ => ⟨S_, .f32⟩
  | .hbm, ⟨64, _⟩ => ⟨S128x1x1, .f32⟩
  | .hbm, ⟨65, _⟩ => ⟨S128x1x1, .f32⟩
  | .hbm, ⟨66, _⟩ => ⟨S128x1x1024, .f32⟩
  | .hbm, ⟨67, _⟩ => ⟨S128x1x1024, .f32⟩
  | .hbm, ⟨68, _⟩ => ⟨S_, .f32⟩
  | .hbm, ⟨69, _⟩ => ⟨S128x1x1, .f32⟩
  | .hbm, ⟨70, _⟩ => ⟨S128x1x1, .f32⟩
  | .hbm, ⟨71, _⟩ => ⟨S128x1x1, .f32⟩
  | .hbm, ⟨72, _⟩ => ⟨S128x1x1024, .f32⟩
  | .hbm, ⟨73, _⟩ => ⟨S128x1x1024, .f32⟩
  | .hbm, ⟨74, _⟩ => ⟨S1x1x1024, .f32⟩
  | .hbm, ⟨75, _⟩ => ⟨S128x1x1024, .f32⟩
  | .hbm, ⟨76, _⟩ => ⟨S128x1x1024, .f32⟩
  | .hbm, ⟨77, _⟩ => ⟨S1x1x1024, .f32⟩
  | .hbm, ⟨78, _⟩ => ⟨S128x1x1024, .f32⟩
  | .hbm, ⟨79, _⟩ => ⟨S128x1x1024, .f32⟩
  | .hbm, ⟨80, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_0 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Outproj.lean ====
abbrev S16384x1024 : Shape := ⟨2, ![16384, 1024]⟩
abbrev S16384x512 : Shape := ⟨2, ![16384, 512]⟩
abbrev S4x6x1024 : Shape := ⟨3, ![4, 6, 1024]⟩
abbrev S1x512 : Shape := ⟨2, ![1, 512]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S512 : Shape := ⟨1, ![512]⟩
abbrev S1024 : Shape := ⟨1, ![1024]⟩
abbrev S16384x128 : Shape := ⟨2, ![16384, 128]⟩
abbrev S512x1024 : Shape := ⟨2, ![512, 1024]⟩
abbrev S512x512 : Shape := ⟨2, ![512, 512]⟩
abbrev S1x6x1024 : Shape := ⟨3, ![1, 6, 1024]⟩
abbrev S512x128 : Shape := ⟨2, ![512, 128]⟩
abbrev S1x1x1024 : Shape := ⟨3, ![1, 1, 1024]⟩
abbrev S512x1 : Shape := ⟨2, ![512, 1]⟩

abbrev nBuf : Space → Nat
  | .hbm => 20
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S4x6x1024, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x128, .f32⟩
  | .hbm, ⟨10, _⟩ => ⟨S1x128, .f32⟩
  | .hbm, ⟨11, _⟩ => ⟨S512, .f32⟩
  | .hbm, ⟨12, _⟩ => ⟨S1x512, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024x1024, .bf16⟩
  | .hbm, ⟨18, _⟩ => ⟨S16384x1024, .f32⟩
  | .hbm, ⟨19, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x6x1024, .f32⟩
  | .local _ .vmem, ⟨7, _⟩ => ⟨S1x6x1024, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x128, .f32⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x128, .f32⟩
  | .local _ .vmem, ⟨18, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutprojRefIdeal.lean ====
abbrev S16384x1024 : Shape := ⟨2, ![16384, 1024]⟩
abbrev S16384x512 : Shape := ⟨2, ![16384, 512]⟩
abbrev S4x6x1024 : Shape := ⟨3, ![4, 6, 1024]⟩
abbrev S1x512 : Shape := ⟨2, ![1, 512]⟩
abbrev S1024x1024 : Shape := ⟨2, ![1024, 1024]⟩
abbrev S1x1024 : Shape := ⟨2, ![1, 1024]⟩
abbrev S1024x128 : Shape := ⟨2, ![1024, 128]⟩
abbrev S1x128 : Shape := ⟨2, ![1, 128]⟩
abbrev S4x4096x1024 : Shape := ⟨3, ![4, 4096, 1024]⟩
abbrev S4x4096x512 : Shape := ⟨3, ![4, 4096, 512]⟩
abbrev S4x1x1024 : Shape := ⟨3, ![4, 1, 1024]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S1024 : Shape := ⟨1, ![1024]⟩
abbrev S1x1x1024 : Shape := ⟨3, ![1, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S4x6x1024, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1x1024, .f32⟩
  | .hbm, ⟨8, _⟩ => ⟨S1x1024, .f32⟩
  | .hbm, ⟨9, _⟩ => ⟨S1024x128, .f32⟩
  | .hbm, ⟨10, _⟩ => ⟨S1x128, .f32⟩
  | .hbm, ⟨11, _⟩ => ⟨S4x4096x1024, .f32⟩
  | .hbm, ⟨12, _⟩ => ⟨S4x4096x512, .f32⟩
  | .hbm, ⟨13, _⟩ => ⟨S4x4096x512, .f32⟩
  | .hbm, ⟨14, _⟩ => ⟨S4x1x1024, .f32⟩
  | .hbm, ⟨15, _⟩ => ⟨S512, .f32⟩
  | .hbm, ⟨16, _⟩ => ⟨S4x4096x512, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x512, .f32⟩
  | .hbm, ⟨28, _⟩ => ⟨S4x4096x512, .f32⟩
  | .hbm, ⟨29, _⟩ => ⟨S1x1x512, .f32⟩
  | .hbm, ⟨30, _⟩ => ⟨S4x4096x512, .f32⟩
  | .hbm, ⟨31, _⟩ => ⟨S4x4096x512, .f32⟩
  | .hbm, ⟨32, _⟩ => ⟨S512, .f32⟩
  | .hbm, ⟨33, _⟩ => ⟨S4x4096x512, .f32⟩
  | .hbm, ⟨34, _⟩ => ⟨S_, .f32⟩
  | .hbm, ⟨35, _⟩ => ⟨S4x4096, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S4x4096x1, .f32⟩
  | .hbm, ⟨44, _⟩ => ⟨S4x4096x512, .f32⟩
  | .hbm, ⟨45, _⟩ => ⟨S4x4096x512, .f32⟩
  | .hbm, ⟨46, _⟩ => ⟨S1x1x512, .f32⟩
  | .hbm, ⟨47, _⟩ => ⟨S4x4096x512, .f32⟩
  | .hbm, ⟨48, _⟩ => ⟨S4x4096x512, .f32⟩
  | .hbm, ⟨49, _⟩ => ⟨S4x4096x1024, .f32⟩
  | .hbm, ⟨50, _⟩ => ⟨S4x4096x1024, .f32⟩
  | .hbm, ⟨51, _⟩ => ⟨S_, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x1x1024, .f32⟩
  | .hbm, ⟨56, _⟩ => ⟨S4x1x1024, .f32⟩
  | .hbm, ⟨57, _⟩ => ⟨S4x4096x1024, .f32⟩
  | .hbm, ⟨58, _⟩ => ⟨S4x4096x1024, .f32⟩
  | .hbm, ⟨59, _⟩ => ⟨S4x4096x1024, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S4x4096, .f32⟩
  | .hbm, ⟨64, _⟩ => ⟨S4x4096x1, .f32⟩
  | .hbm, ⟨65, _⟩ => ⟨S_, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096, .f32⟩
  | .hbm, ⟨73, _⟩ => ⟨S4x4096x1, .f32⟩
  | .hbm, ⟨74, _⟩ => ⟨S_, .f32⟩
  | .hbm, ⟨75, _⟩ => ⟨S4x4096x1, .f32⟩
  | .hbm, ⟨76, _⟩ => ⟨S4x4096x1, .f32⟩
  | .hbm, ⟨77, _⟩ => ⟨S4x4096x1024, .f32⟩
  | .hbm, ⟨78, _⟩ => ⟨S4x4096x1024, .f32⟩
  | .hbm, ⟨79, _⟩ => ⟨S_, .f32⟩
  | .hbm, ⟨80, _⟩ => ⟨S4x4096x1, .f32⟩
  | .hbm, ⟨81, _⟩ => ⟨S4x4096x1, .f32⟩
  | .hbm, ⟨82, _⟩ => ⟨S4x4096x1, .f32⟩
  | .hbm, ⟨83, _⟩ => ⟨S4x4096x1024, .f32⟩
  | .hbm, ⟨84, _⟩ => ⟨S4x4096x1024, .f32⟩
  | .hbm, ⟨85, _⟩ => ⟨S1x1x1024, .f32⟩
  | .hbm, ⟨86, _⟩ => ⟨S4x4096x1024, .f32⟩
  | .hbm, ⟨87, _⟩ => ⟨S4x4096x1024, .f32⟩
  | .hbm, ⟨88, _⟩ => ⟨S1x1x1024, .f32⟩
  | .hbm, ⟨89, _⟩ => ⟨S4x4096x1024, .f32⟩
  | .hbm, ⟨90, _⟩ => ⟨S4x4096x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Proof.Moe.Math.lean ====
module

public import Idealize.ShloMosaic.Lib.Pipeline.ValueKit

/-! # What the dense mixture of experts computes

The mathematics of the layer, over the extended reals and over plain index functions: the modulated hidden row, the
output of one expert at one token, the residual row, and its layer norm. Both programs are shown to compute `layer`. -/

@[expose] public section

noncomputable section

namespace Cert.Moe

open Idealize.ShloMosaic

/-- The sigmoid-weighted unit `a / (1 + e^{-a})`. -/
def silu (a : EReal) : EReal := a * Ideal.div 1 (1 + Ideal.exp (-a))

/-- The mean of a row of 1024 numbers. -/
def mean (r : Fin 1024 → EReal) : EReal := Ideal.div (∑ k, r k) (Ideal.ofBits .f32 1149239296#32)

/-- The layer norm of a row at one place, with the gain `g` and the shift `b` of that place. -/
def norm (r : Fin 1024 → EReal) (g b : EReal) (k : Fin 1024) : EReal :=
  (r k - mean r) * Ideal.rsqrt (Ideal.div (∑ l, (r l - mean r) * (r l - mean r)) (Ideal.ofBits .f32 1149239296#32)
    + Ideal.ofBits .f32 925353388#32) * g + b

/-- The batch entry a row of the flattened token axis belongs to. -/
def entry (r : Fin 16384) : Fin 4 := ⟨r / 4096, by omega⟩

/-- One expert at one token and one output place: the gated unit of the token's hidden row, weighted with the token's
    combine weight of the expert, through the down projection. -/
def expert (h : Fin 1024 → EReal) (wg wu : Fin 1024 → Fin 256 → EReal) (wd : Fin 256 → EReal) (c : EReal) : EReal :=
  ∑ f, silu (∑ d, h d * wg d f) * (∑ d, h d * wu d f) * c * wd f

section
variable (X : Fin 16384 → Fin 1024 → EReal) (C : Fin 16384 → Fin 32 → EReal) (M : Fin 4 → Fin 6 → Fin 1024 → EReal)
  (Wg Wu : Fin 32 → Fin 1024 → Fin 256 → EReal) (Wd : Fin 32 → Fin 256 → Fin 1024 → EReal) (g b : Fin 1024 → EReal)

/-- The modulated hidden row of a token. -/
def hidden (r : Fin 16384) (d : Fin 1024) : EReal := X r d * (1 + M (entry r) 4 d) + M (entry r) 3 d

/-- The residual row of a token: the scaled input and the gated sum of all experts. -/
def row (r : Fin 16384) (k : Fin 1024) : EReal :=
  Ideal.ofBits .f32 1066940400#32 * X r k + (1 + M (entry r) 5 k) *
    ∑ e, expert (hidden X M r) (Wg e) (Wu e) (fun f => Wd e f k) (C r e)

/-- The layer at one token and one place. -/
def layer (r : Fin 16384) (k : Fin 1024) : EReal := norm (row X C M Wg Wu Wd r) (g k) (b k) k

end

end Cert.Moe

end
-- ==== Proof.Moe.Ref.lean ====
module

public import proofs.«01_k».proof.Proof.Gen.ReferenceIdeal.Read
public import proofs.«01_k».proof.Proof.Moe.Math

/-! # What the reference of the mixture of experts computes

Read at an index, stage by stage: the hidden row, the two projections, the weighted gated unit, the sum over experts
and lanes, the residual row, the layer norm. -/

@[expose] public section

set_option maxRecDepth 16384

noncomputable section

namespace Cert.ReferenceIdeal.Moe

open Idealize.ShloMosaic Idealize.ShloMosaic.TcCoe Idealize.SL.Sem Cert.ReferenceIdeal Cert.ReferenceIdeal.Read
open Cert.Moe

variable (x0 : FVec Ideal S16384x1024 .f32) (x1 : FVec Ideal S16384x128 .f32) (x2 : FVec Ideal S4x6x1024 .f32)
  (x3 x4 : FVec Ideal S1x32x1024x256 .f32) (x5 : FVec Ideal S1x32x256x1024 .f32) (x6 x7 : FVec Ideal S1x1024 .f32)

/-- A token's place within its batch entry. -/
def place (r : Fin 16384) : Fin 4096 := ⟨r % 4096, by omega⟩

/-- The entry and the place of a token determine it. -/
theorem entry_place (r : Fin 16384) (h : (entry r : ℕ) * 4096 + (place r : ℕ) < 16384) :
    (⟨(entry r : ℕ) * 4096 + (place r : ℕ), h⟩ : Fin 16384) = r := by
  apply Fin.ext
  simp only [entry, place]
  omega

theorem v11_at (r : Fin 16384) (d : Fin 1024) : val_main_v11 (F := Ideal) x0 x2 (ix3 (entry r) (place r) d)
    = hidden (fun r d => x0 (ix2 r d)) (fun b s d => x2 (ix3 b s d)) r d := by
  pointwise [val_main_v11, val_main_v9, val_main_v8, val_main_v7, val_main_v6, val_main_v4, val_main_v0, val_main_v10,
    val_main_v3, val_main_cst]
  rw [entry_place]
  rfl

theorem v13_at (r : Fin 16384) (e : Fin 32) (f : Fin 256) :
    val_main_v13 (F := Ideal) x0 x2 x3 (ix4 (entry r) (place r) e f)
      = ∑ d, hidden (fun r d => x0 (ix2 r d)) (fun b s d => x2 (ix3 b s d)) r d * x3 (ix4 0 e d f) := by
  pointwise [val_main_v13, val_main_v12]
  exact Finset.sum_congr rfl fun d _ => by rw [← v11_at]

theorem v15_at (r : Fin 16384) (e : Fin 32) (f : Fin 256) :
    val_main_v15 (F := Ideal) x0 x2 x4 (ix4 (entry r) (place r) e f)
      = ∑ d, hidden (fun r d => x0 (ix2 r d)) (fun b s d => x2 (ix3 b s d)) r d * x4 (ix4 0 e d f) := by
  pointwise [val_main_v15, val_main_v14]
  exact Finset.sum_congr rfl fun d _ => by rw [← v11_at]

theorem v20_at (r : Fin 16384) (e : Fin 32) (f : Fin 256) :
    val_main_v20 (F := Ideal) x0 x1 x2 x3 x4 (ix4 (entry r) (place r) e f)
      = silu (val_main_v13 (F := Ideal) x0 x2 x3 (ix4 (entry r) (place r) e f))
        * val_main_v15 (F := Ideal) x0 x2 x4 (ix4 (entry r) (place r) e f) * x1 (ix2 r (e.castLE (by omega))) := by
  pointwise [val_main_v20, val_main_v17, val_main_v19, val_main_v18, val_main_v2, val_main_v1, val_main_v16,
    val_main_call0_v5, val_main_call0_v4, val_main_call0_v3, val_main_call0_v2, val_main_call0_v1, val_main_call0_v0,
    val_main_call0_cst, val_main_call0_cst_0]
  rw [entry_place]
  rfl

theorem v29_at (r : Fin 16384) (k : Fin 1024) :
    val_main_v29 (F := Ideal) x0 x1 x2 x3 x4 x5 (ix3 (entry r) (place r) k)
      = row (fun r d => x0 (ix2 r d)) (fun r e => x1 (ix2 r (e.castLE (by omega)))) (fun b s d => x2 (ix3 b s d))
          (fun e d f => x3 (ix4 0 e d f)) (fun e d f => x4 (ix4 0 e d f)) (fun e f d => x5 (ix4 0 e f d)) r k := by
  have hsum : val_main_v22 (F := Ideal) x0 x1 x2 x3 x4 x5 (ix3 (entry r) (place r) k)
      = ∑ e : Fin 32, ∑ f : Fin 256, val_main_v20 (F := Ideal) x0 x1 x2 x3 x4 (ix4 (entry r) (place r) e f)
          * x5 (ix4 0 e f k) := by
    pointwise [val_main_v22, val_main_v21]
  pointwise [val_main_v29, val_main_v28, val_main_v27, val_main_v26, val_main_v25, val_main_v24, val_main_v23,
    val_main_v5, val_main_v0, val_main_cst_0, val_main_cst_1]
  rw [entry_place, hsum]
  unfold row expert
  simp only [v20_at, v13_at, v15_at]

/-- THE REFERENCE at a token and a place is the layer there. -/
theorem ref_at (r : Fin 16384) (k : Fin 1024) : val_main_v56 (F := Ideal) x0 x1 x2 x3 x4 x5 x6 x7 (ix2 r k)
      = layer (fun r d => x0 (ix2 r d)) (fun r e => x1 (ix2 r (e.castLE (by omega)))) (fun b s d => x2 (ix3 b s d))
          (fun e d f => x3 (ix4 0 e d f)) (fun e d f => x4 (ix4 0 e d f)) (fun e f d => x5 (ix4 0 e f d))
          (fun k => x6 (ix2 0 k)) (fun k => x7 (ix2 0 k)) r k := by
  unfold layer
  simp only [funext fun k => (v29_at x0 x1 x2 x3 x4 x5 r k).symm]
  pointwise [val_main_v56, val_main_v55, val_main_v54, val_main_v53, val_main_v31, val_main_v52, val_main_v51,
    val_main_v50, val_main_v30, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, val_main_cst_2, val_main_cst_3, val_main_cst_4,
    val_main_cst_5, val_main_cst_6]
  unfold Cert.Moe.norm mean
  rfl

end Cert.ReferenceIdeal.Moe

end
-- ==== Proof.Moe.Pay.lean ====
module

public import proofs.«01_k».proof.Proof.Gen.KernelIdeal.Skeleton
public import proofs.«01_k».proof.Proof.Moe.Math

/-! # What the kernel's stores hold, read at an index

The hidden block, the zero fill, the gated block of one expert, the accumulated block, the layer norm of the residual
block. -/

@[expose] public section

set_option maxRecDepth 16384

noncomputable section

namespace Cert.KernelIdeal.Moe

open Idealize.ShloMosaic Cert.KernelIdeal Cert.KernelIdeal.Gen Cert.Moe

/-- The hidden block: the rows scaled and shifted. -/
theorem pay3_at (x : FVec Ideal S1024x1024 .f32) (sc sh : FVec Ideal S1x1x1024 .f32) (j : S1024x1024.Idx) :
    k0_pay3 (F := Ideal) x sc sh j = x j * (1 + sc (ix3 0 0 (j 1))) + sh (ix3 0 0 (j 1)) := by
  pointwise [k0_pay3]

/-- The fill the accumulation starts from is zero. -/
theorem pay4_at (j : S1024x1024.Idx) : k0_pay4 (F := Ideal) j = 0 := by
  pointwise [k0_pay4]

/-- The accumulated block: what it held, plus the gated block through the down projection. -/
theorem pay1_at (acc : FVec Ideal S1024x1024 .f32) (z : FVec Ideal S1024x256 .bf16) (wd : FVec Ideal S1x256x1024 .f32)
    (j : S1024x1024.Idx) :
    k0_pay1 (F := Ideal) acc z wd j = acc j + ∑ f : Fin 256, z (ix2 (j 0) f) * wd (ix3 0 f (j 1)) := by
  pointwise [k0_pay1]

/-- A sum over the 128 routing lanes of the values selected at one lane is the value there. -/
theorem sum_lane (e : Fin 32) (v : Fin 128 → EReal) :
    (∑ x : Fin 128, Scalar.select (IntOp.cmpi CmpIPredicate.eq (BitVec.ofNat 32 ↑x) (BitVec.ofNat 32 ↑e)) (v x) 0)
      = v (e.castLE (by omega)) := by
  rw [Finset.sum_eq_single (e.castLE (by omega) : Fin 128)]
  · simp [Scalar.select, IntOp.cmpi]
  · intro x _ hx
    have : ¬ BitVec.ofNat 32 (x : ℕ) = BitVec.ofNat 32 (e : ℕ) := by
      intro h
      apply hx
      have h2 := congrArg BitVec.toNat h
      simp only [BitVec.toNat_ofNat] at h2
      apply Fin.ext
      simp only [Fin.val_castLE]
      omega
    have hb : (BitVec.ofNat 32 (x : ℕ) == BitVec.ofNat 32 (e : ℕ)) = false := by simpa using this
    simp [Scalar.select, IntOp.cmpi, hb]
  · intro h
    exact absurd (Finset.mem_univ _) h

/-- The gated block of the expert the grid point names, weighted with that expert's combine weight. -/
theorem pay5_at (i : grid0.Coords) (e : Fin 32) (he : (i 1 : ℕ) = e) (h : FVec Ideal S1024x1024 .bf16)
    (wg wu : FVec Ideal S1x1024x256 .f32) (cb : FVec Ideal S1024x128 .f32) (j : S1024x256.Idx) :
    k0_pay5 (F := Ideal) i h wg wu cb j
      = silu (∑ d : Fin 1024, h (ix2 (j 0) d) * wg (ix3 0 d (j 1)))
        * (∑ d : Fin 1024, h (ix2 (j 0) d) * wu (ix3 0 d (j 1))) * cb (ix2 (j 0) (e.castLE (by omega))) := by
  pointwise [k0_pay5]
  rw [he, sum_lane e fun x => cb (ix2 (j 0) x), zero_sub]
  rfl

/-- The stored block: the layer norm of the residual row. -/
theorem pay2_at (x : FVec Ideal S1024x1024 .f32) (gt : FVec Ideal S1x1x1024 .f32) (f : FVec Ideal S1024x1024 .f32)
    (g b : FVec Ideal S1x1024 .f32) (j : S1024x1024.Idx) :
    k0_pay2 (F := Ideal) x gt f g b j
      = norm (fun k => Ideal.ofBits .f32 1066940400#32 * x (ix2 (j 0) k) + (1 + gt (ix3 0 0 k)) * f (ix2 (j 0) k))
          (g (ix2 0 (j 1))) (b (ix2 0 (j 1))) (j 1) := by
  idx_vars j
  pointwise [k0_pay2]
  rfl

end Cert.KernelIdeal.Moe

end
-- ==== Proof.Moe.Cases.lean ====
module

public import proofs.«01_k».proof.Proof.Gen.KernelIdeal.Value
public import proofs.«01_k».proof.Proof.Moe.Pay
public import Idealize.ShloMosaic.Lib.Pipeline.ReadBack

/-! # What a grid point leaves behind

At the first expert of a block of rows, at an expert in between, at the last expert: the scratch blocks and the stored
block, as the stores' values over the blocks the point reads and the scratch it finds. -/

@[expose] public section

set_option maxRecDepth 16384

noncomputable section

namespace Cert.KernelIdeal.Moe

open Idealize.ShloMosaic Idealize.ShloMosaic.TcCoe Idealize.SL.Sem Cert.KernelIdeal Cert.KernelIdeal.Gen Cert.Moe

variable (m : (ℓ : Loc nD τ sig) → Buf (Elt Ideal) ℓ)

/-- The first expert's point stores the hidden block. -/
theorem first_hidden (c : Dev nD) (t : Fin cfg0.N) (h0 : t.val % 32 = 0) (h1 : ¬t.val % 32 = 31) :
    (outsAt0 m c t.val t.isLt).2.1 = k0_pay3 (iblk m c 0 t) (iblk m c 3 t) (iblk m c 2 t) := by
  rw [outsAt0_A m c t h0 h1]
  frame_out

/-- The first expert's point starts the accumulation from zero. -/
theorem first_acc (c : Dev nD) (t : Fin cfg0.N) (h0 : t.val % 32 = 0) (h1 : ¬t.val % 32 = 31) :
    (outsAt0 m c t.val t.isLt).2.2 = k0_pay1 (k0_pay4 (F := Ideal)) (k0_pay5 (grid0.coords t)
      (k0_pay3 (iblk m c 0 t) (iblk m c 3 t) (iblk m c 2 t)) (iblk m c 5 t) (iblk m c 6 t) (iblk m c 1 t)) (iblk m c 7 t) := by
  rw [outsAt0_A m c t h0 h1]
  frame_out

/-- A later expert's point keeps the hidden block. -/
theorem mid_hidden (c : Dev nD) (t : Fin cfg0.N) (h0 : ¬t.val % 32 = 0) :
    (outsAt0 m c t.val t.isLt).2.1 = (outsAt0 m c (t.val - 1) (Nat.lt_of_le_of_lt (Nat.sub_le _ _) t.isLt)).2.1 := by
  by_cases h1 : t.val % 32 = 31
  · rw [outsAt0_C m c t h0 h1]
    rfl
  · rw [outsAt0_B m c t h0 h1]
    rfl

/-- A later expert's point adds its expert to the accumulation. -/
theorem mid_acc (c : Dev nD) (t : Fin cfg0.N) (h0 : ¬t.val % 32 = 0) :
    (outsAt0 m c t.val t.isLt).2.2 = k0_pay1 (outsAt0 m c (t.val - 1) (Nat.lt_of_le_of_lt (Nat.sub_le _ _) t.isLt)).2.2
      (k0_pay5 (grid0.coords t) (outsAt0 m c (t.val - 1) (Nat.lt_of_le_of_lt (Nat.sub_le _ _) t.isLt)).2.1
        (iblk m c 5 t) (iblk m c 6 t) (iblk m c 1 t)) (iblk m c 7 t) := by
  by_cases h1 : t.val % 32 = 31
  · rw [outsAt0_C m c t h0 h1]
    frame_out
    simp only [read_unread_whole]
  · rw [outsAt0_B m c t h0 h1]
    frame_out
    simp only [read_unread_whole]

/-- The last expert's point stores the layer norm of the residual with the full accumulation. -/
theorem last_out (c : Dev nD) (t : Fin cfg0.N) (h1 : t.val % 32 = 31) :
    (outsAt0 m c t.val t.isLt).1 = k0_pay2 (iblk m c 0 t) (iblk m c 4 t) (outsAt0 m c t.val t.isLt).2.2
      (iblk m c 8 t) (iblk m c 9 t) := by
  have h0 : ¬t.val % 32 = 0 := by omega
  rw [mid_acc m c t h0, outsAt0_C m c t h0 h1]
  frame_out
  simp only [read_unread_whole]

end Cert.KernelIdeal.Moe

end
-- ==== Proof.Moe.Blocks.lean ====
module

public import proofs.«01_k».proof.Proof.Gen.KernelIdeal.Value
public import proofs.«01_k».proof.Proof.Moe.Pay

/-! # The blocks a grid point reads, as the argument arrays -/

@[expose] public section

set_option maxRecDepth 16384

noncomputable section

namespace Cert.KernelIdeal.Moe

open Idealize.ShloMosaic Idealize.ShloMosaic.TcCoe Idealize.SL.Sem Cert.KernelIdeal Cert.KernelIdeal.Gen Cert.Moe

variable (m : (ℓ : Loc nD τ sig) → Buf (Elt Ideal) ℓ)

theorem idx : ∀ t : Fin cfg0.N, win0_0.index t = ![t.val / 32, 0] ∧ win0_1.index t = ![t.val / 32, 0]
    ∧ win0_2.index t = ![t.val / 128, 0, 0] ∧ win0_3.index t = ![t.val / 128, 0, 0] ∧ win0_4.index t = ![t.val / 128, 0, 0]
    ∧ win0_5.index t = ![t.val % 32, 0, 0] ∧ win0_6.index t = ![t.val % 32, 0, 0] ∧ win0_7.index t = ![t.val % 32, 0, 0]
    ∧ win0_8.index t = ![0, 0] ∧ win0_9.index t = ![0, 0] ∧ win0_10.index t = ![t.val / 32, 0]
    ∧ (grid0.coords t 1 : ℕ) = t.val % 32 ∧ t.val < 512 :=
  (by decide +kernel : ∀ t : Fin grid0.N, _)

/-- The row of the flattened token axis that place `p` of point `t`'s block is. -/
def rowOf (t : Fin cfg0.N) (p : Fin 1024) : Fin 16384 :=
  ⟨t.val / 32 * 1024 + p, by have h := lt_of_lt_of_eq t.isLt N_0; omega⟩

/-- The expert of a point. -/
def expertOf (t : Fin cfg0.N) : Fin 32 := ⟨t.val % 32, Nat.mod_lt _ (by decide)⟩

theorem blk0 (c : Dev nD) (t : Fin cfg0.N) (p d : Fin 1024) :
    (iblk m c 0 t : FVec Ideal S1024x1024 .f32) (ix2 p d) = m ((c : Thread nD τ).loc main_arg0) (ix2 (rowOf t p) d) := by
  blk_ext [iblk, V, idx t, rowOf]

theorem blk1 (c : Dev nD) (t : Fin cfg0.N) (p : Fin 1024) (l : Fin 128) :
    (iblk m c 1 t : FVec Ideal S1024x128 .f32) (ix2 p l) = m ((c : Thread nD τ).loc main_arg1) (ix2 (rowOf t p) l) := by
  blk_ext [iblk, V, idx t, rowOf]

theorem entry_rowOf (t : Fin cfg0.N) (p : Fin 1024) : (entry (rowOf t p) : ℕ) = t.val / 128 := by
  have h := lt_of_lt_of_eq t.isLt N_0
  simp only [entry, rowOf]
  omega

theorem blk2 (c : Dev nD) (t : Fin cfg0.N) (p d : Fin 1024) :
    (iblk m c 2 t : FVec Ideal S1x1x1024 .f32) (ix3 0 0 d)
      = m ((c : Thread nD τ).loc main_arg2) (ix3 (entry (rowOf t p)) 3 d) := by
  have he := entry_rowOf t p
  blk_simp [iblk, idx t]
  entry_read
  pointwise
  blk_ext [idx t]

theorem blk3 (c : Dev nD) (t : Fin cfg0.N) (p d : Fin 1024) :
    (iblk m c 3 t : FVec Ideal S1x1x1024 .f32) (ix3 0 0 d)
      = m ((c : Thread nD τ).loc main_arg2) (ix3 (entry (rowOf t p)) 4 d) := by
  have he := entry_rowOf t p
  blk_simp [iblk, idx t]
  entry_read
  pointwise
  blk_ext [idx t]

theorem blk4 (c : Dev nD) (t : Fin cfg0.N) (p d : Fin 1024) :
    (iblk m c 4 t : FVec Ideal S1x1x1024 .f32) (ix3 0 0 d)
      = m ((c : Thread nD τ).loc main_arg2) (ix3 (entry (rowOf t p)) 5 d) := by
  have he := entry_rowOf t p
  blk_simp [iblk, idx t]
  entry_read
  pointwise
  blk_ext [idx t]

theorem blk5 (c : Dev nD) (t : Fin cfg0.N) (d : Fin 1024) (f : Fin 256) :
    (iblk m c 5 t : FVec Ideal S1x1024x256 .f32) (ix3 0 d f)
      = m ((c : Thread nD τ).loc main_arg3) (ix4 0 (expertOf t) d f) := by
  blk_simp [iblk, idx t]
  entry_read
  pointwise
  blk_ext [idx t, expertOf]

theorem blk6 (c : Dev nD) (t : Fin cfg0.N) (d : Fin 1024) (f : Fin 256) :
    (iblk m c 6 t : FVec Ideal S1x1024x256 .f32) (ix3 0 d f)
      = m ((c : Thread nD τ).loc main_arg4) (ix4 0 (expertOf t) d f) := by
  blk_simp [iblk, idx t]
  entry_read
  pointwise
  blk_ext [idx t, expertOf]

theorem blk7 (c : Dev nD) (t : Fin cfg0.N) (f : Fin 256) (d : Fin 1024) :
    (iblk m c 7 t : FVec Ideal S1x256x1024 .f32) (ix3 0 f d)
      = m ((c : Thread nD τ).loc main_arg5) (ix4 0 (expertOf t) f d) := by
  blk_simp [iblk, idx t]
  entry_read
  pointwise
  blk_ext [idx t, expertOf]

theorem blk8 (c : Dev nD) (t : Fin cfg0.N) (d : Fin 1024) :
    (iblk m c 8 t : FVec Ideal S1x1024 .f32) (ix2 0 d) = m ((c : Thread nD τ).loc main_arg6) (ix2 0 d) := by
  blk_simp [iblk, idx t]
  entry_read
  pointwise
  blk_ext [idx t]

theorem blk9 (c : Dev nD) (t : Fin cfg0.N) (d : Fin 1024) :
    (iblk m c 9 t : FVec Ideal S1x1024 .f32) (ix2 0 d) = m ((c : Thread nD τ).loc main_arg7) (ix2 0 d) := by
  blk_simp [iblk, idx t]
  entry_read
  pointwise
  blk_ext [idx t]

end Cert.KernelIdeal.Moe

end
-- ==== Proof.Moe.Sum.lean ====
module

public import proofs.«01_k».proof.Proof.Moe.Cases
public import proofs.«01_k».proof.Proof.Moe.Blocks

/-! # What the scratch and the result array hold

After the point of expert `e` the hidden block is that of the point's rows, and the accumulation is the sum of the
experts up to `e`; the last expert's point therefore stores the layer at its rows. -/

@[expose] public section

set_option maxRecDepth 16384

noncomputable section

namespace Cert.KernelIdeal.Moe

open Idealize.ShloMosaic Idealize.ShloMosaic.TcCoe Idealize.SL.Sem Cert.KernelIdeal Cert.KernelIdeal.Gen Cert.Moe

variable (m : (ℓ : Loc nD τ sig) → Buf (Elt Ideal) ℓ)

/-- The rows of the argument, as a function of token and place. -/
def rows (c : Dev nD) (r : Fin 16384) (d : Fin 1024) : EReal := m ((c : Thread nD τ).loc main_arg0) (ix2 r d)
/-- The combine weights of the experts. -/
def weights (c : Dev nD) (r : Fin 16384) (e : Fin 32) : EReal :=
  m ((c : Thread nD τ).loc main_arg1) (ix2 r (e.castLE (by omega)))
/-- The modulation vectors. -/
def mods (c : Dev nD) (b : Fin 4) (s : Fin 6) (d : Fin 1024) : EReal := m ((c : Thread nD τ).loc main_arg2) (ix3 b s d)
/-- The gate projections. -/
def gate (c : Dev nD) (e : Fin 32) (d : Fin 1024) (f : Fin 256) : EReal :=
  m ((c : Thread nD τ).loc main_arg3) (ix4 0 e d f)
/-- The up projections. -/
def up (c : Dev nD) (e : Fin 32) (d : Fin 1024) (f : Fin 256) : EReal :=
  m ((c : Thread nD τ).loc main_arg4) (ix4 0 e d f)
/-- The down projections. -/
def down (c : Dev nD) (e : Fin 32) (f : Fin 256) (d : Fin 1024) : EReal :=
  m ((c : Thread nD τ).loc main_arg5) (ix4 0 e f d)

/-- The output of expert `e` at token `r` and place `k`; zero past the last expert. -/
def term (c : Dev nD) (r : Fin 16384) (k : Fin 1024) (e : ℕ) : EReal :=
  if h : e < 32 then expert (hidden (rows m c) (mods m c) r) (gate m c ⟨e, h⟩) (up m c ⟨e, h⟩)
    (fun f => down m c ⟨e, h⟩ f k) (weights m c r ⟨e, h⟩) else 0

/-- One accumulation step at a point whose scratch holds the hidden rows: the point's expert is added. -/
theorem step_at (c : Dev nD) (t : Fin cfg0.N) (acc : FVec Ideal S1024x1024 .f32) (h : FVec Ideal S1024x1024 .bf16)
    (hh : ∀ p d, h (ix2 p d) = hidden (rows m c) (mods m c) (rowOf t p) d) (p k : Fin 1024) :
    k0_pay1 (F := Ideal) acc (k0_pay5 (grid0.coords t) h (iblk m c 5 t) (iblk m c 6 t) (iblk m c 1 t)) (iblk m c 7 t)
        (ix2 p k)
      = acc (ix2 p k) + term m c (rowOf t p) k (t.val % 32) := by
  rw [pay1_at, term, dif_pos (Nat.mod_lt _ (by decide))]
  congr 1
  unfold expert
  refine Finset.sum_congr rfl fun f _ => ?_
  rw [pay5_at (grid0.coords t) (expertOf t) (idx t).2.2.2.2.2.2.2.2.2.2.2.1]
  have e5 := fun d => blk5 m c t d f
  have e6 := fun d => blk6 m c t d f
  have e1 := blk1 m c t p ((expertOf t).castLE (by omega))
  have e7 := blk7 m c t f k
  congr 1
  congr 1
  congr 1
  · congr 1
    exact Finset.sum_congr rfl fun d _ => Ideal.mul_congr (hh p d) (e5 d)
  · exact Finset.sum_congr rfl fun d _ => Ideal.mul_congr (hh p d) (e6 d)

/-- After the first expert's point: the hidden rows, and the first expert. -/
theorem start_at (c : Dev nD) (t : Fin cfg0.N) (h0 : t.val % 32 = 0) :
    (∀ p d, (outsAt0 m c t.val t.isLt).2.1 (ix2 p d) = hidden (rows m c) (mods m c) (rowOf t p) d)
    ∧ ∀ p k, (outsAt0 m c t.val t.isLt).2.2 (ix2 p k)
      = ∑ e ∈ Finset.range (t.val % 32 + 1), term m c (rowOf t p) k e := by
  have h1 : ¬ t.val % 32 = 31 := by omega
  have hh : ∀ p d, k0_pay3 (F := Ideal) (iblk m c 0 t) (iblk m c 3 t) (iblk m c 2 t) (ix2 p d)
      = hidden (rows m c) (mods m c) (rowOf t p) d := fun p d => by
    refine (pay3_at _ _ _ _).trans ?_
    exact Ideal.add_congr (Ideal.mul_congr (blk0 m c t p d) (congrArg (1 + ·) (blk3 m c t p d))) (blk2 m c t p d)
  refine ⟨fun p d => ?_, fun p k => ?_⟩
  · rw [first_hidden m c t h0 h1]
    exact hh p d
  · rw [first_acc m c t h0 h1]
    refine (step_at m c t _ _ hh p k).trans ?_
    rw [pay4_at, h0, zero_add, zero_add, Finset.sum_range_one]

/-- After every point: the hidden rows, and the sum of the experts so far. -/
theorem scratch_at (c : Dev nD) : ∀ (n : ℕ) (hn : n < cfg0.N),
    (∀ p d, (outsAt0 m c n hn).2.1 (ix2 p d) = hidden (rows m c) (mods m c) (rowOf ⟨n, hn⟩ p) d)
    ∧ ∀ p k, (outsAt0 m c n hn).2.2 (ix2 p k) = ∑ e ∈ Finset.range (n % 32 + 1), term m c (rowOf ⟨n, hn⟩ p) k e := by
  intro n
  induction n with
  | zero => exact fun hn => start_at m c ⟨0, hn⟩ (Nat.zero_mod _)
  | succ n ih =>
    intro hn
    by_cases h0 : (n + 1) % 32 = 0
    · exact start_at m c ⟨n + 1, hn⟩ h0
    · obtain ⟨ih1, ih2⟩ := ih (by omega)
      have hr : ∀ p, rowOf ⟨n, by omega⟩ p = rowOf ⟨n + 1, hn⟩ p := fun p => by
        unfold rowOf
        apply Fin.ext
        simp only
        omega
      have h1 : ∀ p d, (outsAt0 m c n (by omega)).2.1 (ix2 p d)
          = hidden (rows m c) (mods m c) (rowOf ⟨n + 1, hn⟩ p) d := fun p d => by rw [ih1, hr]
      refine ⟨fun p d => ?_, fun p k => ?_⟩
      · rw [mid_hidden m c ⟨n + 1, hn⟩ h0]
        exact h1 p d
      · rw [mid_acc m c ⟨n + 1, hn⟩ h0]
        refine (step_at m c ⟨n + 1, hn⟩ _ _ h1 p k).trans ?_
        rw [Finset.sum_range_succ]
        congr 1
        refine (ih2 p k).trans ?_
        rw [hr, show n % 32 + 1 = (n + 1) % 32 by omega]

/-- The layer norm depends on its row, gain and shift only. -/
theorem norm_congr {r r' : Fin 1024 → EReal} {g g' b b' : EReal} (hr : r = r') (hg : g = g') (hb : b = b')
    (k : Fin 1024) : Cert.Moe.norm r g b k = Cert.Moe.norm r' g' b' k := by
  rw [hr, hg, hb]

/-- The point of the last expert stores the layer at its rows. -/
theorem stored_at (c : Dev nD) (t : Fin cfg0.N) (h1 : t.val % 32 = 31) (p k : Fin 1024) :
    (outsAt0 m c t.val t.isLt).1 (ix2 p k)
      = layer (rows m c) (weights m c) (mods m c) (gate m c) (up m c) (down m c)
          (fun k => m ((c : Thread nD τ).loc main_arg6) (ix2 0 k))
          (fun k => m ((c : Thread nD τ).loc main_arg7) (ix2 0 k)) (rowOf t p) k := by
  rw [last_out m c t h1]
  refine (pay2_at _ _ _ _ _ (ix2 p k)).trans ?_
  unfold layer
  have hrow : ∀ k, (outsAt0 m c t.val t.isLt).2.2 (ix2 p k) = ∑ e : Fin 32,
      expert (hidden (rows m c) (mods m c) (rowOf t p)) (gate m c e) (up m c e) (fun f => down m c e f k)
        (weights m c (rowOf t p) e) := fun k => by
    refine ((scratch_at m c t.val t.isLt).2 p k).trans ?_
    rw [h1, ← Fin.sum_univ_eq_sum_range]
    exact Finset.sum_congr rfl fun e _ => dif_pos e.isLt
  have e0 := blk0 m c t p
  have e4 := blk4 m c t p
  have hr : (fun k => Ideal.ofBits .f32 1066940400#32 * (iblk m c 0 t : FVec Ideal S1024x1024 .f32) (ix2 p k)
      + (1 + (iblk m c 4 t : FVec Ideal S1x1x1024 .f32) (ix3 0 0 k)) * (outsAt0 m c t.val t.isLt).2.2 (ix2 p k))
      = row (rows m c) (weights m c) (mods m c) (gate m c) (up m c) (down m c) (rowOf t p) := by
    funext k
    rw [e0, e4, hrow]
    rfl
  have e8 := blk8 m c t k
  have e9 := blk9 m c t k
  exact norm_congr hr e8 e9 k

end Cert.KernelIdeal.Moe

end
-- ==== Proof.Moe.Final.lean ====
module

public import proofs.«01_k».proof.Proof.Moe.Sum

/-! # The kernel's result array is the layer -/

@[expose] public section

set_option maxRecDepth 16384

noncomputable section

namespace Cert.KernelIdeal.Moe

open Idealize.ShloMosaic Idealize.ShloMosaic.TcCoe Idealize.SL.Sem Cert.KernelIdeal Cert.KernelIdeal.Gen Cert.Moe

variable (m : (ℓ : Loc nD τ sig) → Buf (Elt Ideal) ℓ)

/-- The layer over the kernel's arguments, as an array. -/
def result (c : Dev nD) : FVec Ideal S16384x1024 .f32 := fun i =>
  layer (rows m c) (weights m c) (mods m c) (gate m c) (up m c) (down m c)
    (fun k => m ((c : Thread nD τ).loc main_arg6) (ix2 0 k)) (fun k => m ((c : Thread nD τ).loc main_arg7) (ix2 0 k))
    (i 0) (i 1)

/-- What a last expert's point stores at a block index is the layer at the array index it is written to. -/
theorem point (c : Dev nD) (t : Fin cfg0.N) (h1 : t.val % 32 = 31) (y : S1024x1024.Idx) (i : S16384x1024.Idx)
    (h : i = ix2 (rowOf t (y 0)) (y 1)) : (outsAt0 m c t.val t.isLt).1 y = result m c i := by
  subst h
  idx_vars y
  exact stored_at m c t h1 _ _

/-- The result array after the run. -/
theorem final (c : Dev nD) : (dats m 0 c).arrAt 10 (cfgs 0).N = result m c := by
  refine (dats m 0 c).arrAt_eq_of_covers 10 _ (by decide +kernel) fun t hf y => ?_
  have h1 := (flush0_10 t).mp hf
  blk_simp
  rw [after0_10]
  refine point m c t h1 y _ ?_
  blk_ext [idx t, rowOf]

end Cert.KernelIdeal.Moe

end
-- ==== Proof.Moe.Claim.lean ====
module

public import proofs.«01_k».proof.Defs
public import proofs.«01_k».proof.Proof.Gen.KernelIdeal.Value
public import proofs.«01_k».proof.Proof.Gen.ReferenceIdeal.Run
public import proofs.«01_k».proof.Proof.Moe.Ref
public import proofs.«01_k».proof.Proof.Moe.Final
public import Idealize.ShloMosaic.Adequacy
public import Idealize.ShloMosaic.Init

/-! # The mixture of experts and its reference give equal results -/

@[expose] public section

noncomputable section

namespace Cert.MoePair

open Idealize.ShloMosaic Idealize.SL.Sem

/-- The kernel's run, its result array read as the layer. -/
theorem algebraic : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v56_eq]
  obtain ⟨a0, a1, a2, a3, a4, a5, a6, a7⟩ := hagree c
  rw [a0, a1, a2, a3, a4, a5, a6, a7]
  refine Eq.trans ?_ (Cert.KernelIdeal.Moe.final m c).symm
  funext i
  idx_vars i
  exact Cert.ReferenceIdeal.Moe.ref_at _ _ _ _ _ _ _ _ _ _

end Cert.MoePair

end
-- ==== Proof.Attn.Math.lean ====
module

public import Idealize.ShloMosaic.Lib.Pipeline.ValueKit

/-! # What the windowed attention computes

The mathematics of the prompt's windowed attention with a sink, over the extended reals and over plain index functions.
A block of 128 queries sees the band of 256 keys made of the block before it and its own block. -/

@[expose] public section

noncomputable section

namespace Cert.Win

open Idealize.ShloMosaic

/-- The stand-in for minus infinity of the masks and of the maxima. -/
abbrev neg : EReal := Ideal.ofBits .f32 4286578688#32

theorem neg_eq : neg = ⊥ := by
  unfold neg
  simp [Ideal.ofBits, Ideal.ieee]

/-- The largest of a row of scores and the sink. -/
def top (s : Fin 256 → EReal) (k : EReal) : EReal := max (Finset.univ.fold max neg s) k

/-- The total of a row's exponentials, the sink's among them. -/
def total (s : Fin 256 → EReal) (k : EReal) : EReal := (∑ x, Ideal.exp (s x - top s k)) + Ideal.exp (k - top s k)

/-- The weighted mean of the values of a band, the weights normalized by a reciprocal. -/
def mix (s : Fin 256 → EReal) (k : EReal) (v : Fin 256 → EReal) : EReal :=
  ∑ x, Ideal.exp (s x - top s k) * Ideal.div 1 (total s k) * v x

theorem exp_nonneg (x : EReal) : 0 ≤ Ideal.exp x := by
  induction x with
  | bot => exact le_rfl
  | top => exact le_top
  | coe r => exact EReal.coe_nonneg.mpr (Real.exp_pos r).le

theorem top_ge (s : Fin 256 → EReal) (k : EReal) : k ≤ top s k := le_max_right _ _

theorem top_ne_top (s : Fin 256 → EReal) (k : EReal) (hs : ∀ x, s x ≠ ⊤) (hk : k ≠ ⊤) : top s k ≠ ⊤ := by
  have h : top s k < ⊤ := by
    refine max_lt ?_ (lt_top_iff_ne_top.mpr hk)
    rw [Finset.fold_max_lt]
    exact ⟨by rw [neg_eq]; exact bot_lt_top, fun x _ => lt_top_iff_ne_top.mpr (hs x)⟩
  exact h.ne

/-- With no score at plus infinity and a finite sink the total is not zero. -/
theorem total_ne_zero (s : Fin 256 → EReal) (k : EReal) (hs : ∀ x, s x ≠ ⊤) (hk : k ≠ ⊤) (hk' : k ≠ ⊥) :
    total s k ≠ 0 := by
  have ht := top_ne_top s k hs hk
  have hb : top s k ≠ ⊥ := fun h => hk' (le_bot_iff.mp (h ▸ top_ge s k))
  have hp : 0 < Ideal.exp (k - top s k) := by
    generalize top s k = m at ht hb
    lift m to ℝ using ⟨ht, hb⟩
    lift k to ℝ using ⟨hk, hk'⟩
    rw [← EReal.coe_sub]
    exact EReal.coe_pos.mpr (Real.exp_pos _)
  have h0 : 0 ≤ ∑ x, Ideal.exp (s x - top s k) := Finset.sum_nonneg fun x _ => exp_nonneg _
  exact (lt_of_lt_of_le hp (le_add_of_nonneg_left h0)).ne'

theorem mul_div_one (x y : EReal) (hy : y ≠ 0) : x * Ideal.div 1 y = Ideal.div x y := by
  unfold Ideal.div
  rw [if_neg hy, if_neg hy, one_mul]

/-- The softmax over the 257 scores of the band and the sink, its last weight dropped, is the reciprocal form. -/
theorem mix_eq (s : Fin 256 → EReal) (k : EReal) (v : Fin 256 → EReal) (w : Fin 257 → EReal)
    (hw : ∀ x : Fin 256, w x.castSucc = s x) (hl : w (Fin.last 256) = k) (hs : ∀ x, s x ≠ ⊤) (hk : k ≠ ⊤)
    (hk' : k ≠ ⊥) :
    ∑ x : Fin 256, Ideal.div (Ideal.exp (w x.castSucc - max neg (Finset.univ.fold max neg w)))
      (∑ y, Ideal.exp (w y - max neg (Finset.univ.fold max neg w))) * v x = mix s k v := by
  have hm : max neg (Finset.univ.fold max neg w) = top s k := by
    apply le_antisymm
    · rw [neg_eq, max_eq_right bot_le, ← neg_eq, Finset.fold_max_le]
      refine ⟨by rw [neg_eq]; exact bot_le, fun x _ => ?_⟩
      induction x using Fin.lastCases with
      | last => rw [hl]; exact top_ge s k
      | cast x =>
        rw [hw]
        exact le_trans (Finset.le_fold_max (s x) |>.mpr (Or.inr ⟨x, Finset.mem_univ _, le_rfl⟩)) (le_max_left _ _)
    · refine le_trans (max_le ?_ ?_) (le_max_right _ _)
      · rw [Finset.fold_max_le]
        refine ⟨by rw [neg_eq]; exact bot_le, fun x _ => ?_⟩
        exact Finset.le_fold_max (s x) |>.mpr (Or.inr ⟨x.castSucc, Finset.mem_univ _, (hw x).ge⟩)
      · exact Finset.le_fold_max k |>.mpr (Or.inr ⟨Fin.last 256, Finset.mem_univ _, hl.ge⟩)
  have ht : ∑ y, Ideal.exp (w y - max neg (Finset.univ.fold max neg w)) = total s k := by
    rw [hm, Fin.sum_univ_castSucc, hl]
    simp only [hw]
    rfl
  rw [ht, hm]
  refine Finset.sum_congr rfl fun x _ => ?_
  rw [hw, mul_div_one _ _ (total_ne_zero s k hs hk hk')]

/-! ## The band of a block of queries -/

section
variable (z : Fin 4 → Fin 4096 → Fin 1792 → EReal) (k : Fin 8 → EReal)

/-- Column `col` of the row at place `s` of the band of block `n`: the rows of the block before, then the block's own;
    zeros before the first block. -/
def band (b : Fin 4) (n : Fin 32) (col : Fin 1792) (s : Fin 256) : EReal :=
  if h : n.val * 128 + s.val < 128 then 0 else z b ⟨n.val * 128 + s.val - 128, by omega⟩ col

/-- The column of the stored queries that holds feature `d` of head `g * 4 + c`. -/
def qcol (g : Fin 2) (c : Fin 4) (d : Fin 64) : Fin 1792 := ⟨1024 + (c.val * 128 + g.val * 64 + d.val), by omega⟩
def kcol (g : Fin 2) (d : Fin 64) : Fin 1792 := ⟨1536 + (g.val * 64 + d.val), by omega⟩
def vcol (g : Fin 2) (d : Fin 64) : Fin 1792 := ⟨1664 + (g.val * 64 + d.val), by omega⟩
def row (n : Fin 32) (p : Fin 128) : Fin 4096 := ⟨n.val * 128 + p.val, by omega⟩
def head (g : Fin 2) (c : Fin 4) : Fin 8 := ⟨g.val * 4 + c.val, by omega⟩

/-- The query at place `p` of its block sees the 128 keys before it and itself, none before the first block. -/
def sees (n : Fin 32) (p : Fin 128) (s : Fin 256) : Prop := (p.val ≤ s.val ∧ s.val ≤ p.val + 128) ∧ (128 ≤ s.val ∨ 0 < n.val)

instance (n : Fin 32) (p : Fin 128) (s : Fin 256) : Decidable (sees n p s) := by unfold sees; infer_instance

/-- The scaled product of a query and a key of the band. -/
def dot (b : Fin 4) (n : Fin 32) (g : Fin 2) (c : Fin 4) (p : Fin 128) (s : Fin 256) : EReal :=
  (∑ d, z b (row n p) (qcol g c d) * band z b n (kcol g d) s) * Ideal.ofBits .f32 1040187392#32

/-- The masked score. -/
def score (b : Fin 4) (n : Fin 32) (g : Fin 2) (c : Fin 4) (p : Fin 128) (s : Fin 256) : EReal :=
  if sees n p s then dot z b n g c p s else neg

/-- The attention of head `g * 4 + c` at one query and one feature. -/
def attend (b : Fin 4) (n : Fin 32) (p : Fin 128) (g : Fin 2) (c : Fin 4) (d : Fin 64) : EReal :=
  mix (score z b n g c p) (k (head g c)) (band z b n (vcol g d))

/-- A sum of products of finite numbers is finite. -/
theorem sum_real {n : ℕ} (f h : Fin n → EReal) (hf : ∀ i, ∃ r : ℝ, f i = r) (hh : ∀ i, ∃ r : ℝ, h i = r) :
    ∃ r : ℝ, ∑ i, f i * h i = r := by
  refine Finset.sum_induction _ (fun x => ∃ r : ℝ, x = (r : EReal)) ?_ ⟨0, rfl⟩ fun i _ => ?_
  · rintro _ _ ⟨a, rfl⟩ ⟨b, rfl⟩
    exact ⟨a + b, (EReal.coe_add a b).symm⟩
  · obtain ⟨a, ha⟩ := hf i
    obtain ⟨b, hb⟩ := hh i
    exact ⟨a * b, by rw [ha, hb, EReal.coe_mul]⟩

theorem scale_real : ∃ r : ℝ, Ideal.ofBits .f32 1040187392#32 = (r : EReal) := by
  refine ⟨8388608 * 2 ^ (-26 : ℤ), ?_⟩
  simp [Ideal.ofBits, Ideal.ieee]

/-- With finite queries and keys no score is plus infinity. -/
theorem score_ne_top (hz : ∀ b t (l : Fin 1792), 1024 ≤ l.val → l.val < 1664 → ∃ r : ℝ, z b t l = r)
    (b : Fin 4) (n : Fin 32) (g : Fin 2) (c : Fin 4) (p : Fin 128) (s : Fin 256) : score z b n g c p s ≠ ⊤ := by
  unfold score
  split
  · unfold dot
    obtain ⟨r, hr⟩ := sum_real (fun d => z b (row n p) (qcol g c d)) (fun d => band z b n (kcol g d) s)
      (fun d => hz _ _ _ (by simp only [qcol]; omega) (by simp only [qcol]; omega)) fun d => by
        unfold band
        split
        · exact ⟨0, rfl⟩
        · exact hz _ _ _ (by simp only [kcol]; omega) (by simp only [kcol]; omega)
    obtain ⟨r', hr'⟩ := scale_real
    rw [hr, hr', ← EReal.coe_mul]
    exact EReal.coe_ne_top _
  · rw [neg_eq]
    exact bot_ne_top

end

end Cert.Win

end
-- ==== Proof.Attn.Pay.lean ====
module

public import proofs.«01_k».proof.Proof.Gen.AttnIdeal.Skeleton
public import proofs.«01_k».proof.Proof.Attn.Math

/-! # What the attention's stores hold, read at an index -/

@[expose] public section

set_option maxRecDepth 16384

noncomputable section

namespace Cert.AttnIdeal.Attn

open Idealize.ShloMosaic Idealize.ShloMosaic.TcCoe Idealize.SL.Sem Cert.AttnIdeal Cert.AttnIdeal.Gen Cert.Win

variable (q : FVec Ideal S1x128x512 .f32)

theorem low_at (p x : Fin 128) : k0_pay3 (ix2 p x) = if x.val < 64 then 1#1 else 0#1 := by
  have h : ∀ x : Fin 128, IntOp.cmpi .slt (BitVec.ofNat 32 x.val) 64#32 = if x.val < 64 then 1#1 else 0#1 := by
    decide +kernel
  pointwise [k0_pay3]
  exact h x

/-- A piece of the queries with one half of its lanes cleared. -/
def cut (lower : Prop) [Decidable lower] (o : ℕ) (ho : o + 128 ≤ 512) (p x : Fin 128) : EReal :=
  if (x.val < 64) = lower then q (ix3 0 p ⟨o + x.val, by omega⟩) else 0

theorem select_low (x : Fin 128) (a b : EReal) :
    Scalar.select (if x.val < 64 then 1#1 else 0#1) a b = if (x.val < 64) = True then a else b := by
  split <;> rename_i h <;> simp [Scalar.select, h]

theorem select_high (x : Fin 128) (a b : EReal) :
    Scalar.select (IntOp.xori (if x.val < 64 then 1#1 else 0#1) 1#1) a b = if (x.val < 64) = False then a else b := by
  split <;> rename_i h <;> simp [Scalar.select, IntOp.xori, h]

theorem pay5_at (p x : Fin 128) : k0_pay5 (F := Ideal) q (ix2 p x) = cut q True 0 (by omega) p x := by
  pointwise [k0_pay5, k0_pay4]
  rw [low_at, select_low]
  simp only [cut, Nat.zero_add]
theorem pay6_at (p x : Fin 128) : k0_pay6 (F := Ideal) q (ix2 p x) = cut q True 128 (by omega) p x := by
  pointwise [k0_pay6, k0_pay4]
  rw [low_at, select_low]
  rfl
theorem pay7_at (p x : Fin 128) : k0_pay7 (F := Ideal) q (ix2 p x) = cut q True 256 (by omega) p x := by
  pointwise [k0_pay7, k0_pay4]
  rw [low_at, select_low]
  rfl
theorem pay8_at (p x : Fin 128) : k0_pay8 (F := Ideal) q (ix2 p x) = cut q True 384 (by omega) p x := by
  pointwise [k0_pay8, k0_pay4]
  rw [low_at, select_low]
  rfl
theorem pay9_at (p x : Fin 128) : k0_pay9 (F := Ideal) q (ix2 p x) = cut q False 0 (by omega) p x := by
  pointwise [k0_pay9, k0_pay4]
  rw [low_at, select_high]
  simp only [cut, Nat.zero_add]
theorem pay10_at (p x : Fin 128) : k0_pay10 (F := Ideal) q (ix2 p x) = cut q False 128 (by omega) p x := by
  pointwise [k0_pay10, k0_pay4]
  rw [low_at, select_high]
  rfl
theorem pay11_at (p x : Fin 128) : k0_pay11 (F := Ideal) q (ix2 p x) = cut q False 256 (by omega) p x := by
  pointwise [k0_pay11, k0_pay4]
  rw [low_at, select_high]
  rfl
theorem pay12_at (p x : Fin 128) : Scalar.select (IntOp.xori (k0_pay3 (ix2 p x)) 1#1) (k0_pay12 (F := Ideal) q (ix2 p x)) 0
    = cut q False 384 (by omega) p x := by
  rw [low_at, select_high]
  pointwise [k0_pay12, k0_pay4]
  rfl

theorem cut_congr (lower lower' : Prop) [Decidable lower] [Decidable lower'] (o o' : ℕ) (ho : o + 128 ≤ 512)
    (ho' : o' + 128 ≤ 512) (p p' x : Fin 128) (h1 : lower = lower') (h2 : o = o') (h3 : p.val = p'.val) :
    cut q lower o ho p x = cut q lower' o' ho' p' x := by
  obtain rfl := Fin.ext h3
  subst h1 h2
  unfold cut
  congr

/-- The row of queries of head `g * 4 + c`, its 128 lanes the head's 64 features and zeros. -/
abbrev lanes (h : Fin 8) (p x : Fin 128) : EReal := cut q (h.val < 4) (h.val % 4 * 128) (by omega) p x

/-- The mask's words. -/
theorem mask_word : ∀ (p : Fin 128) (s : Fin 256), IntOp.andi
      (IntOp.cmpi .sge (IntOp.subi (IntOp.addi (128#32) (BitVec.ofNat 32 p.val)) (BitVec.ofNat 32 s.val)) 0#32)
      (IntOp.cmpi .sle (IntOp.subi (IntOp.addi (128#32) (BitVec.ofNat 32 p.val)) (BitVec.ofNat 32 s.val)) 128#32)
    = if p.val ≤ s.val ∧ s.val ≤ p.val + 128 then 1#1 else 0#1 := by
  decide +kernel

theorem key_word : ∀ s : Fin 256, IntOp.cmpi .sge (BitVec.ofNat 32 s.val) 128#32 = if 128 ≤ s.val then 1#1 else 0#1 := by
  decide +kernel

theorem select_and (P Q R : Prop) [Decidable P] [Decidable Q] [Decidable R] (a b : EReal) :
    Scalar.select (IntOp.andi (if P then 1#1 else 0#1) (IntOp.ori (if Q then 1#1 else 0#1) (if R then 1#1 else 0#1))) a b
    = if P ∧ (Q ∨ R) then a else b := by
  by_cases hP : P <;> by_cases hQ : Q <;> by_cases hR : R <;> simp [hP, hQ, hR, Scalar.select, IntOp.andi, IntOp.ori]

theorem select_sees (n : Fin 32) (p : Fin 128) (s : Fin 256) (a b : EReal) :
    Scalar.select (IntOp.andi (if p.val ≤ s.val ∧ s.val ≤ p.val + 128 then 1#1 else 0#1)
      (IntOp.ori (if 128 ≤ s.val then 1#1 else 0#1) (if 0 < n.val then 1#1 else 0#1))) a b
    = if sees n p s then a else b := select_and _ _ _ a b

/-- The masked scores at head `h`, query `p`, place `s` of the band. -/
theorem scores_at (w : BitVec 32) (n : Fin 32) (hw : Scalar.cmpi .sgt w 0#32 = if 0 < n.val then 1#1 else 0#1)
    (k : FVec Ideal S1x128x128 .f32) (kp : FVec Ideal S128x128 .f32) (h : Fin 8) (p : Fin 128) (s : Fin 256) :
    k0_pay16 (F := Ideal) w k0_pay3 (k0_pay5 q) (k0_pay6 q) (k0_pay7 q) (k0_pay8 q) (k0_pay9 q) (k0_pay10 q)
      (k0_pay11 q) (k0_pay12 q) (constantI S128x128 1 1#1) k kp (ix3 h p s)
    = if sees n p s then (∑ x : Fin 128, lanes q h p x * (if h : s.val < 128 then kp (ix2 ⟨s.val, h⟩ x)
        else k (ix3 0 ⟨s.val - 128, by omega⟩ x))) * Ideal.ofBits .f32 1040187392#32 else neg := by
  pointwise [k0_pay16, k0_pay13]
  rw [mask_word, key_word, hw, select_sees]
  congr 2
  refine Finset.sum_congr rfl fun x _ => ?_
  congr 1
  simp only [pay5_at, pay6_at, pay7_at, pay8_at, pay9_at, pay10_at, pay11_at, pay12_at]
  split_ifs <;> exact cut_congr q _ _ _ _ _ _ _ _ _ (by simp only [eq_iff_iff, true_iff, false_iff]; omega) (by omega)
    (by simp only []; omega)

theorem pay18_at (k : FVec Ideal S1x128x128 .f32) (s x : Fin 128) :
    k0_pay18 (F := Ideal) (k0_pay13 k) (ix2 s x) = k (ix3 0 s x) := by
  pointwise [k0_pay18, k0_pay13]

theorem pay19_at (k : FVec Ideal S1x128x128 .f32) (s x : Fin 128) :
    k0_pay19 (F := Ideal) (k0_pay14 k) (ix2 s x) = k (ix3 0 s x) := by
  pointwise [k0_pay19, k0_pay14]

theorem pay15_at (v : FVec Ideal S1x128x128 .f32) (vp : FVec Ideal S128x128 .f32) (s : Fin 256) (x : Fin 128) :
    k0_pay15 (F := Ideal) v vp (ix2 s x) = if h : s.val < 128 then vp (ix2 ⟨s.val, h⟩ x)
        else v (ix3 0 ⟨s.val - 128, by omega⟩ x) := by
  pointwise [k0_pay15, k0_pay14]

theorem pay1_at (s x : Fin 128) : k0_pay1 (F := Ideal) (ix2 s x) = 0 := by
  pointwise [k0_pay1]

theorem pay2_at (s x : Fin 128) : k0_pay2 (F := Ideal) (ix2 s x) = 0 := by
  pointwise [k0_pay2]

end Cert.AttnIdeal.Attn

end
-- ==== Proof.Attn.RefRows.lean ====
module

public import proofs.«01_k».proof.Proof.Gen.AttnRefIdeal.Read
public import proofs.«01_k».proof.Proof.Attn.Math

/-! # The arguments of the reference of the attention -/

@[expose] public section

set_option maxRecDepth 16384

noncomputable section

namespace Cert.AttnRefIdeal.Attn

open Idealize.ShloMosaic Idealize.ShloMosaic.TcCoe Idealize.SL.Sem Cert.AttnRefIdeal Cert.AttnRefIdeal.Read Cert.Win

variable (x0 : FVec Ideal S4x4096x1792 .f32) (x1 : FVec Ideal S1x8 .f32)

/-- The projected rows and the sinks, as plain functions. -/
abbrev zf (b : Fin 4) (s : Fin 4096) (l : Fin 1792) : EReal := x0 (ix3 b s l)
abbrev kf (h : Fin 8) : EReal := x1 (ix2 0 h)

end Cert.AttnRefIdeal.Attn

end
-- ==== Proof.Attn.RefBand.lean ====
module

public import proofs.«01_k».proof.Proof.Gen.AttnRefIdeal.Read
public import proofs.«01_k».proof.Proof.Attn.Pay
public import proofs.«01_k».proof.Proof.Attn.RefRows

/-! # The queries and the bands of keys and values the reference of the attention takes -/

@[expose] public section

set_option maxRecDepth 16384

noncomputable section

namespace Cert.AttnRefIdeal.Attn

open Idealize.ShloMosaic Idealize.ShloMosaic.TcCoe Idealize.SL.Sem Cert.AttnRefIdeal Cert.AttnRefIdeal.Read Cert.Win

variable (x0 : FVec Ideal S4x4096x1792 .f32) (x1 : FVec Ideal S1x8 .f32)

theorem v2_at (b : Fin 4) (n : Fin 32) (p : Fin 128) (g : Fin 2) (c : Fin 4) (d : Fin 64) :
    val_main_v2 (F := Ideal) x0 (ix6 b n p g c d) = zf x0 b (row n p) (qcol g c d) := by
  pointwise [val_main_v2, val_main_v1, val_main_v0]
  refine congrArg x0 ?_
  unfold row qcol
  congr 2

theorem zero_word : FloatOps.sitofp (F := Ideal) FTy.f32 0#32 = 0 := by
  show ((BitVec.toInt 0#32 : ℝ) : EReal) = 0
  norm_num

/-- The band written with the row of blocks shifted by one and zeros in front. -/
theorem band_eq (z : Fin 4 → Fin 4096 → Fin 1792 → EReal) (b : Fin 4) (n : Fin 32) (s : Fin 256) (col : Fin 1792) (e : EReal)
    (he : e = 0) :
    (if h : s.val < 128 then
      if h' : (1 ≤ n.val ∧ n.val - 1 < 32) ∧ s.val < 128 then z b ⟨(n.val - 1) * 128 + s.val, by omega⟩ col else e
    else z b ⟨n.val * 128 + (s.val - 128), by omega⟩ col) = band z b n col s := by
  subst he
  have hn := n.isLt
  unfold band
  by_cases h : s.val < 128
  · rw [dif_pos h]
    by_cases h1 : n.val = 0
    · rw [dif_neg (by omega), dif_pos (by omega)]
    · rw [dif_pos (by omega), dif_neg (by omega)]
      refine congrArg (fun t => z b t col) (Fin.ext ?_)
      simp only []
      omega
  · rw [dif_neg h, dif_neg (by omega)]
    refine congrArg (fun t => z b t col) (Fin.ext ?_)
    simp only []
    omega

theorem v10_at (b : Fin 4) (n : Fin 32) (s : Fin 256) (g : Fin 2) (d : Fin 64) :
    val_main_v10 (F := Ideal) x0 (ix5 b n s g d) = band (zf x0) b n (kcol g d) s := by
  pointwise [val_main_v10, val_main_v9, val_main_v8, val_main_v7, val_main_v4, val_main_v3, val_main_call0_v0, val_main_c]
  exact band_eq (zf x0) b n s (kcol g d) _ zero_word

theorem v14_at (b : Fin 4) (n : Fin 32) (s : Fin 256) (g : Fin 2) (d : Fin 64) :
    val_main_v14 (F := Ideal) x0 (ix5 b n s g d) = band (zf x0) b n (vcol g d) s := by
  pointwise [val_main_v14, val_main_v13, val_main_v12, val_main_v11, val_main_v6, val_main_v5, val_main_call1_v0,
    val_main_c_0]
  exact band_eq (zf x0) b n s (vcol g d) _ zero_word

end Cert.AttnRefIdeal.Attn

end
-- ==== Proof.Attn.RefScore.lean ====
module

public import proofs.«01_k».proof.Proof.Gen.AttnRefIdeal.Read
public import proofs.«01_k».proof.Proof.Attn.RefBand

/-! # The masked scores of the reference of the attention -/

@[expose] public section

set_option maxRecDepth 16384

noncomputable section

namespace Cert.AttnRefIdeal.Attn

open Idealize.ShloMosaic Idealize.ShloMosaic.TcCoe Idealize.SL.Sem Cert.AttnRefIdeal Cert.AttnRefIdeal.Read Cert.Win

variable (x0 : FVec Ideal S4x4096x1792 .f32) (x1 : FVec Ideal S1x8 .f32)

theorem first_word : ∀ n : Fin 32, IntOp.cmpi .eq (BitVec.ofNat 32 n.val) 0#32 = if 0 < n.val then 0#1 else 1#1 := by
  decide +kernel

theorem before_word : ∀ s : Fin 256, IntOp.cmpi .slt (BitVec.ofNat 32 s.val) 128#32 = if 128 ≤ s.val then 0#1 else 1#1 := by
  decide +kernel

theorem and_not (P Q R : Prop) [Decidable P] [Decidable Q] [Decidable R] :
    IntOp.andi (if P then 1#1 else 0#1) (~~~IntOp.andi (if R then 0#1 else 1#1) (if Q then 0#1 else 1#1))
      = if P ∧ (Q ∨ R) then 1#1 else 0#1 := by
  by_cases hP : P <;> by_cases hQ : Q <;> by_cases hR : R <;> simp [hP, hQ, hR, IntOp.andi]

theorem v48_at (n : Fin 32) (p : Fin 128) (s : Fin 256) :
    val_main_v48 (F := Ideal) (ix6 0 n 0 0 p s) = if sees n p s then 1#1 else 0#1 := by
  pointwise [val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22,
    val_main_v21, val_main_v20, val_main_v19, val_main_c_1, val_main_c_2, val_main_c_3, val_main_c_4, val_main_c_5]
  rw [Cert.AttnIdeal.Attn.mask_word, first_word, before_word, and_not]
  rfl

theorem v18_at (b : Fin 4) (n : Fin 32) (g : Fin 2) (c : Fin 4) (p : Fin 128) (s : Fin 256) :
    val_main_v18 (F := Ideal) x0 (ix6 b n g c p s) = dot (zf x0) b n g c p s := by
  pointwise [val_main_v18, val_main_v17, val_main_v16, val_main_v15, val_main_cst]
  unfold dot
  congr 1
  refine Finset.sum_congr rfl fun x _ => ?_
  rw [v10_at, v2_at, mul_comm]

theorem select_if (P : Prop) [Decidable P] (a b : EReal) : Scalar.select (if P then 1#1 else 0#1) a b = if P then a else b := by
  split <;> simp [Scalar.select]

theorem v49_at (b : Fin 4) (n : Fin 32) (g : Fin 2) (c : Fin 4) (p : Fin 128) (s : Fin 256) :
    val_main_v49 (F := Ideal) x0 (ix6 b n g c p s) = score (zf x0) b n g c p s := by
  pointwise [val_main_v49, val_main_call2_v2, val_main_call2_v1, val_main_call2_v0, val_main_cst_6]
  rw [v48_at, v18_at, select_if]
  rfl

end Cert.AttnRefIdeal.Attn

end
-- ==== Proof.Attn.RefSink.lean ====
module

public import proofs.«01_k».proof.Proof.Gen.AttnRefIdeal.Read
public import proofs.«01_k».proof.Proof.Attn.Math
public import proofs.«01_k».proof.Proof.Attn.RefRows

/-! # The row of scores with the sink at its end -/

@[expose] public section

set_option maxRecDepth 16384

noncomputable section

namespace Cert.AttnRefIdeal.Attn

open Idealize.ShloMosaic Idealize.ShloMosaic.TcCoe Idealize.SL.Sem Cert.AttnRefIdeal Cert.AttnRefIdeal.Read Cert.Win

variable (x0 : FVec Ideal S4x4096x1792 .f32) (x1 : FVec Ideal S1x8 .f32)

theorem v54_at (b : Fin 4) (n : Fin 32) (g : Fin 2) (c : Fin 4) (p : Fin 128) (s : Fin 257) :
    val_main_v54 (F := Ideal) x0 x1 (ix6 b n g c p s)
      = if h : s.val < 256 then val_main_v49 (F := Ideal) x0 (ix6 b n g c p ⟨s.val, h⟩) else kf x1 (head g c) := by
  pointwise [val_main_v54, val_main_v53, val_main_v52, val_main_v51, val_main_v50]
  rfl

end Cert.AttnRefIdeal.Attn

end
-- ==== Proof.Attn.RefSoft.lean ====
module

public import proofs.«01_k».proof.Proof.Gen.AttnRefIdeal.Read
public import proofs.«01_k».proof.Proof.Attn.Math

/-! # The softmax of a row of scores and its sink -/

@[expose] public section

set_option maxRecDepth 16384

noncomputable section

namespace Cert.AttnRefIdeal.Attn

open Idealize.ShloMosaic Idealize.ShloMosaic.TcCoe Idealize.SL.Sem Cert.AttnRefIdeal Cert.AttnRefIdeal.Read Cert.Win

variable (x0 : FVec Ideal S4x4096x1792 .f32) (x1 : FVec Ideal S1x8 .f32)

theorem v55_at (b : Fin 4) (n : Fin 32) (g : Fin 2) (c : Fin 4) (p : Fin 128) :
    val_main_v55 (F := Ideal) x0 x1 (ix5 b n g c p)
      = Finset.univ.fold max neg fun s => val_main_v54 (F := Ideal) x0 x1 (ix6 b n g c p s) := by
  unfold val_main_v55
  generalize val_main_v54 (F := Ideal) x0 x1 = y
  refine (Host.reduce_eq_fold_single (α := EReal) max y _ Gen.reducesTo_S4x32x2x4x128x257_S4x32x2x4x128_d5 (by decide)
    Gen.h_S_ _).trans ?_
  refine Finset.fold_congr fun k _ => congrArg y (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The largest of a row of scores and the sink, as the softmax takes it. -/
abbrev peak (b : Fin 4) (n : Fin 32) (g : Fin 2) (c : Fin 4) (p : Fin 128) : EReal :=
  max neg (Finset.univ.fold max neg fun s => val_main_v54 (F := Ideal) x0 x1 (ix6 b n g c p s))

theorem v58_at (b : Fin 4) (n : Fin 32) (g : Fin 2) (c : Fin 4) (p : Fin 128) :
    val_main_v58 (F := Ideal) x0 x1 (ix6 b n g c p 0) = peak x0 x1 b n g c p := by
  rw [val_main_v58_apply, val_main_v57_apply, val_main_v56_apply, val_main_cst_8_apply]
  have h : idx_main_v58 (ix6 b n g c p 0) = ix5 b n g c p := funext fun a => match a with
    | ⟨0, _⟩ => rfl
    | ⟨1, _⟩ => rfl
    | ⟨2, _⟩ => rfl
    | ⟨3, _⟩ => rfl
    | ⟨4, _⟩ => rfl
  rw [h, v55_at]
  rfl

theorem v61_at (b : Fin 4) (n : Fin 32) (g : Fin 2) (c : Fin 4) (p : Fin 128) (s : Fin 257) :
    val_main_v61 (F := Ideal) x0 x1 (ix6 b n g c p s)
      = Ideal.exp (val_main_v54 (F := Ideal) x0 x1 (ix6 b n g c p s) - peak x0 x1 b n g c p) := by
  rw [val_main_v61_apply, val_main_v60_apply, val_main_v59_apply]
  have h : idx_main_v59 (ix6 b n g c p s) = ix6 b n g c p 0 := funext fun a => match a with
    | ⟨0, _⟩ => rfl
    | ⟨1, _⟩ => rfl
    | ⟨2, _⟩ => rfl
    | ⟨3, _⟩ => rfl
    | ⟨4, _⟩ => rfl
    | ⟨5, _⟩ => rfl
  rw [h, v58_at]
  rfl

theorem zero_bits : (FloatOps.ofBits .f32 0#32 : Ideal .f32) = 0 := by
  show Ideal.ofBits .f32 0#32 = 0
  simp [Ideal.ofBits, Ideal.ieee]

theorem v62_at (b : Fin 4) (n : Fin 32) (g : Fin 2) (c : Fin 4) (p : Fin 128) :
    val_main_v62 (F := Ideal) x0 x1 (ix5 b n g c p)
      = ∑ s, Ideal.exp (val_main_v54 (F := Ideal) x0 x1 (ix6 b n g c p s) - peak x0 x1 b n g c p) := by
  rw [val_main_v62_apply]
  have h0 : (val_main_cst_9 (F := Ideal)) (Shape.Idx.first Gen.h_S_) = 0 := by
    rw [val_main_cst_9_apply]
    exact zero_bits
  rw [h0, zero_add]
  refine Finset.sum_congr rfl fun s _ => ?_
  rw [← v61_at]
  refine congrArg (val_main_v61 (F := Ideal) x0 x1) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem v63_at (b : Fin 4) (n : Fin 32) (g : Fin 2) (c : Fin 4) (p : Fin 128) :
    val_main_v63 (F := Ideal) x0 x1 (ix6 b n g c p 0)
      = ∑ y, Ideal.exp (val_main_v54 (F := Ideal) x0 x1 (ix6 b n g c p y) - peak x0 x1 b n g c p) := by
  rw [val_main_v63_apply, ← v62_at]
  refine congrArg (val_main_v62 (F := Ideal) x0 x1) (funext fun a => ?_)
  match a with
  | ⟨0, _⟩ => rfl
  | ⟨1, _⟩ => rfl
  | ⟨2, _⟩ => rfl
  | ⟨3, _⟩ => rfl
  | ⟨4, _⟩ => rfl

theorem v65_at (b : Fin 4) (n : Fin 32) (g : Fin 2) (c : Fin 4) (p : Fin 128) (s : Fin 257) :
    val_main_v65 (F := Ideal) x0 x1 (ix6 b n g c p s)
      = Ideal.div (Ideal.exp (val_main_v54 (F := Ideal) x0 x1 (ix6 b n g c p s) - peak x0 x1 b n g c p))
          (∑ y, Ideal.exp (val_main_v54 (F := Ideal) x0 x1 (ix6 b n g c p y) - peak x0 x1 b n g c p)) := by
  rw [val_main_v65_apply, val_main_v64_apply]
  have h : idx_main_v64 (ix6 b n g c p s) = ix6 b n g c p 0 := funext fun a => match a with
    | ⟨0, _⟩ => rfl
    | ⟨1, _⟩ => rfl
    | ⟨2, _⟩ => rfl
    | ⟨3, _⟩ => rfl
    | ⟨4, _⟩ => rfl
    | ⟨5, _⟩ => rfl
  rw [h, v61_at, v63_at]
  rfl

end Cert.AttnRefIdeal.Attn

end
-- ==== Proof.Attn.RefOut.lean ====
module

public import proofs.«01_k».proof.Proof.Gen.AttnRefIdeal.Read
public import proofs.«01_k».proof.Proof.Attn.Math

/-! # The weighted values, in the result's order -/

@[expose] public section

set_option maxRecDepth 16384

noncomputable section

namespace Cert.AttnRefIdeal.Attn

open Idealize.ShloMosaic Idealize.ShloMosaic.TcCoe Idealize.SL.Sem Cert.AttnRefIdeal Cert.AttnRefIdeal.Read Cert.Win

variable (x0 : FVec Ideal S4x4096x1792 .f32) (x1 : FVec Ideal S1x8 .f32)

theorem v69_at (b : Fin 4) (n : Fin 32) (p : Fin 128) (g : Fin 2) (c : Fin 4) (d : Fin 64) :
    val_main_v69 (F := Ideal) x0 x1 (ix3 b (row n p) ⟨c.val * 128 + g.val * 64 + d.val, by omega⟩)
      = ∑ s : Fin 256, val_main_v14 (F := Ideal) x0 (ix5 b n s g d)
          * val_main_v65 (F := Ideal) x0 x1 (ix6 b n g c p s.castSucc) := by
  have e1 : ∀ h, (⟨(row n p).val / 128, h⟩ : Fin 32) = n := fun h => Fin.ext (by simp only [row]; omega)
  have e2 : ∀ h, (⟨(row n p).val % 128, h⟩ : Fin 128) = p := fun h => Fin.ext (by simp only [row]; omega)
  pointwise [val_main_v69, val_main_v68, val_main_v67, val_main_v66]
  simp only [e1, e2]
  rfl

end Cert.AttnRefIdeal.Attn

end
-- ==== Proof.Attn.Ref.lean ====
module

public import proofs.«01_k».proof.Proof.Gen.AttnRefIdeal.Read
public import proofs.«01_k».proof.Proof.Attn.RefScore
public import proofs.«01_k».proof.Proof.Attn.RefSink
public import proofs.«01_k».proof.Proof.Attn.RefSoft
public import proofs.«01_k».proof.Proof.Attn.RefOut

/-! # What the reference of the attention computes -/

@[expose] public section

set_option maxRecDepth 16384

noncomputable section

namespace Cert.AttnRefIdeal.Attn

open Idealize.ShloMosaic Idealize.ShloMosaic.TcCoe Idealize.SL.Sem Cert.AttnRefIdeal Cert.AttnRefIdeal.Read Cert.Win

variable (x0 : FVec Ideal S4x4096x1792 .f32) (x1 : FVec Ideal S1x8 .f32)

theorem v54_seen (b : Fin 4) (n : Fin 32) (g : Fin 2) (c : Fin 4) (p : Fin 128) (s : Fin 256) :
    val_main_v54 (F := Ideal) x0 x1 (ix6 b n g c p s.castSucc) = score (zf x0) b n g c p s := by
  rw [v54_at, dif_pos (show s.castSucc.val < 256 from s.isLt), ← v49_at]
  rfl

theorem v54_sink (b : Fin 4) (n : Fin 32) (g : Fin 2) (c : Fin 4) (p : Fin 128) :
    val_main_v54 (F := Ideal) x0 x1 (ix6 b n g c p (Fin.last 256)) = kf x1 (head g c) := by
  rw [v54_at, dif_neg (by simp)]

/-- THE REFERENCE at a query, a head and a feature is the attention there. -/
theorem ref_at (b : Fin 4) (n : Fin 32) (p : Fin 128) (g : Fin 2) (c : Fin 4) (d : Fin 64)
    (hz : ∀ b t (l : Fin 1792), 1024 ≤ l.val → l.val < 1664 → ∃ r : ℝ, zf x0 b t l = r)
    (hk : ∀ h, kf x1 h ≠ ⊤ ∧ kf x1 h ≠ ⊥) :
    val_main_v69 (F := Ideal) x0 x1 (ix3 b (row n p) ⟨c.val * 128 + g.val * 64 + d.val, by omega⟩)
      = attend (zf x0) (kf x1) b n p g c d := by
  rw [v69_at]
  unfold attend
  rw [← mix_eq (score (zf x0) b n g c p) (kf x1 (head g c)) (band (zf x0) b n (vcol g d))
    (fun s => val_main_v54 (F := Ideal) x0 x1 (ix6 b n g c p s)) (fun s => v54_seen x0 x1 b n g c p s)
    (v54_sink x0 x1 b n g c p) (fun s => score_ne_top _ hz b n g c p s) (hk _).1 (hk _).2]
  refine Finset.sum_congr rfl fun s _ => ?_
  rw [v14_at, mul_comm]
  congr 1
  exact v65_at x0 x1 b n g c p s.castSucc

end Cert.AttnRefIdeal.Attn

end
-- ==== Proof.Attn.Cases.lean ====
module

public import proofs.«01_k».proof.Proof.Gen.AttnIdeal.Value
public import proofs.«01_k».proof.Proof.Attn.Pay
public import Idealize.ShloMosaic.Lib.Pipeline.ReadBack

/-! # What a grid point of the attention leaves behind

The first block of an entry clears the carried keys and values before it reads them; every block leaves its own keys and
values for the next one. -/

@[expose] public section

set_option maxRecDepth 16384

noncomputable section

namespace Cert.AttnIdeal.Attn

open Idealize.ShloMosaic Idealize.ShloMosaic.TcCoe Idealize.SL.Sem Cert.AttnIdeal Cert.AttnIdeal.Gen Cert.Win

variable (m : (ℓ : Loc nD τ sig) → Buf (Elt Ideal) ℓ)

/-- The block a point stores, over the queries, keys, values and sinks it reads and the keys and values it finds. -/
abbrev stored (w : BitVec 32) (q : FVec Ideal S1x128x512 .f32) (k v : FVec Ideal S1x128x128 .f32) (s : FVec Ideal S1024x1 .f32)
    (kp vp : FVec Ideal S128x128 .f32) : FVec Ideal S1x128x512 .f32 :=
  k0_pay17 k0_pay3 (k0_pay15 v vp) (k0_pay16 w k0_pay3 (k0_pay5 q) (k0_pay6 q) (k0_pay7 q) (k0_pay8 q) (k0_pay9 q)
    (k0_pay10 q) (k0_pay11 q) (k0_pay12 q) (constantI S128x128 1 1#1) k kp) s

theorem keys (c : Dev nD) (t : Fin cfg0.N) : (outsAt0 m c t.val t.isLt).2.1 = k0_pay18 (k0_pay13 (iblk m c 1 t)) := by
  by_cases h0 : t.val % 32 = 0
  · rw [outsAt0_A m c t h0]
    frame_out
  · rw [outsAt0_B m c t h0]
    frame_out

theorem values (c : Dev nD) (t : Fin cfg0.N) : (outsAt0 m c t.val t.isLt).2.2 = k0_pay19 (k0_pay14 (iblk m c 2 t)) := by
  by_cases h0 : t.val % 32 = 0
  · rw [outsAt0_A m c t h0]
    frame_out
  · rw [outsAt0_B m c t h0]
    frame_out

theorem first (c : Dev nD) (t : Fin cfg0.N) (h0 : t.val % 32 = 0) :
    (outsAt0 m c t.val t.isLt).1 = stored (BitVec.ofNat 32 (grid0.coords t 1)) (X0_0 m c t) (iblk m c 1 t) (iblk m c 2 t) (iblk m c 3 t)
      k0_pay1 k0_pay2 := by
  rw [outsAt0_A m c t h0]
  frame_out

theorem later (c : Dev nD) (t : Fin cfg0.N) (h0 : ¬t.val % 32 = 0) :
    (outsAt0 m c t.val t.isLt).1 = stored (BitVec.ofNat 32 (grid0.coords t 1)) (X0_0 m c t) (iblk m c 1 t) (iblk m c 2 t) (iblk m c 3 t)
      (outsAt0 m c (t.val - 1) (Nat.lt_of_le_of_lt (Nat.sub_le _ _) t.isLt)).2.1
      (outsAt0 m c (t.val - 1) (Nat.lt_of_le_of_lt (Nat.sub_le _ _) t.isLt)).2.2 := by
  rw [outsAt0_B m c t h0]
  frame_out
  simp only [read_unread_whole]

end Cert.AttnIdeal.Attn

end
-- ==== Proof.Attn.Blocks.lean ====
module

public import proofs.«01_k».proof.Proof.Gen.AttnIdeal.Value
public import proofs.«01_k».proof.Proof.Attn.Pay

/-! # The blocks a grid point of the attention reads, as the argument arrays -/

@[expose] public section

set_option maxRecDepth 16384

noncomputable section

namespace Cert.AttnIdeal.Attn

open Idealize.ShloMosaic Idealize.ShloMosaic.TcCoe Idealize.SL.Sem Cert.AttnIdeal Cert.AttnIdeal.Gen Cert.Win

variable (m : (ℓ : Loc nD τ sig) → Buf (Elt Ideal) ℓ)

theorem idx : ∀ t : Fin cfg0.N, win0_0.index t = ![t.val / 32, t.val % 32, 2] ∧ win0_1.index t = ![t.val / 32, t.val % 32, 12]
    ∧ win0_2.index t = ![t.val / 32, t.val % 32, 13] ∧ win0_3.index t = ![0, 0]
    ∧ win0_4.index t = ![t.val / 32, t.val % 32, 0] ∧ (grid0.coords t 1 : ℕ) = t.val % 32 ∧ t.val < 128
    ∧ Scalar.cmpi .sgt (BitVec.ofNat 32 (grid0.coords t 1)) 0#32 = if 0 < t.val % 32 then 1#1 else 0#1 :=
  (by decide +kernel : ∀ t : Fin grid0.N, _)

/-- The entry of the batch of a point. -/
def entryOf (t : Fin cfg0.N) : Fin 4 := ⟨t.val / 32, by have h := lt_of_lt_of_eq t.isLt N_0; omega⟩

/-- The block of 128 queries of a point. -/
def blockOf (t : Fin cfg0.N) : Fin 32 := ⟨t.val % 32, Nat.mod_lt _ (by decide)⟩

/-- The projected rows and the sinks. -/
abbrev rows (c : Dev nD) (b : Fin 4) (s : Fin 4096) (l : Fin 1792) : EReal :=
  m ((c : Thread nD τ).loc main_arg0) (ix3 b s l)
abbrev sinks (c : Dev nD) (h : Fin 8) : EReal := m ((c : Thread nD τ).loc main_arg1) (ix2 0 h)

theorem blk0 (c : Dev nD) (t : Fin cfg0.N) (p : Fin 128) (d : Fin 512) :
    (X0_0 m c t : FVec Ideal S1x128x512 .f32) (ix3 0 p d)
      = rows m c (entryOf t) (row (blockOf t) p) ⟨1024 + d.val, by omega⟩ := by
  unfold X0_0 Pipeline.Window.fill
  rw [dif_pos (moved0_0 t _)]
  blk_ext [iblk, V, idx t, entryOf, blockOf, row]

theorem blk1 (c : Dev nD) (t : Fin cfg0.N) (p d : Fin 128) :
    (iblk m c 1 t : FVec Ideal S1x128x128 .f32) (ix3 0 p d)
      = rows m c (entryOf t) (row (blockOf t) p) ⟨1536 + d.val, by omega⟩ := by
  blk_ext [iblk, V, idx t, entryOf, blockOf, row]

theorem blk2 (c : Dev nD) (t : Fin cfg0.N) (p d : Fin 128) :
    (iblk m c 2 t : FVec Ideal S1x128x128 .f32) (ix3 0 p d)
      = rows m c (entryOf t) (row (blockOf t) p) ⟨1664 + d.val, by omega⟩ := by
  blk_ext [iblk, V, idx t, entryOf, blockOf, row]

theorem blk3 (c : Dev nD) (t : Fin cfg0.N) (h : Fin 8) (p : Fin 128) :
    (iblk m c 3 t : FVec Ideal S1024x1 .f32) (ix2 ⟨h.val * 128 + p.val, by omega⟩ 0) = sinks m c h := by
  blk_simp [iblk, idx t]
  entry_read
  pointwise
  blk_ext [idx t]

end Cert.AttnIdeal.Attn

end
-- ==== Proof.Attn.Out.lean ====
module

public import proofs.«01_k».proof.Proof.Gen.AttnIdeal.Skeleton
public import proofs.«01_k».proof.Proof.Attn.Math

/-! # What the attention's stored block holds, read at an index -/

@[expose] public section

set_option maxRecDepth 16384

noncomputable section

namespace Cert.AttnIdeal.Attn

open Idealize.ShloMosaic Idealize.ShloMosaic.TcCoe Idealize.SL.Sem Cert.AttnIdeal Cert.AttnIdeal.Gen Cert.Win

/-- The attention of the row `r` of the stacked heads at lane `l`. -/
def rowOut (v : FVec Ideal S256x128 .f32) (s : FVec Ideal S8x128x256 .f32) (k : FVec Ideal S1024x1 .f32)
    (h : Fin 8) (p : Fin 128) (l : Fin 128) : EReal :=
  mix (fun x => s (ix3 h p x)) (k (ix2 ⟨h.val * 128 + p.val, by omega⟩ 0)) fun x => v (ix2 x l)

theorem rowOut_of (v : FVec Ideal S256x128 .f32) (s : FVec Ideal S8x128x256 .f32) (k : FVec Ideal S1024x1 .f32)
    (h h' : Fin 8) (p p' : Fin 128) (r : Fin 1024) (l l' : Fin 128) (e1 : h.val = h'.val) (e2 : p.val = p'.val)
    (e3 : r.val = h'.val * 128 + p'.val) (e4 : l.val = l'.val) :
    mix (fun x => s (ix3 h p x)) (k (ix2 r 0)) (fun x => v (ix2 x l)) = rowOut v s k h' p' l' := by
  obtain rfl := Fin.ext e1
  obtain rfl := Fin.ext e2
  obtain rfl := Fin.ext e4
  have e : r = ⟨h.val * 128 + p.val, by omega⟩ := Fin.ext e3
  rw [e]
  rfl

theorem select_congr (w w' : BitVec 1) (a a' b b' : EReal) (h : w = w') (h1 : a = a') (h2 : b = b') :
    Scalar.select w a b = Scalar.select w' a' b' := by subst h h1 h2; rfl

set_option maxHeartbeats 4000000 in
/-- The stored block: lane `l` of the `c`-th group of 128 takes head `c` below lane 64 and head `c + 4` above. -/
theorem out_at (lo : IVec S128x128 1) (v : FVec Ideal S256x128 .f32) (s : FVec Ideal S8x128x256 .f32)
    (k : FVec Ideal S1024x1 .f32) (p : Fin 128) (d : Fin 512) :
    k0_pay17 (F := Ideal) lo v s k (ix3 0 p d)
    = Scalar.select (lo (ix2 p ⟨d.val % 128, by omega⟩)) (rowOut v s k ⟨d.val / 128, by omega⟩ p ⟨d.val % 128, by omega⟩)
        (rowOut v s k ⟨d.val / 128 + 4, by omega⟩ p ⟨d.val % 128, by omega⟩) := by
  pointwise [k0_pay17]
  split_ifs
  all_goals
    refine select_congr _ _ _ _ _ _ (congrArg (fun i => lo (ix2 p i)) (Fin.ext (by simp only [] <;> omega))) ?_ ?_
    · exact rowOut_of v s k _ _ _ _ _ _ _ (by simp only [] <;> omega) (by simp only [] <;> omega) (by simp only [] <;> omega)
        (by simp only [] <;> omega)
    · exact rowOut_of v s k _ _ _ _ _ _ _ (by simp only [] <;> omega) (by simp only [] <;> omega) (by simp only [] <;> omega)
        (by simp only [] <;> omega)

end Cert.AttnIdeal.Attn

end
-- ==== Proof.Attn.Lanes.lean ====
module

public import proofs.«01_k».proof.Proof.Attn.Math

/-! # A product over 128 lanes half of which are zero

A row of the queries with one half of its lanes cleared, against both key heads side by side, is the product with the one
head the kept half belongs to. -/

@[expose] public section

set_option maxRecDepth 16384

noncomputable section

namespace Cert.Win

open Idealize.ShloMosaic

/-- The sum over 128 lanes of a row cleared outside the half `g` is the sum over the 64 lanes of that half. -/
theorem sum_half (g : Fin 2) (lower : Prop) [Decidable lower] (hl : lower ↔ g.val = 0) (a b : Fin 128 → EReal) :
    (∑ x : Fin 128, (if (x.val < 64) = lower then a x else 0) * b x)
      = ∑ d : Fin 64, a ⟨g.val * 64 + d.val, by omega⟩ * b ⟨g.val * 64 + d.val, by omega⟩ := by
  have h : (∑ x : Fin 128, (if (x.val < 64) = lower then a x else 0) * b x)
      = (∑ d : Fin 64, (if ((Fin.castAdd 64 d : Fin (64 + 64)).val < 64) = lower then a (Fin.castAdd 64 d) else 0)
            * b (Fin.castAdd 64 d))
        + ∑ d : Fin 64, (if ((Fin.natAdd 64 d : Fin (64 + 64)).val < 64) = lower then a (Fin.natAdd 64 d) else 0)
            * b (Fin.natAdd 64 d) := Fin.sum_univ_add (a := 64) (b := 64) fun x : Fin (64 + 64) =>
          (if (x.val < 64) = lower then a x else 0) * b x
  rw [h]
  have hd : ∀ d : Fin 64, (Fin.castAdd 64 d : Fin (64 + 64)).val < 64 := fun d => d.isLt
  have hu : ∀ d : Fin 64, ¬ (Fin.natAdd 64 d : Fin (64 + 64)).val < 64 := fun d => by simp
  by_cases hg : g.val = 0
  · have hL : lower := hl.mpr hg
    have z : (∑ d : Fin 64, (if ((Fin.natAdd 64 d : Fin (64 + 64)).val < 64) = lower then a (Fin.natAdd 64 d) else 0)
            * b (Fin.natAdd 64 d)) = 0 := Finset.sum_eq_zero fun d _ => by
      rw [if_neg (by simp [hL]), zero_mul]
    rw [z, add_zero]
    refine Finset.sum_congr rfl fun d _ => ?_
    rw [if_pos (by simp [hL])]
    congr 2 <;> exact Fin.ext (by simp [hg])
  · have hL : ¬ lower := fun x => hg (hl.mp x)
    have hg1 : g.val = 1 := by omega
    have z : (∑ d : Fin 64, (if ((Fin.castAdd 64 d : Fin (64 + 64)).val < 64) = lower then a (Fin.castAdd 64 d) else 0)
            * b (Fin.castAdd 64 d)) = 0 := Finset.sum_eq_zero fun d _ => by
      rw [if_neg (by simp [hL]), zero_mul]
    rw [z, zero_add]
    refine Finset.sum_congr rfl fun d _ => ?_
    rw [if_pos (by simp [hL])]
    congr 2 <;> exact Fin.ext (by simp [hg1]; omega)

end Cert.Win

end
-- ==== Proof.Attn.Final.lean ====
module

public import proofs.«01_k».proof.Proof.Attn.Cases
public import proofs.«01_k».proof.Proof.Attn.Blocks
public import proofs.«01_k».proof.Proof.Attn.Out
public import proofs.«01_k».proof.Proof.Attn.Lanes

/-! # The attention kernel's result array is the attention -/

@[expose] public section

set_option maxRecDepth 16384

noncomputable section

namespace Cert.AttnIdeal.Attn

open Idealize.ShloMosaic Idealize.ShloMosaic.TcCoe Idealize.SL.Sem Cert.AttnIdeal Cert.AttnIdeal.Gen Cert.Win

variable (m : (ℓ : Loc nD τ sig) → Buf (Elt Ideal) ℓ)

/-- The keys (or the values) at place `s` of the band: the carried ones, then the point's own. -/
theorem band_at (c : Dev nD) (t : Fin cfg0.N) (o : ℕ) (ho : o + 128 ≤ 1792) (k : FVec Ideal S1x128x128 .f32)
    (kp : FVec Ideal S128x128 .f32)
    (hp : ∀ (s x : Fin 128), kp (ix2 s x) = band (rows m c) (entryOf t) (blockOf t) ⟨o + x.val, by omega⟩ ⟨s.val, by omega⟩)
    (hk : ∀ (s x : Fin 128), k (ix3 0 s x) = rows m c (entryOf t) (row (blockOf t) s) ⟨o + x.val, by omega⟩)
    (s : Fin 256) (x : Fin 128) :
    (if h : s.val < 128 then kp (ix2 ⟨s.val, h⟩ x) else k (ix3 0 ⟨s.val - 128, by omega⟩ x))
      = band (rows m c) (entryOf t) (blockOf t) ⟨o + x.val, by omega⟩ s := by
  by_cases h : s.val < 128
  · rw [dif_pos h, hp]
  · rw [dif_neg h, hk, band, dif_neg (by omega)]
    refine congrArg (fun r => rows m c (entryOf t) r _) (Fin.ext ?_)
    simp only [row]
    omega

/-- The value a lane takes, by the half of the 128 lanes it lies in. -/
theorem select_half (g : Fin 2) (l : Fin 128) (hl : l.val < 64 ↔ g.val = 0) (a b r : EReal) (ha : g.val = 0 → a = r)
    (hb : g.val = 1 → b = r) : Scalar.select (if l.val < 64 then 1#1 else 0#1) a b = r := by
  by_cases hg : g.val = 0
  · rw [if_pos (hl.mpr hg)]
    exact ha hg
  · rw [if_neg fun h => hg (hl.mp h)]
    exact hb (by omega)

/-- The stored block of a point whose carried keys and values are the block before (zeros before the first). -/
theorem stored_at (c : Dev nD) (t : Fin cfg0.N) (kp vp : FVec Ideal S128x128 .f32)
    (hk : ∀ (s x : Fin 128), kp (ix2 s x) = band (rows m c) (entryOf t) (blockOf t) ⟨1536 + x.val, by omega⟩ ⟨s.val, by omega⟩)
    (hv : ∀ (s x : Fin 128), vp (ix2 s x) = band (rows m c) (entryOf t) (blockOf t) ⟨1664 + x.val, by omega⟩ ⟨s.val, by omega⟩)
    (p : Fin 128) (g : Fin 2) (h : Fin 4) (d : Fin 64) :
    stored (BitVec.ofNat 32 (grid0.coords t 1)) (X0_0 m c t) (iblk m c 1 t) (iblk m c 2 t) (iblk m c 3 t) kp vp
        (ix3 0 p ⟨h.val * 128 + g.val * 64 + d.val, by omega⟩)
      = attend (rows m c) (sinks m c) (entryOf t) (blockOf t) p g h d := by
  have hw : Scalar.cmpi .sgt (BitVec.ofNat 32 (grid0.coords t 1)) 0#32 = if 0 < (blockOf t).val then 1#1 else 0#1 :=
    (idx t).2.2.2.2.2.2.2
  have hs : ∀ s : Fin 256, k0_pay16 (F := Ideal) (BitVec.ofNat 32 (grid0.coords t 1)) k0_pay3 (k0_pay5 (X0_0 m c t))
      (k0_pay6 (X0_0 m c t)) (k0_pay7 (X0_0 m c t)) (k0_pay8 (X0_0 m c t)) (k0_pay9 (X0_0 m c t)) (k0_pay10 (X0_0 m c t))
      (k0_pay11 (X0_0 m c t)) (k0_pay12 (X0_0 m c t)) (constantI S128x128 1 1#1) (iblk m c 1 t) kp (ix3 (head g h) p s)
      = score (rows m c) (entryOf t) (blockOf t) g h p s := fun s => by
    refine (scores_at (X0_0 m c t) _ (blockOf t) hw (iblk m c 1 t) kp (head g h) p s).trans ?_
    unfold score dot
    refine if_congr Iff.rfl (congrArg (· * _) ?_) rfl
    refine (sum_half g ((head g h).val < 4) (by simp only [head]; omega)
      (fun x => (X0_0 m c t : FVec Ideal S1x128x512 .f32) (ix3 0 p ⟨(head g h).val % 4 * 128 + x.val, by omega⟩)) _).trans ?_
    refine Finset.sum_congr rfl fun d _ => Ideal.mul_congr ?_ ?_
    · refine (blk0 m c t p _).trans (congrArg (rows m c _ _) (Fin.ext ?_))
      simp only [qcol, head]
      omega
    · exact band_at m c t 1536 (by omega) (iblk m c 1 t) kp hk (blk1 m c t) s ⟨g.val * 64 + d.val, by omega⟩
  have hvs : ∀ s : Fin 256, k0_pay15 (F := Ideal) (iblk m c 2 t) vp (ix2 s ⟨g.val * 64 + d.val, by omega⟩)
      = band (rows m c) (entryOf t) (blockOf t) (vcol g d) s := fun s => by
    refine (pay15_at (iblk m c 2 t) vp s ⟨g.val * 64 + d.val, by omega⟩).trans ?_
    exact band_at m c t 1664 (by omega) (iblk m c 2 t) vp hv (blk2 m c t) s ⟨g.val * 64 + d.val, by omega⟩
  have hsink := blk3 m c t (head g h) p
  have hr : rowOut (k0_pay15 (iblk m c 2 t) vp) (k0_pay16 (F := Ideal) (BitVec.ofNat 32 (grid0.coords t 1)) k0_pay3
      (k0_pay5 (X0_0 m c t)) (k0_pay6 (X0_0 m c t)) (k0_pay7 (X0_0 m c t)) (k0_pay8 (X0_0 m c t)) (k0_pay9 (X0_0 m c t))
      (k0_pay10 (X0_0 m c t)) (k0_pay11 (X0_0 m c t)) (k0_pay12 (X0_0 m c t)) (constantI S128x128 1 1#1) (iblk m c 1 t) kp)
      (iblk m c 3 t) (head g h) p ⟨g.val * 64 + d.val, by omega⟩
      = attend (rows m c) (sinks m c) (entryOf t) (blockOf t) p g h d := by
    unfold rowOut attend
    rw [funext hs, funext hvs, hsink]
  refine (out_at _ _ _ _ p _).trans ?_
  rw [low_at]
  refine select_half g _ (by simp only []; omega) _ _ _ (fun hg => ?_) fun hg => ?_
  · rw [← hr]
    exact rowOut_of _ _ _ _ _ _ _ _ _ _ (by simp only [head]; omega) rfl (by simp only [head]; omega) (by simp only []; omega)
  · rw [← hr]
    exact rowOut_of _ _ _ _ _ _ _ _ _ _ (by simp only [head]; omega) rfl (by simp only [head]; omega) (by simp only []; omega)

theorem zero_before (c : Dev nD) (t : Fin cfg0.N) (h0 : t.val % 32 = 0) (col : Fin 1792) (s : Fin 128) :
    band (rows m c) (entryOf t) (blockOf t) col ⟨s.val, by omega⟩ = 0 := by
  rw [band, dif_pos (by simp only [blockOf]; omega)]

theorem before_row (c : Dev nD) (t t' : Fin cfg0.N) (ht : t'.val = t.val - 1) (h0 : ¬t.val % 32 = 0) (col : Fin 1792) (s : Fin 128) :
    rows m c (entryOf t') (row (blockOf t') s) col = band (rows m c) (entryOf t) (blockOf t) col ⟨s.val, by omega⟩ := by
  rw [band, dif_neg (by simp only [blockOf]; omega)]
  have e1 : entryOf t' = entryOf t := Fin.ext (by simp only [entryOf]; omega)
  have e2 : row (blockOf t') s = ⟨(blockOf t).val * 128 + s.val - 128, by omega⟩ :=
    Fin.ext (by simp only [row, blockOf]; omega)
  rw [e1, e2]

/-- What a point stores, at a query, a head and a feature. -/
theorem out_attend (c : Dev nD) (t : Fin cfg0.N) (p : Fin 128) (g : Fin 2) (h : Fin 4) (d : Fin 64) :
    (outsAt0 m c t.val t.isLt).1 (ix3 0 p ⟨h.val * 128 + g.val * 64 + d.val, by omega⟩)
      = attend (rows m c) (sinks m c) (entryOf t) (blockOf t) p g h d := by
  by_cases h0 : t.val % 32 = 0
  · rw [first m c t h0]
    exact stored_at m c t _ _ (fun s x => (pay1_at s x).trans (zero_before m c t h0 _ s).symm)
      (fun s x => (pay2_at s x).trans (zero_before m c t h0 _ s).symm) p g h d
  · rw [later m c t h0]
    have hb : t.val - 1 < cfg0.N := Nat.lt_of_le_of_lt (Nat.sub_le _ _) t.isLt
    refine stored_at m c t _ _ (fun s x => ?_) (fun s x => ?_) p g h d
    · rw [keys m c ⟨t.val - 1, hb⟩]
      refine (pay18_at _ s x).trans ((blk1 m c ⟨t.val - 1, hb⟩ s x).trans ?_)
      exact before_row m c t ⟨t.val - 1, hb⟩ rfl h0 _ s
    · rw [values m c ⟨t.val - 1, hb⟩]
      refine (pay19_at _ s x).trans ((blk2 m c ⟨t.val - 1, hb⟩ s x).trans ?_)
      exact before_row m c t ⟨t.val - 1, hb⟩ rfl h0 _ s

/-- The attention over the kernel's arguments, as an array. -/
def result (c : Dev nD) : FVec Ideal S4x4096x512 .f32 := fun i =>
  attend (rows m c) (sinks m c) (i 0) ⟨(i 1).val / 128, by have := (i 1).isLt; simp at this; omega⟩
    ⟨(i 1).val % 128, by omega⟩ ⟨(i 2).val % 128 / 64, by omega⟩
    ⟨(i 2).val / 128, by have := (i 2).isLt; simp at this; omega⟩ ⟨(i 2).val % 64, by omega⟩

theorem attend_congr (z : Fin 4 → Fin 4096 → Fin 1792 → EReal) (k : Fin 8 → EReal) {b b' : Fin 4} {n n' : Fin 32}
    {p p' : Fin 128} {g g' : Fin 2} {h h' : Fin 4} {d d' : Fin 64} (e1 : b.val = b'.val) (e2 : n.val = n'.val)
    (e3 : p.val = p'.val) (e4 : g.val = g'.val) (e5 : h.val = h'.val) (e6 : d.val = d'.val) :
    attend z k b n p g h d = attend z k b' n' p' g' h' d' := by
  rw [Fin.ext e1, Fin.ext e2, Fin.ext e3, Fin.ext e4, Fin.ext e5, Fin.ext e6]

/-- What a point stores at a block index is the attention at the array index it is written to. -/
theorem point (c : Dev nD) (t : Fin cfg0.N) (y : S1x128x512.Idx) (i : S4x4096x512.Idx)
    (h : i = ix3 (entryOf t) (row (blockOf t) (y 1)) (y 2)) : (outsAt0 m c t.val t.isLt).1 y = result m c i := by
  subst h
  idx_vars y
  obtain rfl : y0 = 0 := Subsingleton.elim _ _
  show (outsAt0 m c t.val t.isLt).1 (ix3 0 y1 y2) = result m c (ix3 (entryOf t) (row (blockOf t) y1) y2)
  have e : ix3 (0 : Fin 1) y1 y2 = ix3 0 y1 ⟨(⟨y2.val / 128, by omega⟩ : Fin 4).val * 128
      + (⟨y2.val % 128 / 64, by omega⟩ : Fin 2).val * 64 + (⟨y2.val % 64, by omega⟩ : Fin 64).val, by simp only []; omega⟩ := by
    congr 1
    exact Fin.ext (by simp only []; omega)
  rw [e, out_attend]
  refine attend_congr _ _ rfl ?_ ?_ ?_ ?_ ?_ <;> simp [row, blockOf, entryOf] <;> omega

/-- The result array after the run. -/
theorem final (c : Dev nD) : (dats m 0 c).arrAt 4 (cfgs 0).N = result m c := by
  refine (dats m 0 c).arrAt_eq_of_covers 4 _ (by decide +kernel) fun t hf y => ?_
  blk_simp
  rw [after0_4]
  refine point m c t y _ ?_
  blk_ext [idx t, entryOf, blockOf, row]

end Cert.AttnIdeal.Attn

end
-- ==== Proof.Attn.Claim.lean ====
module

public import proofs.«01_k».proof.Defs
public import proofs.«01_k».proof.Proof.Gen.AttnRefIdeal.Run
public import proofs.«01_k».proof.Proof.Gen.AttnRefIdeal.Read
public import proofs.«01_k».proof.Proof.Gen.Pre_finite_scores
public import proofs.«01_k».proof.Proof.Attn.Ref
public import proofs.«01_k».proof.Proof.Attn.Final
public import Idealize.ShloMosaic.Adequacy
public import Idealize.ShloMosaic.Init

/-! # The attention and its reference give equal results where queries, keys and sinks are finite -/

@[expose] public section

set_option maxRecDepth 16384

noncomputable section

namespace Cert.AttnPair

open Idealize.ShloMosaic Idealize.ShloMosaic.TcCoe Idealize.SL.Sem Cert.Win

/-- An extended real whose absolute value is below plus infinity is a real. -/
theorem real_of_lt (x : EReal) (h : max x (-x) < ⊤) : ∃ r : ℝ, x = r := by
  induction x with
  | bot => simp at h
  | top => simp at h
  | coe r => exact ⟨r, rfl⟩

theorem below (x y : EReal) (hy : y = ⊤) (h : Ideal.cmp .olt (max x (-x)) y = 1#1) : ∃ r : ℝ, x = r := by
  subst hy
  refine real_of_lt x ?_
  by_contra hn
  simp [Ideal.cmp, hn] at h

theorem inf_eq : Ideal.ofBits .f32 0x7F800000#32 = ⊤ := by
  simp [Ideal.ofBits, Ideal.ieee]

/-- The condition on a query, key or value of the projected rows. -/
theorem cond_rows (x0 : FVec Ideal Cert.Pre_finite_scores.S4x4096x1792 .f32) (x1 : FVec Ideal Cert.Pre_finite_scores.S1x8 .f32)
    (h : (Cert.Pre_finite_scores.fn (F := Ideal) x0 x1).1 = fun _ => 1#1) (b : Fin 4) (t : Fin 4096) (l : Fin 640) :
    ∃ r : ℝ, (x0 (ix3 b t ⟨1024 + l.val, by omega⟩) : EReal) = r := by
  refine below _ (Ideal.ofBits .f32 0x7F800000#32) inf_eq ((congrFun h (ix3 b t l)).symm.trans ?_).symm
  pointwise [Cert.Pre_finite_scores.fn]
  rfl

/-- The condition on a sink. -/
theorem cond_sinks (x0 : FVec Ideal Cert.Pre_finite_scores.S4x4096x1792 .f32) (x1 : FVec Ideal Cert.Pre_finite_scores.S1x8 .f32)
    (h : (Cert.Pre_finite_scores.fn (F := Ideal) x0 x1).2 = fun _ => 1#1) (k : Fin 8) :
    ∃ r : ℝ, (x1 (ix2 0 k) : EReal) = r := by
  refine below _ (Ideal.ofBits .f32 0x7F800000#32) inf_eq ((congrFun h (ix2 0 k)).symm.trans ?_).symm
  pointwise [Cert.Pre_finite_scores.fn]
  rfl

open Cert.AttnRefIdeal.Attn in
/-- The reference at an array index, its row and its column taken apart. -/
theorem ref_entry (x0 : FVec Ideal Cert.AttnRefIdeal.S4x4096x1792 .f32) (x1 : FVec Ideal Cert.AttnRefIdeal.S1x8 .f32)
    (h0 : (Cert.Pre_finite_scores.fn (F := Ideal) x0 x1).1 = fun _ => 1#1)
    (h1 : (Cert.Pre_finite_scores.fn (F := Ideal) x0 x1).2 = fun _ => 1#1) (b : Fin 4) (s : Fin 4096) (l : Fin 512) :
    Cert.AttnRefIdeal.Read.val_main_v69 (F := Ideal) x0 x1 (ix3 b s l)
      = attend (zf x0) (kf x1) b ⟨s.val / 128, by omega⟩ ⟨s.val % 128, by omega⟩ ⟨l.val % 128 / 64, by omega⟩
        ⟨l.val / 128, by omega⟩ ⟨l.val % 64, by omega⟩ := by
  refine Eq.trans (congrArg _ ?_) (ref_at x0 x1 b ⟨s.val / 128, by omega⟩ ⟨s.val % 128, by omega⟩
    ⟨l.val % 128 / 64, by omega⟩ ⟨l.val / 128, by omega⟩ ⟨l.val % 64, by omega⟩ ?_ ?_)
  · have e1 : s = row ⟨s.val / 128, by omega⟩ ⟨s.val % 128, by omega⟩ := Fin.ext (by simp only [row]; omega)
    have e2 : l = ⟨l.val / 128 * 128 + l.val % 128 / 64 * 64 + l.val % 64, by omega⟩ := Fin.ext (by simp only []; omega)
    exact congrArg₂ (ix3 b) e1 e2
  · intro b t l hl hl'
    obtain ⟨r, hr⟩ := cond_rows x0 x1 h0 b t ⟨l.val - 1024, by omega⟩
    refine ⟨r, Eq.trans ?_ hr⟩
    have e : l = ⟨1024 + (l.val - 1024), by omega⟩ := Fin.ext (by simp only []; omega)
    exact congrArg (fun q => (x0 (ix3 b t q) : EReal)) e
  · intro k
    obtain ⟨r, hr⟩ := cond_sinks x0 x1 h1 k
    have hr' : kf x1 k = r := hr
    rw [hr']
    exact ⟨EReal.coe_ne_top r, EReal.coe_ne_bot r⟩

/-- The kernel's run, its result array read as the attention. -/
theorem algebraic : algebraic_AttnIdeal_AttnRefIdeal_pre_finite_scores := by
  intro m ρ m' ρ' hpre hagree
  refine ⟨_, Cert.AttnIdeal.Value.run_blocks (F := Ideal) m ρ, ?_⟩
  refine (θ_run Cert.AttnRefIdeal.defs _ _).mono (fun _ h c => ⟨?_, (h c).2⟩) (Cert.AttnRefIdeal.Value.run (F := Ideal) m' ρ')
  rw [(h c).1, Cert.AttnRefIdeal.Read.val_main_v69_eq]
  obtain ⟨a0, a1⟩ := hagree c
  rw [a0, a1]
  refine Eq.trans ?_ (Cert.AttnIdeal.Attn.final m c).symm
  funext i
  idx_vars i
  exact ref_entry _ _ (hpre c).1 (hpre c).2 _ _ _

end Cert.AttnPair

end
-- ==== Proof.Inproj.Math.lean ====
module

public import Idealize.ShloMosaic.Lib.Pipeline.ValueKit

/-! # What the input projection computes -/

@[expose] public section

set_option maxRecDepth 16384

noncomputable section

namespace Cert.Proj

open Idealize.ShloMosaic

/-- The column of the weights a stored column comes from: the queries' heads are stored in the order 0, 4, 1, 5, 2, 6, 3, 7. -/
def column (l : Fin 1792) : Fin 1792 :=
  if h : 1024 ≤ l.val ∧ l.val < 1536 then
    ⟨1024 + ((l.val - 1024) % 128 / 64 * 256 + (l.val - 1024) / 128 * 64 + l.val % 64), by omega⟩
  else l

/-- The modulated rows through the weights' stored columns. -/
def project (x : Fin 4 → Fin 4096 → Fin 1024 → EReal) (md : Fin 4 → Fin 6 → Fin 1024 → EReal) (w : Fin 1024 → Fin 1792 → EReal)
    (b : Fin 4) (t : Fin 4096) (l : Fin 1792) : EReal :=
  ∑ d, (x b t d * (1 + md b 1 d) + md b 0 d) * w d (column l)

end Cert.Proj

end
-- ==== Proof.Inproj.Ref.lean ====
module

public import proofs.«01_k».proof.Proof.Gen.InprojRefIdeal.Read
public import proofs.«01_k».proof.Proof.Inproj.Math

/-! # What the reference of the input projection computes -/

@[expose] public section

set_option maxRecDepth 16384

noncomputable section

namespace Cert.InprojRefIdeal.Proj

open Idealize.ShloMosaic Idealize.ShloMosaic.TcCoe Idealize.SL.Sem Cert.InprojRefIdeal Cert.InprojRefIdeal.Read Cert.Proj

variable (x0 : FVec Ideal S4x4096x1024 .f32) (x1 : FVec Ideal S4x6x1024 .f32) (x2 : FVec Ideal S1x1024x1792 .f32)

theorem v9_at (b : Fin 4) (t : Fin 4096) (l : Fin 1792) : val_main_v9 (F := Ideal) x0 x1 x2 (ix3 b t l)
    = ∑ d, (x0 (ix3 b t d) * (1 + x1 (ix3 b 1 d)) + x1 (ix3 b 0 d)) * x2 (ix3 0 d l) := by
  pointwise [val_main_v9, val_main_v8, val_main_v7, val_main_v6, val_main_v5, val_main_v4, val_main_v3, val_main_v2,
    val_main_v1, val_main_v0, val_main_cst]

theorem v15_at (b : Fin 4) (t : Fin 4096) (g : Fin 2) (k : Fin 4) (e : Fin 64) :
    val_main_v15 (F := Ideal) x0 x1 x2 (ix5 b t g k e)
      = val_main_v9 (F := Ideal) x0 x1 x2 (ix3 b t ⟨1024 + ((g.val * 4 + k.val) * 64 + e.val), by omega⟩) := by
  rw [val_main_v15_apply, val_main_v12_apply]
  refine congrArg (val_main_v9 (F := Ideal) x0 x1 x2) (funext fun a => ?_)
  match a with
  | ⟨0, _⟩ =>
    apply Fin.ext
    show ((((b.val * 4096 + t.val) * 2 + g.val) * 4 + k.val) * 64 + e.val) / 2097152 = b.val
    omega
  | ⟨1, _⟩ =>
    apply Fin.ext
    show ((((b.val * 4096 + t.val) * 2 + g.val) * 4 + k.val) * 64 + e.val) / 512 % 4096 = t.val
    omega
  | ⟨2, _⟩ =>
    apply Fin.ext
    show 1024 + ((((b.val * 4096 + t.val) * 2 + g.val) * 4 + k.val) * 64 + e.val) % 512 = 1024 + ((g.val * 4 + k.val) * 64 + e.val)
    omega

/-- The queries with their heads in the stored order. -/
theorem v17_at (b : Fin 4) (t : Fin 4096) (q : Fin 512) : val_main_v17 (F := Ideal) x0 x1 x2 (ix3 b t q)
    = val_main_v9 (F := Ideal) x0 x1 x2 (ix3 b t ⟨1024 + (q.val % 128 / 64 * 256 + q.val / 128 * 64 + q.val % 64), by omega⟩) := by
  have h := v15_at x0 x1 x2 b t ⟨q.val % 128 / 64, by omega⟩ ⟨q.val / 128, by omega⟩ ⟨q.val % 64, by omega⟩
  rw [val_main_v17_apply, val_main_v16_apply]
  refine Eq.trans (congrArg (val_main_v15 (F := Ideal) x0 x1 x2) (funext fun a => ?_)) (h.trans ?_)
  · match a with
    | ⟨0, _⟩ =>
      apply Fin.ext
      show ((b.val * 4096 + t.val) * 512 + q.val) / 2097152 = b.val
      omega
    | ⟨1, _⟩ =>
      apply Fin.ext
      show ((b.val * 4096 + t.val) * 512 + q.val) / 512 % 4096 = t.val
      omega
    | ⟨2, _⟩ =>
      apply Fin.ext
      show ((b.val * 4096 + t.val) * 512 + q.val) / 64 % 2 = q.val % 128 / 64
      omega
    | ⟨3, _⟩ =>
      apply Fin.ext
      show ((b.val * 4096 + t.val) * 512 + q.val) / 128 % 4 = q.val / 128
      omega
    | ⟨4, _⟩ =>
      apply Fin.ext
      show ((b.val * 4096 + t.val) * 512 + q.val) % 64 = q.val % 64
      omega
  · congr 2
    apply Fin.ext
    show 1024 + ((q.val % 128 / 64 * 4 + q.val / 128) * 64 + q.val % 64) = _
    simp only []
    omega

theorem v18_at (b : Fin 4) (t : Fin 4096) (l : Fin 1792) : val_main_v18 (F := Ideal) x0 x1 x2 (ix3 b t l)
    = val_main_v9 (F := Ideal) x0 x1 x2 (ix3 b t (column l)) := by
  pointwise [val_main_v18, val_main_v10, val_main_v11, val_main_v13, val_main_v14]
  unfold column
  by_cases h : 1024 ≤ l.val ∧ l.val < 1536
  · rw [dif_neg (by omega), dif_neg (by omega), dif_pos (by omega), v17_at, dif_pos h]
    congr 2
    apply Fin.ext
    show 1024 + ((l.val - 512 - 512) % 128 / 64 * 256 + (l.val - 512 - 512) / 128 * 64 + (l.val - 512 - 512) % 64)
      = 1024 + ((l.val - 1024) % 128 / 64 * 256 + (l.val - 1024) / 128 * 64 + l.val % 64)
    omega
  · rw [dif_neg h]
    split_ifs
    all_goals first
      | rfl
      | omega
      | (congr 2; apply Fin.ext; simp only []; omega)

theorem ref_at (b : Fin 4) (t : Fin 4096) (l : Fin 1792) : val_main_v18 (F := Ideal) x0 x1 x2 (ix3 b t l)
    = project (fun b t d => x0 (ix3 b t d)) (fun b k d => x1 (ix3 b k d)) (fun d l => x2 (ix3 0 d l)) b t l := by
  rw [v18_at, v9_at]
  rfl

end Cert.InprojRefIdeal.Proj

end
-- ==== Proof.Inproj.Blocks.lean ====
module

public import proofs.«01_k».proof.Proof.Gen.InprojIdeal.Value
public import proofs.«01_k».proof.Proof.Inproj.Math

/-! # The blocks of the input projection, and what a grid point stores -/

@[expose] public section

set_option maxRecDepth 16384

noncomputable section

namespace Cert.InprojIdeal.Proj

open Idealize.ShloMosaic Idealize.ShloMosaic.TcCoe Idealize.SL.Sem Cert.InprojIdeal Cert.InprojIdeal.Gen Cert.Proj

variable (m : (ℓ : Loc nD τ sig) → Buf (Elt Ideal) ℓ)

theorem pay1_at (sh sc : FVec Ideal S1x1x1024 .f32) (x : FVec Ideal S1x512x1024 .f32) (w : FVec Ideal S1024x1792 .bf16)
    (p : Fin 512) (l : Fin 1792) :
    k0_pay1 (F := Ideal) sh sc x w (ix3 0 p l)
      = ∑ d : Fin 1024, (x (ix3 0 p d) * (1 + sc (ix3 0 0 d)) + sh (ix3 0 0 d)) * w (ix2 d l) := by
  pointwise [k0_pay1]

theorem idx : ∀ t : Fin cfg0.N, win0_0.index t = ![t.val / 8, t.val % 8, 0] ∧ win0_1.index t = ![t.val / 8, 0, 0]
    ∧ win0_2.index t = ![0, 0] ∧ win0_3.index t = ![t.val / 8, t.val % 8, 0] ∧ t.val < 32 :=
  (by decide +kernel : ∀ t : Fin grid0.N, _)

/-- The batch entry of a point. -/
def entryOf (t : Fin cfg0.N) : Fin 4 := ⟨t.val / 8, by have h := lt_of_lt_of_eq t.isLt N_0; omega⟩

/-- The token a row of a point's block is. -/
def tokenOf (t : Fin cfg0.N) (p : Fin 512) : Fin 4096 := ⟨t.val % 8 * 512 + p.val, by omega⟩

theorem blk0 (c : Dev nD) (t : Fin cfg0.N) (p : Fin 512) (d : Fin 1024) :
    (iblk m c 0 t : FVec Ideal S1x512x1024 .f32) (ix3 0 p d)
      = m ((c : Thread nD τ).loc main_arg0) (ix3 (entryOf t) (tokenOf t p) d) := by
  blk_ext [iblk, V, idx t, entryOf, tokenOf]

theorem blk1 (c : Dev nD) (t : Fin cfg0.N) (k : Fin 6) (d : Fin 1024) :
    (iblk m c 1 t : FVec Ideal S1x6x1024 .f32) (ix3 0 k d)
      = m ((c : Thread nD τ).loc main_arg1) (ix3 (entryOf t) k d) := by
  blk_ext [iblk, V, idx t, entryOf]

end Cert.InprojIdeal.Proj

end
-- ==== Proof.Inproj.Entry.lean ====
module

public import proofs.«01_k».proof.Proof.Gen.InprojIdeal.Value
public import proofs.«01_k».proof.Proof.Inproj.Math

/-! # The weights the input projection is given -/

@[expose] public section

set_option maxRecDepth 16384

noncomputable section

namespace Cert.InprojIdeal.Proj

open Idealize.ShloMosaic Idealize.ShloMosaic.TcCoe Idealize.SL.Sem Cert.InprojIdeal Cert.InprojIdeal.Gen Cert.Proj

/-- The host operations after the table of the stored heads. -/
def rest {F : FTy → Type} [FloatOps F] : List (HloOp τ sig (Elt F)) :=
  [ StableHlo.reshape main_arg2 main_v0 (rfl : (.f32 : EltTy) = .f32) shapeCasts_S1x1024x1792_S1024x1792,
    StableHlo.unary main_v0 main_v1 ((extractStridedSlice S1024x1024 ![0, 0] · slices_S1024x1792_S1024x1024_0_0) : (⟨S1024x1792, .f32⟩ : BufTy).Contents (Elt F) → (⟨S1024x1024, .f32⟩ : BufTy).Contents (Elt F)),
    StableHlo.unary main_v0 main_v2 ((extractStridedSlice S1024x512 ![0, 1024] · slices_S1024x1792_S1024x512_0_1024) : (⟨S1024x1792, .f32⟩ : BufTy).Contents (Elt F) → (⟨S1024x512, .f32⟩ : BufTy).Contents (Elt F)),
    StableHlo.nullary main_c_0 (constantI S_ 32 0#32),
    StableHlo.unary main_c_0 main_v3 (broadcastInDim S512 ![] bcast_S_S512 : (⟨S_, .i32⟩ : BufTy).Contents (Elt F) → (⟨S512, .i32⟩ : BufTy).Contents (Elt F)),
    StableHlo.binary main_c main_v3 main_v4 (cmpi .slt : (⟨S512, .i32⟩ : BufTy).Contents (Elt F) → (⟨S512, .i32⟩ : BufTy).Contents (Elt F) → (⟨S512, .i1⟩ : BufTy).Contents (Elt F)),
    StableHlo.nullary main_c_1 (constantI S_ 32 512#32),
    StableHlo.unary main_c_1 main_v5 (broadcastInDim S512 ![] bcast_S_S512 : (⟨S_, .i32⟩ : BufTy).Contents (Elt F) → (⟨S512, .i32⟩ : BufTy).Contents (Elt F)),
    StableHlo.binary main_c main_v5 main_v6 (addi : (⟨S512, .i32⟩ : BufTy).Contents (Elt F) → (⟨S512, .i32⟩ : BufTy).Contents (Elt F) → (⟨S512, .i32⟩ : BufTy).Contents (Elt F)),
    StableHlo.ternary main_v4 main_v6 main_c main_v7 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v7 main_v8 (broadcastInDim S512x1 ![0] bcast_S512_S512x1_0 : (⟨S512, .i32⟩ : BufTy).Contents (Elt F) → (⟨S512x1, .i32⟩ : BufTy).Contents (Elt F)),
    StableHlo.binary main_v2 main_v8 main_v9 ((fun x i => Host.gather gather_S1024x512_S512x1_S1024x512_0_1_n_n_1_1_10241 x i) : (⟨S1024x512, .f32⟩ : BufTy).Contents (Elt F) → (⟨S512x1, .i32⟩ : BufTy).Contents (Elt F) → (⟨S1024x512, .f32⟩ : BufTy).Contents (Elt F)),
    StableHlo.unary main_v0 main_v10 ((extractStridedSlice S1024x256 ![0, 1536] · slices_S1024x1792_S1024x256_0_1536) : (⟨S1024x1792, .f32⟩ : BufTy).Contents (Elt F) → (⟨S1024x256, .f32⟩ : BufTy).Contents (Elt F)),
    StableHlo.nary ![main_v1, main_v9, main_v10] main_v11 (fun u => (concatenate S1024x1792 1 [⟨S1024x1024, (u 0 : (⟨S1024x1024, .f32⟩ : BufTy).Contents (Elt F))⟩, ⟨S1024x512, (u 1 : (⟨S1024x512, .f32⟩ : BufTy).Contents (Elt F))⟩, ⟨S1024x256, (u 2 : (⟨S1024x256, .f32⟩ : BufTy).Contents (Elt F))⟩] concatenates_S1024x1024_S1024x512_S1024x256_S1024x1792_d1 : (⟨S1024x1792, .f32⟩ : BufTy).Contents (Elt F))),
    StableHlo.unary main_v11 main_v12 ((truncf .bf16 · bitsLt_bf16_f32) : (⟨S1024x1792, .f32⟩ : BufTy).Contents (Elt F) → (⟨S1024x1792, .bf16⟩ : BufTy).Contents (Elt F)) ]

/-- The start indices of the gather, of the table. -/
def starts (T : IVec S512 32) : IVec S512x1 32 :=
  broadcastInDim S512x1 ![0] bcast_S512_S512x1_0 (select (cmpi .slt T (broadcastInDim S512 ![] bcast_S_S512 (constantI S_ 32 0#32)))
    (addi T (broadcastInDim S512 ![] bcast_S_S512 (constantI S_ 32 512#32))) T)

/-- The weights the kernel is given, of the argument and the table. -/
def given (w : FVec Ideal S1x1024x1792 .f32) (T : IVec S512 32) : FVec Ideal S1024x1792 .bf16 :=
  truncf (F := Ideal) (φ := .f32) .bf16 (concatenate (α := EReal) S1024x1792 1
    [⟨S1024x1024, (extractStridedSlice S1024x1024 ![0, 0] (shapeCast S1024x1792 w shapeCasts_S1x1024x1792_S1024x1792) slices_S1024x1792_S1024x1024_0_0)⟩,
     ⟨S1024x512, (Host.gather gather_S1024x512_S512x1_S1024x512_0_1_n_n_1_1_10241
        (extractStridedSlice S1024x512 ![0, 1024] (shapeCast S1024x1792 w shapeCasts_S1x1024x1792_S1024x1792) slices_S1024x1792_S1024x512_0_1024) (starts T))⟩,
     ⟨S1024x256, (extractStridedSlice S1024x256 ![0, 1536] (shapeCast S1024x1792 w shapeCasts_S1x1024x1792_S1024x1792) slices_S1024x1792_S1024x256_0_1536)⟩]
    concatenates_S1024x1024_S1024x512_S1024x256_S1024x1792_d1) bitsLt_bf16_f32

theorem rest_read (σ : Valuation τ sig (Elt Ideal)) :
    StableHlo.after (rest (F := Ideal)) σ (Proc.devRef .tc main_v12) = given (σ (Proc.devRef .tc main_arg2)) (σ (Proc.devRef .tc main_c)) := by
  unfold rest given starts
  simp only [StableHlo.after_cons, StableHlo.after_nil]
  after_results_simp
  rfl

theorem first_read (T : IVec S512 32) (σ : Valuation τ sig (Elt Ideal)) :
    StableHlo.after (StableHlo.nullary main_c T :: rest (F := Ideal)) σ (Proc.devRef .tc main_v12)
      = given (σ (Proc.devRef .tc main_arg2)) T := by
  rw [StableHlo.after_cons, rest_read, StableHlo.nullary_result, StableHlo.nullary_result_ne]
  decide

variable (m : (ℓ : Loc nD τ sig) → Buf (Elt Ideal) ℓ)

theorem ops_eq : hostOps0 (F := Ideal) = StableHlo.nullary main_c (fun i => lit0 (S512.rowMajor i)) :: rest := by
  unfold rest
  rfl

theorem entry_v12 (c : Dev nD) :
    V m c main_v12 = given (m ((c : Thread nD τ).loc main_arg2)) (fun i => lit0 (S512.rowMajor i)) := by
  unfold V
  rw [ops_eq]
  exact first_read _ _

end Cert.InprojIdeal.Proj

end
-- ==== Proof.Inproj.Weights.lean ====
module

public import proofs.«01_k».proof.Proof.Inproj.Entry

/-! # The weights the input projection is given, entry by entry -/

@[expose] public section

set_option maxRecDepth 16384

noncomputable section

namespace Cert.InprojIdeal.Proj

open Idealize.ShloMosaic Idealize.ShloMosaic.TcCoe Idealize.SL.Sem Cert.InprojIdeal Cert.InprojIdeal.Gen Cert.Proj

theorem start_index (d : Fin 1024) (q : Fin 512) (z : Fin 1) : gather_S1024x512_S512x1_S1024x512_0_1_n_n_1_1_10241.siIdx (ix2 d q) z = ix2 q 0 := by
  funext b
  match b with
  | ⟨0, _⟩ =>
    unfold GatherDims.siIdx
    refine (dif_neg (show ¬ (0 : ℕ) = 1 by decide)).trans ?_
    rfl
  | ⟨1, _⟩ =>
    unfold GatherDims.siIdx
    refine (dif_pos (show (1 : ℕ) = 1 from rfl)).trans ?_
    exact Subsingleton.elim (α := Fin 1) _ _

theorem gather_at (W : FVec Ideal S1024x512 .f32) (S : IVec S512x1 32) (d : Fin 1024) (q : Fin 512) :
    Host.gather gather_S1024x512_S512x1_S1024x512_0_1_n_n_1_1_10241 W S (ix2 d q) = W (ix2 d ⟨min (S (ix2 q 0)).toInt.toNat 511, by omega⟩) := by
  unfold Host.gather
  congr 1
  funext a
  match a with
  | ⟨0, _⟩ =>
    apply Fin.ext
    show gather_S1024x512_S512x1_S1024x512_0_1_n_n_1_1_10241.start (ix2 d q) S 0 + gather_S1024x512_S512x1_S1024x512_0_1_n_n_1_1_10241.batchCoord (ix2 d q) 0 + gather_S1024x512_S512x1_S1024x512_0_1_n_n_1_1_10241.offCoord (ix2 d q) 0 = d.val
    rw [GatherDims.start, dif_neg (by decide), GatherDims.batchCoord_eq_zero _ _ _ (by decide), GatherDims.offCoord,
      dif_pos (by decide)]
    exact (Nat.zero_add _).trans rfl
  | ⟨1, _⟩ =>
    apply Fin.ext
    show gather_S1024x512_S512x1_S1024x512_0_1_n_n_1_1_10241.start (ix2 d q) S 1 + gather_S1024x512_S512x1_S1024x512_0_1_n_n_1_1_10241.batchCoord (ix2 d q) 1 + gather_S1024x512_S512x1_S1024x512_0_1_n_n_1_1_10241.offCoord (ix2 d q) 1 = min (S (ix2 q 0)).toInt.toNat 511
    rw [GatherDims.start, dif_pos (by decide), GatherDims.batchCoord_eq_zero _ _ _ (by decide),
      GatherDims.offCoord_eq_zero _ _ _ (by decide)]
    exact congrArg (fun b => min (S b).toInt.toNat 511) (start_index d q _)

/-- The head a stored column of the queries comes from. -/
theorem table_at : ∀ q : Fin 512, min (if (lit0 (S512.rowMajor (ix1 q))).slt 0#32 then lit0 (S512.rowMajor (ix1 q)) + 512#32
    else lit0 (S512.rowMajor (ix1 q))).toInt.toNat 511 = q.val % 128 / 64 * 256 + q.val / 128 * 64 + q.val % 64 := by
  decide +kernel

theorem starts_at (T : IVec S512 32) (q : Fin 512) :
    starts T (ix2 q 0) = if (T (ix1 q)).slt 0#32 then T (ix1 q) + 512#32 else T (ix1 q) := by
  pointwise [starts]
  generalize T (ix1 q) = x
  unfold Scalar.select IntOp.cmpi IntOp.addi
  cases h : x.slt 0#32 <;> simp

/-- The matrix the call is given, when the table's starts are the stored columns. -/
theorem given_at (w : FVec Ideal S1x1024x1792 .f32) (T : IVec S512 32)
    (hT : ∀ q : Fin 512, min (starts T (ix2 q 0)).toInt.toNat 511 = q.val % 128 / 64 * 256 + q.val / 128 * 64 + q.val % 64)
    (d : Fin 1024) (l : Fin 1792) : given w T (ix2 d l) = w (ix3 0 d (column l)) := by
  pointwise [given, gather_at]
  unfold column
  by_cases h1 : l.val < 1024
  · rw [dif_pos h1]
    congr 2
    apply Fin.ext
    split <;> first | rfl | omega
  · rw [dif_neg h1]
    by_cases h2 : l.val - 1024 < 512
    · rw [dif_pos h2]
      congr 2
      apply Fin.ext
      have := hT ⟨l.val - 1024, h2⟩
      simp only at this ⊢
      rw [this, dif_pos ⟨by omega, by omega⟩]
      show _ = 1024 + _
      omega
    · rw [dif_neg h2]
      congr 2
      apply Fin.ext
      rw [dif_neg (by omega)]
      show 1536 + (l.val - 1024 - 512) = l.val
      omega

/-- The matrix as the call finds it: the projection's columns in the stored order. -/
theorem weights_at (m : (ℓ : Loc nD τ sig) → Buf (Elt Ideal) ℓ) (c : Dev nD) (d : Fin 1024) (l : Fin 1792) :
    V m c main_v12 (ix2 d l) = m ((c : Thread nD τ).loc main_arg2) (ix3 0 d (column l)) := by
  rw [entry_v12]
  refine given_at _ _ (fun q => ?_) d l
  rw [starts_at]
  exact table_at q

end Cert.InprojIdeal.Proj

end
-- ==== Proof.Inproj.Final.lean ====
module

public import proofs.«01_k».proof.Proof.Inproj.Blocks
public import proofs.«01_k».proof.Proof.Inproj.Weights

/-! # The input projection's result array -/

@[expose] public section

set_option maxRecDepth 16384

noncomputable section

namespace Cert.InprojIdeal.Proj

open Idealize.ShloMosaic Idealize.ShloMosaic.TcCoe Idealize.SL.Sem Cert.InprojIdeal Cert.InprojIdeal.Gen Cert.Proj

variable (m : (ℓ : Loc nD τ sig) → Buf (Elt Ideal) ℓ)

/-- The rows of the argument. -/
def rows (c : Dev nD) (b : Fin 4) (t : Fin 4096) (d : Fin 1024) : EReal := m ((c : Thread nD τ).loc main_arg0) (ix3 b t d)
/-- The modulation vectors. -/
def mods (c : Dev nD) (b : Fin 4) (k : Fin 6) (d : Fin 1024) : EReal := m ((c : Thread nD τ).loc main_arg1) (ix3 b k d)
/-- The weights. -/
def weights (c : Dev nD) (d : Fin 1024) (l : Fin 1792) : EReal := m ((c : Thread nD τ).loc main_arg2) (ix3 0 d l)

theorem blk2 (c : Dev nD) (t : Fin cfg0.N) (d : Fin 1024) (l : Fin 1792) :
    (iblk m c 2 t : FVec Ideal S1024x1792 .bf16) (ix2 d l) = weights m c d (column l) := by
  refine Eq.trans ?_ (weights_at m c d l)
  blk_ext [iblk, idx t]

theorem shift_at (X : FVec Ideal S1x6x1024 .f32) (d : Fin 1024) :
    (View.ld (Val := Elt Ideal) (e' := .f32) X r0_0 : FVec Ideal S1x1x1024 .f32) (ix3 0 0 d) = X (ix3 0 0 d) := by
  rw [View.ld_unit]
  pointwise

theorem scale_at (X : FVec Ideal S1x6x1024 .f32) (d : Fin 1024) :
    (View.ld (Val := Elt Ideal) (e' := .f32) X r0_1 : FVec Ideal S1x1x1024 .f32) (ix3 0 0 d) = X (ix3 0 1 d) := by
  rw [View.ld_unit]
  pointwise

/-- The projection over the kernel's arguments, as an array. -/
def result (c : Dev nD) : FVec Ideal S4x4096x1792 .f32 := fun i =>
  project (rows m c) (mods m c) (weights m c) (i 0) (i 1) (i 2)

/-- What a point stores is the projection of its rows. -/
theorem stored_at (c : Dev nD) (t : Fin cfg0.N) (p : Fin 512) (l : Fin 1792) :
    out0_3 (F := Ideal) (iblk m c 0 t) (iblk m c 1 t) (iblk m c 2 t) (ix3 0 p l)
      = project (rows m c) (mods m c) (weights m c) (entryOf t) (tokenOf t p) l := by
  frame_out
  refine (pay1_at _ _ _ _ p l).trans ?_
  unfold project
  refine Finset.sum_congr rfl fun d _ => ?_
  refine Ideal.mul_congr (Ideal.add_congr (Ideal.mul_congr (blk0 m c t p d) (congrArg (1 + ·) ?_)) ?_) (blk2 m c t d l)
  · exact (scale_at _ d).trans (blk1 m c t 1 d)
  · exact (shift_at _ d).trans (blk1 m c t 0 d)

theorem point (c : Dev nD) (t : Fin cfg0.N) (y : S1x512x1792.Idx) (i : S4x4096x1792.Idx)
    (h : i = ix3 (entryOf t) (tokenOf t (y 1)) (y 2)) :
    out0_3 (F := Ideal) (iblk m c 0 t) (iblk m c 1 t) (iblk m c 2 t) y = result m c i := by
  subst h
  idx_vars y
  obtain rfl : y0 = 0 := Subsingleton.elim _ _
  exact stored_at m c t _ _

/-- The result array after the run. -/
theorem final (c : Dev nD) : (dats m 0 c).arrAt 3 (cfgs 0).N = result m c := by
  refine (dats m 0 c).arrAt_eq_of_covers 3 _ (by decide +kernel) fun t hf y => ?_
  blk_simp
  rw [after0_3]
  refine point m c t y _ ?_
  blk_ext [idx t, entryOf, tokenOf]

end Cert.InprojIdeal.Proj

end
-- ==== Proof.Inproj.Claim.lean ====
module

public import proofs.«01_k».proof.Defs
public import proofs.«01_k».proof.Proof.Gen.InprojIdeal.Value
public import proofs.«01_k».proof.Proof.Gen.InprojRefIdeal.Run
public import proofs.«01_k».proof.Proof.Inproj.Ref
public import proofs.«01_k».proof.Proof.Inproj.Final
public import Idealize.ShloMosaic.Adequacy
public import Idealize.ShloMosaic.Init

/-! # The input projection and its reference give equal results -/

@[expose] public section

set_option maxRecDepth 16384

noncomputable section

namespace Cert.InprojPair

open Idealize.ShloMosaic Idealize.SL.Sem

/-- The kernel's run, its result array read as the projection. -/
theorem algebraic : algebraic_InprojIdeal_InprojRefIdeal := by
  intro m ρ m' ρ' _ hagree
  refine ⟨_, Cert.InprojIdeal.Value.run_blocks (F := Ideal) m ρ, ?_⟩
  refine (θ_run Cert.InprojRefIdeal.defs _ _).mono (fun _ h c => ⟨?_, (h c).2⟩) (Cert.InprojRefIdeal.Value.run (F := Ideal) m' ρ')
  rw [(h c).1, Cert.InprojRefIdeal.Read.val_main_v18_eq]
  obtain ⟨a0, a1, a2⟩ := hagree c
  rw [a0, a1, a2]
  refine Eq.trans ?_ (Cert.InprojIdeal.Proj.final m c).symm
  funext i
  idx_vars i
  exact Cert.InprojRefIdeal.Proj.ref_at _ _ _ _ _ _

end Cert.InprojPair

end
-- ==== Proof.SampleAttn.Math.lean ====
module

public import Idealize.ShloMosaic.Lib.Pipeline.ValueKit

/-! # A cache after a token -/

@[expose] public section

set_option maxRecDepth 16384

noncomputable section

namespace Cert.Cache

open Idealize.ShloMosaic

/-- The rows of the caches after the new row has been appended to each and its first row dropped. -/
def pushed (x : Fin 128 → Fin 128 → Fin 128 → EReal) (n : Fin 128 → Fin 128 → EReal) (b p l : Fin 128) : EReal :=
  if p.val < 127 then x b ⟨(p.val + 1) % 128, Nat.mod_lt _ (by decide)⟩ l else n b l

/-- The head of a lane. -/
def head (l : Fin 128) : Fin 2 := ⟨l.val / 64, by omega⟩

/-- The place of a lane within its head. -/
def place (l : Fin 128) : Fin 64 := ⟨l.val % 64, Nat.mod_lt _ (by decide)⟩

end Cert.Cache

end
-- ==== Proof.SampleAttn.Ref.lean ====
module

public import proofs.«01_k».proof.Proof.Gen.SampleAttnRefIdeal.Read
public import proofs.«01_k».proof.Proof.SampleAttn.Math

/-! # What the reference of the sample's cache update computes -/

@[expose] public section

set_option maxRecDepth 16384

noncomputable section

namespace Cert.SampleAttnRefIdeal.Cache

open Idealize.ShloMosaic Idealize.ShloMosaic.TcCoe Idealize.SL.Sem Cert.SampleAttnRefIdeal Cert.SampleAttnRefIdeal.Read Cert.Cache

/-- The row after `p` is row `p + 1` of the cache, and the new row after the last. -/
theorem pushed_of (x : Fin 128 → Fin 128 → Fin 128 → EReal) (n : Fin 128 → Fin 128 → EReal) (b p l : Fin 128) :
    (if h : 1 + p.val < 128 then x b ⟨1 + p.val, h⟩ l else n b l) = pushed x n b p l := by
  unfold pushed
  by_cases h : p.val < 127
  · rw [dif_pos (by omega), if_pos h]
    congr 1
    apply Fin.ext
    show 1 + p.val = (p.val + 1) % 128
    omega
  · rw [dif_neg (by omega), if_neg h]

variable (x1 x2 : FVec Ideal S128x128 .f32) (x3 x4 : FVec Ideal S1x128x128x2x64 .f32)

theorem v7_at (b p l : Fin 128) : val_main_v7 (F := Ideal) x1 x3 (ix3 b p l)
    = pushed (fun b p l => x3 (ix5 0 b p (head l) (place l))) (fun b l => x1 (ix2 b l)) b p l := by
  pointwise [val_main_v7, val_main_v6, val_main_v3, val_main_v2, val_main_v0]
  exact pushed_of (fun b p l => x3 (ix5 0 b p (head l) (place l))) (fun b l => x1 (ix2 b l)) b p l

theorem v9_at (b p l : Fin 128) : val_main_v9 (F := Ideal) x2 x4 (ix3 b p l)
    = pushed (fun b p l => x4 (ix5 0 b p (head l) (place l))) (fun b l => x2 (ix2 b l)) b p l := by
  pointwise [val_main_v9, val_main_v8, val_main_v5, val_main_v4, val_main_v1]
  exact pushed_of (fun b p l => x4 (ix5 0 b p (head l) (place l))) (fun b l => x2 (ix2 b l)) b p l

end Cert.SampleAttnRefIdeal.Cache

end
-- ==== Proof.SampleAttn.Push.lean ====
module

public import proofs.«01_k».proof.Proof.Gen.SampleAttnIdeal.Value
public import Idealize.ShloMosaic.Lib.KernelVsHost
public import Idealize.ShloMosaic.Lib.Pipeline.ValueKit

/-! # A cache's rows moved up by one, the new row last -/

@[expose] public section

set_option maxRecDepth 16384

noncomputable section

namespace Cert.SampleAttnIdeal.Cache

open Idealize.ShloMosaic Idealize.ShloMosaic.TcCoe Idealize.SL.Sem Cert.SampleAttnIdeal Cert.SampleAttnIdeal.Gen

/-- The last row is the new one. -/
theorem select_row (p : ℕ) (hp : p < 128) (a b : EReal) :
    Scalar.select (IntOp.cmpi CmpIPredicate.eq (BitVec.ofNat 32 p) 127#32) a b = if p < 127 then b else a := by
  by_cases h : p < 127
  · have hb : (BitVec.ofNat 32 p == 127#32) = false := by
      rw [beq_eq_false_iff_ne]
      intro e
      have e2 := congrArg BitVec.toNat e
      simp only [BitVec.toNat_ofNat] at e2
      omega
    simp [Scalar.select, IntOp.cmpi, hb, h]
  · obtain rfl : p = 127 := by omega
    rfl

/-- A row of the block the update leaves, with the indices of the two reads given. -/
theorem row_of (X : FVec Ideal S8x128x128 .f32) (n : FVec Ideal S8x128 .f32) (s s' : Fin 8) (p p' q l l' : Fin 128)
    (hs : s = s') (hp : p.val = p'.val) (hq : q.val = (p'.val + 1) % 128) (hl : l.val = l'.val) :
    Scalar.select (IntOp.cmpi CmpIPredicate.eq (BitVec.ofNat 32 p'.val) 127#32) (n (ix2 s' l')) (X (ix3 s' q l'))
      = if p.val < 127 then X (ix3 s ⟨(p.val + 1) % 128, Nat.mod_lt _ (by decide)⟩ l) else n (ix2 s l) := by
  subst hs
  obtain rfl := Fin.ext hp
  obtain rfl := Fin.ext hl
  have e : q = ⟨(p.val + 1) % 128, Nat.mod_lt _ (by decide)⟩ := Fin.ext hq
  rw [e]
  exact select_row p.val p.isLt _ _

variable (x0 : FVec Ideal S8x8x128 .f32) (x1 x2 : FVec Ideal S8x128 .f32) (x3 x4 : FVec Ideal S8x128x128 .f32)
  (x5 : FVec Ideal S8x1 .f32)

set_option maxHeartbeats 4000000 in
/-- The block the keys' cache is left with. -/
theorem keys_at (s : Fin 8) (p l : Fin 128) : out0_7 (F := Ideal) x0 x1 x2 x3 x4 x5 (ix3 s p l)
    = if p.val < 127 then x3 (ix3 s ⟨(p.val + 1) % 128, Nat.mod_lt _ (by decide)⟩ l) else x1 (ix2 s l) := by
  unfold_out out0_7
  canon_tiles y h using Gen.cover0_7 ..
  all_goals
    idx_vars y
    pointwise [k0_pay1, k0_pay76, k0_pay73, k0_pay70, k0_pay61, k0_pay57, k0_pay52, k0_pay49, k0_pay48, k0_pay45, k0_pay42, k0_pay33,
      k0_pay29, k0_pay24, k0_pay21, k0_pay20, k0_pay17, k0_pay14, k0_pay5]
    exact row_of x3 x1 _ _ _ _ _ _ _ (Fin.ext (by simp; omega)) (by omega) (by simp only []; omega) (by omega)

set_option maxHeartbeats 4000000 in
/-- The block the values' cache is left with. -/
theorem values_at (s : Fin 8) (p l : Fin 128) : out0_8 (F := Ideal) x0 x1 x2 x3 x4 x5 (ix3 s p l)
    = if p.val < 127 then x4 (ix3 s ⟨(p.val + 1) % 128, Nat.mod_lt _ (by decide)⟩ l) else x2 (ix2 s l) := by
  unfold_out out0_8
  canon_tiles y h using Gen.cover0_8 ..
  all_goals
    idx_vars y
    pointwise [k0_pay2, k0_pay74, k0_pay71, k0_pay62, k0_pay59, k0_pay58, k0_pay53, k0_pay50, k0_pay46, k0_pay43, k0_pay34,
      k0_pay31, k0_pay30, k0_pay25, k0_pay22, k0_pay18, k0_pay15, k0_pay6]
    exact row_of x4 x2 _ _ _ _ _ _ _ (Fin.ext (by simp; omega)) (by omega) (by simp only []; omega) (by omega)

end Cert.SampleAttnIdeal.Cache

end
-- ==== Proof.SampleAttn.Final.lean ====
module

public import proofs.«01_k».proof.Proof.SampleAttn.Push
public import proofs.«01_k».proof.Proof.SampleAttn.Math

/-! # The caches the sample's attention leaves -/

@[expose] public section

set_option maxRecDepth 16384

noncomputable section

namespace Cert.SampleAttnIdeal.Cache

open Idealize.ShloMosaic Idealize.ShloMosaic.TcCoe Idealize.SL.Sem Cert.SampleAttnIdeal Cert.SampleAttnIdeal.Gen Cert.Cache

variable (m : (ℓ : Loc nD τ sig) → Buf (Elt Ideal) ℓ)

theorem idx : ∀ t : Fin cfg0.N, win0_1.index t = ![t.val, 0] ∧ win0_2.index t = ![t.val, 0] ∧ win0_3.index t = ![t.val, 0, 0]
    ∧ win0_4.index t = ![t.val, 0, 0] ∧ win0_7.index t = ![t.val, 0, 0] ∧ win0_8.index t = ![t.val, 0, 0] ∧ t.val < 16 :=
  (by decide +kernel : ∀ t : Fin grid0.N, _)

/-- The batch entry of a row of a point's block. -/
def entryOf (t : Fin cfg0.N) (s : Fin 8) : Fin 128 := ⟨t.val * 8 + s.val, by have h := lt_of_lt_of_eq t.isLt N_0; omega⟩

/-- The new keys and values, and the caches by lane. -/
def newKey (c : Dev nD) (b l : Fin 128) : EReal := m ((c : Thread nD τ).loc main_arg1) (ix2 b l)
def newValue (c : Dev nD) (b l : Fin 128) : EReal := m ((c : Thread nD τ).loc main_arg2) (ix2 b l)
def keys (c : Dev nD) (b p l : Fin 128) : EReal := m ((c : Thread nD τ).loc main_arg3) (ix5 0 b p (head l) (place l))
def values (c : Dev nD) (b p l : Fin 128) : EReal := m ((c : Thread nD τ).loc main_arg4) (ix5 0 b p (head l) (place l))

theorem blk1 (c : Dev nD) (t : Fin cfg0.N) (s : Fin 8) (l : Fin 128) :
    (iblk m c 1 t : FVec Ideal S8x128 .f32) (ix2 s l) = newKey m c (entryOf t s) l := by
  unfold newKey
  blk_ext [iblk, V, idx t, entryOf]

theorem blk2 (c : Dev nD) (t : Fin cfg0.N) (s : Fin 8) (l : Fin 128) :
    (iblk m c 2 t : FVec Ideal S8x128 .f32) (ix2 s l) = newValue m c (entryOf t s) l := by
  unfold newValue
  blk_ext [iblk, V, idx t, entryOf]

theorem blk3 (c : Dev nD) (t : Fin cfg0.N) (s : Fin 8) (p l : Fin 128) :
    (iblk m c 3 t : FVec Ideal S8x128x128 .f32) (ix3 s p l) = keys m c (entryOf t s) p l := by
  unfold keys
  blk_simp [iblk, idx t]
  entry_read
  pointwise
  blk_ext [idx t, entryOf, head, place]

theorem blk4 (c : Dev nD) (t : Fin cfg0.N) (s : Fin 8) (p l : Fin 128) :
    (iblk m c 4 t : FVec Ideal S8x128x128 .f32) (ix3 s p l) = values m c (entryOf t s) p l := by
  unfold values
  blk_simp [iblk, idx t]
  entry_read
  pointwise
  blk_ext [idx t, entryOf, head, place]

/-- The caches after the run, as arrays. -/
def keysAfter (c : Dev nD) : FVec Ideal S128x128x128 .f32 := fun i => pushed (keys m c) (newKey m c) (i 0) (i 1) (i 2)
def valuesAfter (c : Dev nD) : FVec Ideal S128x128x128 .f32 := fun i => pushed (values m c) (newValue m c) (i 0) (i 1) (i 2)

theorem point7 (c : Dev nD) (t : Fin cfg0.N) (y : S8x128x128.Idx) (i : S128x128x128.Idx)
    (h : i = ix3 (entryOf t (y 0)) (y 1) (y 2)) :
    out0_7 (F := Ideal) (iblk m c 0 t) (iblk m c 1 t) (iblk m c 2 t) (iblk m c 3 t) (iblk m c 4 t) (iblk m c 5 t) y
      = keysAfter m c i := by
  subst h
  idx_vars y
  refine (keys_at _ _ _ _ _ _ y0 y1 y2).trans ?_
  exact if_congr Iff.rfl (blk3 m c t y0 _ y2) (blk1 m c t y0 y2)

theorem point8 (c : Dev nD) (t : Fin cfg0.N) (y : S8x128x128.Idx) (i : S128x128x128.Idx)
    (h : i = ix3 (entryOf t (y 0)) (y 1) (y 2)) :
    out0_8 (F := Ideal) (iblk m c 0 t) (iblk m c 1 t) (iblk m c 2 t) (iblk m c 3 t) (iblk m c 4 t) (iblk m c 5 t) y
      = valuesAfter m c i := by
  subst h
  idx_vars y
  refine (values_at _ _ _ _ _ _ y0 y1 y2).trans ?_
  exact if_congr Iff.rfl (blk4 m c t y0 _ y2) (blk2 m c t y0 y2)

theorem final7 (c : Dev nD) : (dats m 0 c).arrAt 7 (cfgs 0).N = keysAfter m c := by
  refine (dats m 0 c).arrAt_eq_of_covers 7 _ (by decide +kernel) fun t hf y => ?_
  blk_simp
  rw [after0_7]
  refine point7 m c t y _ ?_
  blk_ext [idx t, entryOf]

theorem final8 (c : Dev nD) : (dats m 0 c).arrAt 8 (cfgs 0).N = valuesAfter m c := by
  refine (dats m 0 c).arrAt_eq_of_covers 8 _ (by decide +kernel) fun t hf y => ?_
  blk_simp
  rw [after0_8]
  refine point8 m c t y _ ?_
  blk_ext [idx t, entryOf]

end Cert.SampleAttnIdeal.Cache

end
-- ==== Proof.SampleAttn.Claim.lean ====
module

public import proofs.«01_k».proof.Defs
public import proofs.«01_k».proof.Proof.Gen.SampleAttnIdeal.Value
public import proofs.«01_k».proof.Proof.Gen.SampleAttnRefIdeal.Run
public import proofs.«01_k».proof.Proof.SampleAttn.Ref
public import proofs.«01_k».proof.Proof.SampleAttn.Final
public import Idealize.ShloMosaic.Adequacy
public import Idealize.ShloMosaic.Init

/-! # The cache update of the sample's attention and its reference give equal results -/

@[expose] public section

noncomputable section

namespace Cert.SampleAttnPair

open Idealize.ShloMosaic Idealize.SL.Sem

/-- The kernel's run, its two cache arrays read as the caches pushed by the new row. -/
theorem algebraic : algebraic_SampleAttnIdeal_SampleAttnRefIdeal := by
  intro m ρ m' ρ' _ hagree
  refine ⟨_, _, (θ_run Cert.SampleAttnIdeal.defs _ _).mono (fun _ h c => (h c).2)
    (Cert.SampleAttnIdeal.Value.run_blocks (F := Ideal) m ρ), ?_⟩
  refine (θ_run Cert.SampleAttnRefIdeal.defs _ _).mono (fun _ h c => ⟨?_, ?_, (h c).2.2⟩)
    (Cert.SampleAttnRefIdeal.Value.run (F := Ideal) m' ρ')
  all_goals obtain ⟨a0, a1, a2, a3, a4, a5⟩ := hagree c
  · rw [(h c).1, Cert.SampleAttnRefIdeal.Read.val_main_v7_eq, a1, a3]
    refine Eq.trans ?_ (Cert.SampleAttnIdeal.Cache.final7 m c).symm
    funext i
    idx_vars i
    exact Cert.SampleAttnRefIdeal.Cache.v7_at _ _ _ _ _
  · rw [(h c).2.1, Cert.SampleAttnRefIdeal.Read.val_main_v9_eq, a2, a4]
    refine Eq.trans ?_ (Cert.SampleAttnIdeal.Cache.final8 m c).symm
    funext i
    idx_vars i
    exact Cert.SampleAttnRefIdeal.Cache.v9_at _ _ _ _ _

end Cert.SampleAttnPair

end
-- ==== Proof.Lru.Trips.lean ====
/- The reference's recurrence, trip by trip: a memory that holds a state of the loop is carried by one trip to a memory
   that holds the next one, and the results are read from state number 4096. -/
module

public import proofs.«01_k».proof.Proof.Gen.LruRefIdeal.Run
public import proofs.«01_k».proof.Proof.Gen.LruRefIdeal.Step

@[expose] public section

noncomputable section

namespace Cert.LruRefIdeal.Trips

open Idealize.ShloMosaic Idealize.ShloMosaic.TcCoe Idealize.SL.Sem Idealize.ShloMosaic.StableHlo
open Cert.LruRefIdeal Cert.LruRefIdeal.Gen Cert.LruRefIdeal.Value
open Cert.LruRefIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v90_3) = s.main_v90_3
  f_4 : V0 (Proc.devRef .tc main_v90_4) = s.main_v90_4
  f_0 : V0 (Proc.devRef .tc main_v90_0) = s.main_v90_0
  f_1 : V0 (Proc.devRef .tc main_v90_1) = s.main_v90_1
  n_2 : V0 (Proc.devRef .tc main_v90_2) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.LruRefIdeal.Step.b0 j s := by
  unfold Cert.LruRefIdeal.Step.b0
  rfl
set_option maxRecDepth 8192 in
theorem al_1 (h : Holds V0 s j) : (constantI S_ 32 0#32 : (Proc.devRef .tc main_while0b_call1_c_0 : DevRef τ sig).ty.Contents (Elt F)) = Cert.LruRefIdeal.Step.b1 j s := by
  unfold Cert.LruRefIdeal.Step.b1
  rfl
set_option maxRecDepth 8192 in
theorem al_2 (h : Holds V0 s j) : (Host.dynamicSlice S1x4x512 (V0 (Proc.devRef .tc main_v90_0)) (fun k => (((![V0 (Proc.devRef .tc main_v90_2), constantI S_ 32 0#32, constantI S_ 32 0#32] : Fin 3 → (⟨S_, .i32⟩ : BufTy).Contents (Elt F))) k (Shape.Idx.first h_S_)).toInt) sliceFits_S4096x4x512_S1x4x512 : (Proc.devRef .tc main_while0b_call1_v0 : DevRef τ sig).ty.Contents (Elt F)) = Cert.LruRefIdeal.Step.b2 j s := by
  unfold Cert.LruRefIdeal.Step.b2
  rw [← al_0 h, ← al_1 h, h.f_0, h.n_2]
  try rfl
set_option maxRecDepth 8192 in
theorem al_3 (h : Holds V0 s j) : (shapeCast S4x512 (Host.dynamicSlice S1x4x512 (V0 (Proc.devRef .tc main_v90_0)) (fun k => (((![V0 (Proc.devRef .tc main_v90_2), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512 : (Proc.devRef .tc main_while0b_v94 : DevRef τ sig).ty.Contents (Elt F)) = Cert.LruRefIdeal.Step.b3 j s := by
  unfold Cert.LruRefIdeal.Step.b3
  rw [← al_2 h]
  try rfl
set_option maxRecDepth 8192 in
theorem al_4 (h : Holds V0 s j) : (constantI S_ 32 0#32 : (Proc.devRef .tc main_while0b_call2_c : DevRef τ sig).ty.Contents (Elt F)) = Cert.LruRefIdeal.Step.b4 j s := by
  unfold Cert.LruRefIdeal.Step.b4
  rfl
set_option maxRecDepth 8192 in
theorem al_5 (h : Holds V0 s j) : (constantI S_ 32 0#32 : (Proc.devRef .tc main_while0b_call2_c_0 : DevRef τ sig).ty.Contents (Elt F)) = Cert.LruRefIdeal.Step.b5 j s := by
  unfold Cert.LruRefIdeal.Step.b5
  rfl
set_option maxRecDepth 8192 in
theorem al_6 (h : Holds V0 s j) : (Host.dynamicSlice S1x4x512 (V0 (Proc.devRef .tc main_v90_1)) (fun k => (((![V0 (Proc.devRef .tc main_v90_2), constantI S_ 32 0#32, constantI S_ 32 0#32] : Fin 3 → (⟨S_, .i32⟩ : BufTy).Contents (Elt F))) k (Shape.Idx.first h_S_)).toInt) sliceFits_S4096x4x512_S1x4x512 : (Proc.devRef .tc main_while0b_call2_v0 : DevRef τ sig).ty.Contents (Elt F)) = Cert.LruRefIdeal.Step.b6 j s := by
  unfold Cert.LruRefIdeal.Step.b6
  rw [← al_4 h, ← al_5 h, h.f_1, h.n_2]
  try rfl
set_option maxRecDepth 8192 in
theorem al_7 (h : Holds V0 s j) : (shapeCast S4x512 (Host.dynamicSlice S1x4x512 (V0 (Proc.devRef .tc main_v90_1)) (fun k => (((![V0 (Proc.devRef .tc main_v90_2), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512 : (Proc.devRef .tc main_while0b_v95 : DevRef τ sig).ty.Contents (Elt F)) = Cert.LruRefIdeal.Step.b7 j s := by
  unfold Cert.LruRefIdeal.Step.b7
  rw [← al_6 h]
  try rfl
set_option maxRecDepth 8192 in
theorem al_8 (h : Holds V0 s j) : (mulf (shapeCast S4x512 (Host.dynamicSlice S1x4x512 (V0 (Proc.devRef .tc main_v90_0)) (fun k => (((![V0 (Proc.devRef .tc main_v90_2), constantI S_ 32 0#32, constantI S_ 32 0#32] : Fin 3 → (⟨S_, .i32⟩ : BufTy).Contents (Elt F))) k (Shape.Idx.first h_S_)).toInt) sliceFits_S4096x4x512_S1x4x512) shapeCasts_S1x4x512_S4x512) (V0 (Proc.devRef .tc main_v90_3)) : (Proc.devRef .tc main_while0b_v96 : DevRef τ sig).ty.Contents (Elt F)) = Cert.LruRefIdeal.Step.b8 j s := by
  unfold Cert.LruRefIdeal.Step.b8
  rw [← al_3 h, h.f_3]
  try rfl
set_option maxRecDepth 8192 in
theorem al_9 (h : Holds V0 s j) : (res_main_while0b_v97 V0 : (Proc.devRef .tc main_while0b_v97 : DevRef τ sig).ty.Contents (Elt F)) = Cert.LruRefIdeal.Step.b9 j s := by
  unfold res_main_while0b_v97 Cert.LruRefIdeal.Step.b9
  rw [← al_8 h, ← al_7 h]
  try rfl
set_option maxRecDepth 8192 in
theorem al_10 (h : Holds V0 s j) : (broadcastInDim S1x4x512 ![1, 2] bcast_S4x512_S1x4x512_1_2 (res_main_while0b_v97 V0) : (Proc.devRef .tc main_while0b_call3_v0 : DevRef τ sig).ty.Contents (Elt F)) = Cert.LruRefIdeal.Step.b10 j s := by
  unfold Cert.LruRefIdeal.Step.b10
  rw [← al_9 h]
  try rfl
set_option maxRecDepth 8192 in
theorem al_11 (h : Holds V0 s j) : (constantI S_ 32 0#32 : (Proc.devRef .tc main_while0b_call3_c : DevRef τ sig).ty.Contents (Elt F)) = Cert.LruRefIdeal.Step.b11 j s := by
  unfold Cert.LruRefIdeal.Step.b11
  rfl
set_option maxRecDepth 8192 in
theorem al_12 (h : Holds V0 s j) : (constantI S_ 32 0#32 : (Proc.devRef .tc main_while0b_call3_c_0 : DevRef τ sig).ty.Contents (Elt F)) = Cert.LruRefIdeal.Step.b12 j s := by
  unfold Cert.LruRefIdeal.Step.b12
  rfl
set_option maxRecDepth 8192 in
theorem al_13 (h : Holds V0 s j) : (Host.dynamicUpdateSlice (V0 (Proc.devRef .tc main_v90_4)) (broadcastInDim S1x4x512 ![1, 2] bcast_S4x512_S1x4x512_1_2 (res_main_while0b_v97 V0)) (fun k => (((![V0 (Proc.devRef .tc main_v90_2), constantI S_ 32 0#32, constantI S_ 32 0#32] : Fin 3 → (⟨S_, .i32⟩ : BufTy).Contents (Elt F))) k (Shape.Idx.first h_S_)).toInt) updateFits_S4096x4x512_S1x4x512 : (Proc.devRef .tc main_while0b_v98 : DevRef τ sig).ty.Contents (Elt F)) = Cert.LruRefIdeal.Step.b13 j s := by
  unfold Cert.LruRefIdeal.Step.b13
  rw [← al_10 h, ← al_11 h, ← al_12 h, h.f_4, h.n_2]
  try rfl

/-! One trip's step of the carried values is `step`, field by field; a counter steps to the next number. -/

theorem step_3 (h : Holds V0 s j) : step_main_v90_3 V0 = (step j s).main_v90_3 := by
  unfold step_main_v90_3 Cert.LruRefIdeal.Step.step
  show id (res_main_while0b_v97 V0) = _
  rw [al_9 h]
  try rfl
theorem step_4 (h : Holds V0 s j) : step_main_v90_4 V0 = (step j s).main_v90_4 := by
  unfold step_main_v90_4 Cert.LruRefIdeal.Step.step
  show id (Host.dynamicUpdateSlice (V0 (Proc.devRef .tc main_v90_4)) (broadcastInDim S1x4x512 ![1, 2] bcast_S4x512_S1x4x512_1_2 (res_main_while0b_v97 V0)) (fun k => (((![V0 (Proc.devRef .tc main_v90_2), constantI S_ 32 0#32, constantI S_ 32 0#32] : Fin 3 → (⟨S_, .i32⟩ : BufTy).Contents (Elt F))) k (Shape.Idx.first h_S_)).toInt) updateFits_S4096x4x512_S1x4x512) = _
  exact al_13 h
theorem step_2 (h : Holds V0 s j) : step_main_v90_2 V0 = constantI S_ 32 (BitVec.ofNat 32 (j + 1)) := by
  unfold step_main_v90_2
  rw [h.n_2]
  funext i
  show BitVec.ofNat 32 j + 1#32 = BitVec.ofNat 32 (j + 1)
  simp only [BitVec.ofNat_add]

set_option maxRecDepth 8192 in
theorem out_main_v92_holds (h : Holds V0 s j) {x_main_arg0 : (⟨S4x4096x1792, .f32⟩ : BufTy).Contents (Elt F)} (h_main_arg0 : V0 (Proc.devRef .tc main_arg0) = x_main_arg0) : out_main_v92 V0 = Cert.LruRefIdeal.Step.R_main_v92 s x_main_arg0 := by
  unfold out_main_v92 Cert.LruRefIdeal.Step.R_main_v92
  rw [h_main_arg0]
  try rfl

set_option maxRecDepth 8192 in
theorem out_main_v93_holds (h : Holds V0 s j) : out_main_v93 V0 = Cert.LruRefIdeal.Step.R_main_v93 s := by
  unfold out_main_v93 Cert.LruRefIdeal.Step.R_main_v93
  rw [h.f_4]
  try rfl

/-- One trip keeps the valuation holding: `step` of the state, the same set-up values, the next number. -/
theorem holds_step (h : Holds V0 s j) : Holds (STEP V0) (step j s) (j + 1) where
  f_3 := (STEP_main_v90_3 V0).trans (step_3 h)
  f_4 := (STEP_main_v90_4 V0).trans (step_4 h)
  n_2 := (STEP_main_v90_2 V0).trans (step_2 h)
  f_0 := (STEP_main_v90_0 V0).trans h.f_0
  f_1 := (STEP_main_v90_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `LruRefIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v92) = Cert.LruRefIdeal.Step.R_main_v92 (it c 4096) (m ((c.tc : Thread nD τ).loc main_arg0))
      ∧ r.2.mem ((c.tc : Thread nD τ).loc main_v93) = Cert.LruRefIdeal.Step.R_main_v93 (it c 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 4096
    ⟨(h c).1.trans (out_main_v92_holds hk (iter_main_arg0 m c 4096)), (h c).2.1.trans (out_main_v93_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.LruRefIdeal.Trips

end
-- ==== Proof.Lru.Scan.lean ====
module

public import Idealize.ShloMosaic.Lib.Pipeline.ValueKit

/-! # A linear recurrence by doubling -/

@[expose] public section

set_option maxRecDepth 16384

noncomputable section

namespace Cert.Rec

/-- The product of the `n` factors down from index `i`. -/
def prod (a : ℤ → EReal) (i : ℤ) : ℕ → EReal
  | 0 => 1
  | n + 1 => prod a i n * a (i - n)

/-- The recurrence's `n` steps up to index `i`, started from zero. -/
def fold (a b : ℤ → EReal) (i : ℤ) : ℕ → EReal
  | 0 => 0
  | n + 1 => fold a b i n + prod a i n * b (i - n)

/-- The factors lie between zero and one. -/
def Unit01 (a : ℤ → EReal) : Prop := ∀ i, 0 ≤ a i ∧ a i ≤ 1

theorem prod_unit {a : ℤ → EReal} (h : Unit01 a) (i : ℤ) : ∀ n, 0 ≤ prod a i n ∧ prod a i n ≤ 1
  | 0 => ⟨zero_le_one, le_refl _⟩
  | n + 1 => ⟨mul_nonneg (prod_unit h i n).1 (h _).1,
      (mul_le_mul (prod_unit h i n).2 (h _).2 (h _).1 zero_le_one).trans (by rw [one_mul])⟩

theorem mul_add_unit {a : EReal} (h : 0 ≤ a ∧ a ≤ 1) (x y : EReal) : a * (x + y) = a * x + a * y :=
  EReal.left_distrib_of_nonneg_of_ne_top h.1 (ne_top_of_le_ne_top (by decide) h.2) x y

theorem prod_add (a : ℤ → EReal) (i : ℤ) (m : ℕ) : ∀ n, prod a i (m + n) = prod a i m * prod a (i - m) n
  | 0 => by simp [prod]
  | n + 1 => by
    show prod a i (m + n) * a (i - (m + n : ℕ)) = prod a i m * (prod a (i - m) n * a (i - m - n))
    rw [prod_add a i m n, mul_assoc]
    congr 3
    push_cast
    ring

theorem fold_add {a b : ℤ → EReal} (h : Unit01 a) (i : ℤ) (m : ℕ) :
    ∀ n, fold a b i (m + n) = prod a i m * fold a b (i - m) n + fold a b i m
  | 0 => by simp [fold]
  | n + 1 => by
    show fold a b i (m + n) + prod a i (m + n) * b (i - (m + n : ℕ)) = _
    rw [fold_add h i m n, prod_add]
    show _ = prod a i m * (fold a b (i - m) n + prod a (i - m) n * b (i - m - n)) + fold a b i m
    rw [mul_add_unit (prod_unit h i m), ← mul_assoc]
    have e : i - (m + n : ℕ) = i - m - n := by push_cast; ring
    rw [e, add_assoc, add_comm (fold a b i m), ← add_assoc]

/-- Below index zero the factors are one and the terms zero. -/
theorem prod_neg {a : ℤ → EReal} (h : ∀ i < 0, a i = 1) (i : ℤ) (hi : i < 0) : ∀ n, prod a i n = 1
  | 0 => rfl
  | n + 1 => by
    show prod a i n * a (i - n) = 1
    rw [prod_neg h i hi n, h _ (by omega), mul_one]

theorem fold_neg {a b : ℤ → EReal} (h : ∀ i < 0, b i = 0) (i : ℤ) (hi : i < 0) : ∀ n, fold a b i n = 0
  | 0 => rfl
  | n + 1 => by
    show fold a b i n + prod a i n * b (i - n) = 0
    rw [fold_neg h i hi n, h _ (by omega), mul_zero, add_zero]

/-- The states of the recurrence from a first state. -/
def state (a b : ℕ → EReal) (c : EReal) : ℕ → EReal
  | 0 => c
  | n + 1 => a n * state a b c n + b n

theorem state_add (a b : ℕ → EReal) (c : EReal) (m : ℕ) :
    ∀ n, state a b c (m + n) = state (fun k => a (m + k)) (fun k => b (m + k)) (state a b c m) n
  | 0 => rfl
  | n + 1 => by
    show a (m + n) * state a b c (m + n) + b (m + n) = _
    rw [state_add a b c m n]
    rfl

theorem state_congr {a b a' b' : ℕ → EReal} {c c' : EReal} {N : ℕ} (ha : ∀ k < N, a k = a' k) (hb : ∀ k < N, b k = b' k) (hc : c = c') :
    ∀ n ≤ N, state a b c n = state a' b' c' n
  | 0, _ => hc
  | n + 1, h => by
    show a n * state a b c n + b n = a' n * state a' b' c' n + b' n
    rw [state_congr ha hb hc n (by omega), ha n (by omega), hb n (by omega)]

/-- The recurrence's state after `i + 1` steps, by the folds. -/
theorem state_fold {a b : ℤ → EReal} (h : Unit01 a) (c : EReal) : ∀ i : ℕ,
    state (fun k => a k) (fun k => b k) c (i + 1) = prod a i (i + 1) * c + fold a b i (i + 1)
  | 0 => by simp [state, prod, fold]
  | i + 1 => by
    show a (i + 1 : ℕ) * state (fun k => a k) (fun k => b k) c (i + 1) + b (i + 1 : ℕ) = _
    rw [state_fold h c i, mul_add_unit (h _), show i + 1 + 1 = 1 + (i + 1) by omega, prod_add a _ 1, fold_add h _ 1]
    have e : ((i + 1 : ℕ) : ℤ) - (1 : ℕ) = i := by push_cast; ring
    rw [e]
    simp only [prod, fold, Nat.cast_zero, sub_zero, one_mul, zero_add]
    simp only [mul_assoc, add_assoc]

/-- The folds over at least `i + 1` steps, where the factors below zero are one and the terms zero. -/
theorem state_long {a b : ℤ → EReal} (h : Unit01 a) (ha : ∀ i < 0, a i = 1) (hb : ∀ i < 0, b i = 0) (c : EReal) (i N : ℕ) (hN : i + 1 ≤ N) :
    prod a i N * c + fold a b i N = state (fun k => a k) (fun k => b k) c (i + 1) := by
  obtain ⟨k, rfl⟩ := Nat.exists_eq_add_of_le hN
  have e : (i : ℤ) - (i + 1 : ℕ) < 0 := by push_cast; omega
  rw [state_fold h, prod_add, fold_add h, prod_neg ha _ e, fold_neg hb _ e, mul_one, mul_zero, zero_add]

/-- One doubling of the products and of the folds. -/
theorem prod_double (a : ℤ → EReal) (ha : ∀ i < 0, a i = 1) (i s : ℕ) :
    prod a i (s + s) = prod a i s * (if s ≤ i then prod a (i - s : ℕ) s else 1) := by
  rw [prod_add]
  split_ifs with h
  · rw [Nat.cast_sub h]
  · rw [prod_neg ha ((i : ℤ) - s) (by omega)]

theorem fold_double {a b : ℤ → EReal} (h : Unit01 a) (hb : ∀ i < 0, b i = 0) (i s : ℕ) :
    fold a b i (s + s) = prod a i s * (if s ≤ i then fold a b (i - s : ℕ) s else 0) + fold a b i s := by
  rw [fold_add h]
  split_ifs with h
  · rw [Nat.cast_sub h]
  · rw [fold_neg hb ((i : ℤ) - s) (by omega)]

end Cert.Rec

end
-- ==== Proof.Lru.Math.lean ====
module

public import proofs.«01_k».proof.Proof.Lru.Scan

/-! # The gates of the recurrence, as mathematics -/

@[expose] public section

set_option maxRecDepth 16384

noncomputable section

namespace Cert.Gate

open Idealize.ShloMosaic
open Cert.Rec (Unit01)

theorem one_bits : Ideal.ofBits .f32 1065353216#32 = 1 := by
  simp [Ideal.ofBits, Ideal.ieee]
  exact_mod_cast (by norm_num : (8388608 : ℝ) * (2 ^ 23)⁻¹ = 1)
theorem two_bits : Ideal.ofBits .f32 1073741824#32 = ((2 : ℝ) : EReal) := by
  simp [Ideal.ofBits, Ideal.ieee]
  exact_mod_cast (by norm_num : (8388608 : ℝ) * (2 ^ 22)⁻¹ = 2)
theorem eight_bits : Ideal.ofBits .f32 3238002688#32 = ((-8 : ℝ) : EReal) := by
  simp [Ideal.ofBits, Ideal.ieee]
  exact_mod_cast (by norm_num : (8388608 : ℝ) * (2 ^ 20)⁻¹ = 8)

/-- `1 / (1 + e^(-x))`. -/
def sigm (x : EReal) : EReal := Ideal.div 1 (1 + Ideal.exp (-x))

/-- `log (1 + e^x)`, written so that nothing overflows. -/
def softp (x : EReal) : EReal := max x 0 + Ideal.log1p (Ideal.exp (-(max x (-x))))

/-- The logarithm of the decay: `-8 r softplus(-λ)`. -/
def logDecay (r lam : EReal) : EReal := ((-8 : ℝ) : EReal) * r * softp (-lam)

theorem exp_nonneg (x : EReal) : 0 ≤ Ideal.exp x := by
  induction x with
  | bot => exact le_rfl
  | top => exact le_top
  | coe r => exact EReal.coe_nonneg.mpr (Real.exp_pos r).le

theorem exp_le_one {x : EReal} (h : x ≤ 0) : Ideal.exp x ≤ 1 := by
  induction x with
  | bot => exact zero_le_one
  | top => exact absurd h (by simp)
  | coe r => exact EReal.coe_le_coe_iff.mpr (Real.exp_le_one_iff.mpr (EReal.coe_nonpos.mp h))

theorem sigm_nonneg (x : EReal) : 0 ≤ sigm x := by
  have h : (0 : EReal) ≤ 1 + Ideal.exp (-x) := add_nonneg zero_le_one (exp_nonneg _)
  unfold sigm Ideal.div
  split_ifs
  · exact le_top
  · rename_i h1
    exact absurd zero_lt_one h1
  · rw [one_mul]
    exact EReal.inv_nonneg_of_nonneg h

theorem log_nonneg {x : EReal} (h : 1 ≤ x) : 0 ≤ Ideal.log x := by
  induction x with
  | bot => exact absurd (le_bot_iff.mp h) (by decide)
  | top => exact le_top
  | coe r =>
    have h1 : (1 : ℝ) ≤ r := EReal.coe_le_coe_iff.mp h
    show 0 ≤ if r ≤ 0 then (⊥ : EReal) else (Real.log r : EReal)
    rw [if_neg (by linarith)]
    exact EReal.coe_nonneg.mpr (Real.log_nonneg h1)

theorem softp_nonneg (x : EReal) : 0 ≤ softp x := by
  refine add_nonneg (le_max_right _ _) (log_nonneg ?_)
  have := add_le_add_right (exp_nonneg (-(max x (-x)))) 1
  simpa using this

theorem logDecay_nonpos (y lam : EReal) : logDecay (sigm y) lam ≤ 0 := by
  have h := mul_nonneg (mul_nonneg (EReal.coe_nonneg.mpr (by norm_num : (0 : ℝ) ≤ 8)) (sigm_nonneg y)) (softp_nonneg (-lam))
  have e : ((-8 : ℝ) : EReal) = -((8 : ℝ) : EReal) := by rw [← EReal.coe_neg]
  unfold logDecay
  rw [e, neg_mul, neg_mul]
  exact EReal.neg_le_zero.mpr h

/-- `1 - a²` for `a = e^x`, `x ≤ 0`: through the hyperbolic tangent, and through `e^(2x) - 1`. -/
theorem one_sub_sq {x : EReal} (h : x ≤ 0) : (0 - Ideal.tanh x) * (Ideal.exp x * Ideal.exp x + 1)
    = -(Ideal.exp (((2 : ℝ) : EReal) * x) - 1) := by
  induction x with
  | bot =>
    rw [EReal.coe_mul_bot_of_pos (by norm_num)]
    show ((0 : EReal) - (-1)) * (0 * 0 + 1) = -(0 - 1)
    simp
  | top => exact absurd h (by simp)
  | coe r =>
    rw [← EReal.coe_mul]
    show ((0 : EReal) - (Real.tanh r : EReal)) * ((Real.exp r : EReal) * (Real.exp r : EReal) + 1)
      = -((Real.exp (2 * r) : EReal) - 1)
    have key : (0 - Real.tanh r) * (Real.exp r * Real.exp r + 1) = -(Real.exp (2 * r) - 1) := by
      have e2 : Real.exp (2 * r) = Real.exp r * Real.exp r := by rw [← Real.exp_add]; ring_nf
      rw [Real.tanh_eq_sinh_div_cosh, Real.sinh_eq, Real.cosh_eq, e2, Real.exp_neg]
      have hp := Real.exp_pos r
      field_simp
      ring
    exact_mod_cast key

/-- The decay of one step. -/
def decay (y lam : EReal) : EReal := Ideal.exp (logDecay (sigm y) lam)

/-- What one step adds. -/
def drive (y z xc lam : EReal) : EReal :=
  Ideal.sqrt (-(Ideal.exp (((2 : ℝ) : EReal) * logDecay (sigm y) lam) - 1)) * (sigm z * xc)

theorem decay_unit (y lam : EReal) : 0 ≤ decay y lam ∧ decay y lam ≤ 1 :=
  ⟨exp_nonneg _, exp_le_one (logDecay_nonpos y lam)⟩

section
variable (Z : Fin 4 → Fin 4096 → Fin 512 → EReal) (CW : Fin 4 → Fin 512 → EReal) (CB : Fin 512 → EReal)
  (WA : Fin 8 → Fin 64 → Fin 64 → EReal) (BA : Fin 8 → Fin 64 → EReal)
  (WX : Fin 8 → Fin 64 → Fin 64 → EReal) (BX : Fin 8 → Fin 64 → EReal) (LAM : Fin 512 → EReal)

/-- The row `k` places back, zero before the first. -/
def past (b : Fin 4) (s : Fin 4096) (k : ℕ) (l : Fin 512) : EReal :=
  if k ≤ s.val then Z b ⟨s.val - k, by omega⟩ l else 0

/-- The causal convolution over four rows. -/
def conv (b : Fin 4) (s : Fin 4096) (l : Fin 512) : EReal :=
  CB l + CW 3 l * past Z b s 0 l + CW 2 l * past Z b s 1 l + CW 1 l * past Z b s 2 l + CW 0 l * past Z b s 3 l

/-- The eight-block linear map of a row of 512. -/
def lin (W : Fin 8 → Fin 64 → Fin 64 → EReal) (B : Fin 8 → Fin 64 → EReal) (x : Fin 512 → EReal) (l : Fin 512) : EReal :=
  (∑ d : Fin 64, W ⟨l.val / 64, by omega⟩ d ⟨l.val % 64, by omega⟩ * x ⟨l.val / 64 * 64 + d.val, by omega⟩)
    + B ⟨l.val / 64, by omega⟩ ⟨l.val % 64, by omega⟩

def stepA (b : Fin 4) (s : Fin 4096) (l : Fin 512) : EReal := decay (lin WA BA (conv Z CW CB b s) l) (LAM l)

def stepB (b : Fin 4) (s : Fin 4096) (l : Fin 512) : EReal :=
  drive (lin WA BA (conv Z CW CB b s) l) (lin WX BX (conv Z CW CB b s) l) (conv Z CW CB b s l) (LAM l)

/-- A sequence of 4096 values, as a function of every natural number. -/
def every (f : Fin 4096 → EReal) (n : ℕ) : EReal := if h : n < 4096 then f ⟨n, h⟩ else 0

/-- The state after `n` steps. -/
def hidden (b : Fin 4) (l : Fin 512) (n : ℕ) : EReal :=
  Cert.Rec.state (every fun s => stepA Z CW CB WA BA LAM b s l) (every fun s => stepB Z CW CB WA BA WX BX LAM b s l) 0 n
end

end Cert.Gate

end
-- ==== Proof.Lru.Ref.lean ====
module

public import proofs.«01_k».proof.Proof.Lru.Math
public import proofs.«01_k».proof.Proof.Lru.Trips
public import Idealize.ShloMosaic.Lib.KernelVsHost
public import Idealize.ShloMosaic.Lib.WordCmp

/-! # The reference of the recurrence at an index -/

@[expose] public section

set_option maxRecDepth 16384

noncomputable section

namespace Cert.LruRefIdeal.Lru

open Idealize.ShloMosaic Idealize.ShloMosaic.TcCoe Idealize.SL.Sem Cert.LruRefIdeal Cert.LruRefIdeal.Gen Cert.LruRefIdeal.Step
open Cert.Gate

variable (x0 : FVec Ideal S4x4096x1792 .f32) (x1 : FVec Ideal S1x4x512 .f32) (x2 : FVec Ideal S1x512 .f32)
  (x3 : FVec Ideal S1x8x64x64 .f32) (x4 : FVec Ideal S1x8x64 .f32) (x5 : FVec Ideal S1x8x64x64 .f32)
  (x6 : FVec Ideal S1x8x64 .f32) (x7 : FVec Ideal S1x512 .f32)

/-- The convolution's input. -/
def rowsOf (b : Fin 4) (s : Fin 4096) (l : Fin 512) : EReal := x0 (ix3 b s ⟨l.val, by omega⟩)

theorem padded_at (b : Fin 4) (p : Fin 4099) (l : Fin 512) : A_main_v2 (F := Ideal) x0 x1 x2 x3 x4 x5 x6 x7 (ix3 b p l)
    = if h : 3 ≤ p.val then rowsOf x0 b ⟨p.val - 3, by omega⟩ l else 0 := by
  pointwise [A_main_v2, A_main_v0, K_main_v1, K_main_cst]
  unfold rowsOf
  split_ifs <;> first | omega | skip
  all_goals first | rfl | (rw [dif_pos (by omega)]) | skip

theorem conv_sum (b : Fin 4) (s : Fin 4096) (l : Fin 512) : A_main_v39 (F := Ideal) x0 x1 x2 x3 x4 x5 x6 x7 (ix3 b s l)
    = x2 (ix2 0 l) + ((((0 + x1 (ix3 0 0 l) * A_main_v2 (F := Ideal) x0 x1 x2 x3 x4 x5 x6 x7 (ix3 b ⟨s.val, by omega⟩ l))
      + x1 (ix3 0 1 l) * A_main_v2 (F := Ideal) x0 x1 x2 x3 x4 x5 x6 x7 (ix3 b ⟨1 + s.val, by omega⟩ l))
      + x1 (ix3 0 2 l) * A_main_v2 (F := Ideal) x0 x1 x2 x3 x4 x5 x6 x7 (ix3 b ⟨2 + s.val, by omega⟩ l))
      + x1 (ix3 0 3 l) * A_main_v2 (F := Ideal) x0 x1 x2 x3 x4 x5 x6 x7 (ix3 b ⟨3 + s.val, by omega⟩ l)) := by
  pointwise [A_main_v39, A_main_v38, A_main_v37, A_main_v3, A_main_v36, A_main_v35, A_main_v34, A_main_v33, A_main_v32, A_main_v31,
    A_main_v30, A_main_v29, A_main_v28, A_main_v27, A_main_v26, A_main_v25, A_main_v24, A_main_v23, A_main_v22, A_main_v21,
    A_main_v20, A_main_v19, A_main_v18, A_main_v17, A_main_v16, A_main_v15, A_main_v14, A_main_v13, A_main_v12, A_main_v10,
    A_main_v9, A_main_v8, A_main_v7, A_main_v6, A_main_v5, A_main_v4, K_main_v11, K_main_cst_0]

theorem lin_a (b : Fin 4) (s : Fin 4096) (l : Fin 512) : A_main_v48 (F := Ideal) x0 x1 x2 x3 x4 x5 x6 x7 (ix3 b s l)
    = lin (fun n d e => x3 (ix4 0 n d e)) (fun n e => x4 (ix3 0 n e))
        (fun l => A_main_v39 (F := Ideal) x0 x1 x2 x3 x4 x5 x6 x7 (ix3 b s l)) l := by
  pointwise [A_main_v48, A_main_v47, A_main_v46, A_main_v45, A_main_v44, A_main_v43, A_main_v42, A_main_v41, A_main_v40]
  rfl

theorem lin_x (b : Fin 4) (s : Fin 4096) (l : Fin 512) : A_main_v63 (F := Ideal) x0 x1 x2 x3 x4 x5 x6 x7 (ix3 b s l)
    = lin (fun n d e => x5 (ix4 0 n d e)) (fun n e => x6 (ix3 0 n e))
        (fun l => A_main_v39 (F := Ideal) x0 x1 x2 x3 x4 x5 x6 x7 (ix3 b s l)) l := by
  pointwise [A_main_v63, A_main_v62, A_main_v61, A_main_v60, A_main_v59, A_main_v58, A_main_v57, A_main_v56, A_main_v55]
  rfl

/-- The convolution of the arguments. -/
abbrev convOf (b : Fin 4) (s : Fin 4096) (l : Fin 512) : EReal :=
  conv (rowsOf x0) (fun t l => x1 (ix3 0 t l)) (fun l => x2 (ix2 0 l)) b s l

theorem conv_at (b : Fin 4) (s : Fin 4096) (l : Fin 512) :
    A_main_v39 (F := Ideal) x0 x1 x2 x3 x4 x5 x6 x7 (ix3 b s l) = convOf x0 x1 x2 b s l := by
  have hp : ∀ (k : ℕ) (hk : k ≤ 3) (h : k + s.val < 4099), A_main_v2 (F := Ideal) x0 x1 x2 x3 x4 x5 x6 x7 (ix3 b ⟨k + s.val, h⟩ l)
      = past (rowsOf x0) b s (3 - k) l := by
    intro k hk h
    rw [padded_at]
    unfold past
    by_cases h3 : 3 ≤ k + s.val
    · rw [dif_pos h3, if_pos (by omega)]
      congr 1
      exact Fin.ext (show k + s.val - 3 = s.val - (3 - k) by omega)
    · rw [dif_neg h3, if_neg (by omega)]
  have h0 := hp 0 (by omega) (by omega)
  simp only [Nat.zero_add] at h0
  rw [conv_sum, h0, hp 1 (by omega) (by omega), hp 2 (by omega) (by omega), hp 3 (by omega) (by omega)]
  show _ = x2 (ix2 0 l) + _ + _ + _ + _
  rw [zero_add]
  abel

theorem softp_at (l : Fin 512) : A_main_v74 (F := Ideal) x0 x1 x2 x3 x4 x5 x6 x7 (ix1 l) = softp (-(x7 (ix2 0 l))) := by
  pointwise [A_main_v74, A_main_v73, A_main_v72, A_main_call0_v1, A_main_call0_v3, A_main_call0_v4, A_main_call0_v6, A_main_call0_v7,
    A_main_call0_v8, A_main_call0_v9, A_main_call0_v10, A_main_call0_v11, K_main_call0_v0, K_main_call0_v2, K_main_call0_v5,
    K_main_call0_cst]
  rw [if_neg (fun h => h rfl)]
  rfl

theorem decay_at (s : Fin 4096) (b : Fin 4) (l : Fin 512) : A_main_v87 (F := Ideal) x0 x1 x2 x3 x4 x5 x6 x7 (ix3 s b l)
    = stepA (rowsOf x0) (fun t l => x1 (ix3 0 t l)) (fun l => x2 (ix2 0 l)) (fun n d e => x3 (ix4 0 n d e))
        (fun n e => x4 (ix3 0 n e)) (fun l => x7 (ix2 0 l)) b s l := by
  pointwise [A_main_v87, A_main_v78, A_main_v77, A_main_v76, A_main_v75, A_main_v71, A_main_v54, A_main_v52, A_main_v50,
    A_main_v49, K_main_v51, K_main_v53, K_main_v70, K_main_cst_1, K_main_cst_2, K_main_cst_5]
  rw [lin_a, softp_at]
  simp only [conv_at, eight_bits]
  rfl

theorem drive_at (s : Fin 4096) (b : Fin 4) (l : Fin 512) : A_main_v88 (F := Ideal) x0 x1 x2 x3 x4 x5 x6 x7 (ix3 s b l)
    = stepB (rowsOf x0) (fun t l => x1 (ix3 0 t l)) (fun l => x2 (ix2 0 l)) (fun n d e => x3 (ix4 0 n d e))
        (fun n e => x4 (ix3 0 n e)) (fun n d e => x5 (ix4 0 n d e)) (fun n e => x6 (ix3 0 n e)) (fun l => x7 (ix2 0 l)) b s l := by
  pointwise [A_main_v88, A_main_v85, A_main_v84, A_main_v83, A_main_v82, A_main_v81, A_main_v80, A_main_v77, A_main_v76, A_main_v75, A_main_v71,
    A_main_v69, A_main_v67, A_main_v65, A_main_v64, A_main_v54, A_main_v52, A_main_v50,
    A_main_v49, K_main_v51, K_main_v53, K_main_v70, K_main_v66, K_main_v68, K_main_v79, K_main_cst_1, K_main_cst_2, K_main_cst_3,
    K_main_cst_4, K_main_cst_5, K_main_cst_6]
  rw [lin_a, lin_x, softp_at]
  simp only [conv_at, eight_bits, two_bits]
  rfl

/-- The arguments' hidden state after `n` steps. -/
abbrev hid (b : Fin 4) (l : Fin 512) (n : ℕ) : EReal :=
  hidden (rowsOf x0) (fun t l => x1 (ix3 0 t l)) (fun l => x2 (ix2 0 l)) (fun n d e => x3 (ix4 0 n d e))
    (fun n e => x4 (ix3 0 n e)) (fun n d e => x5 (ix4 0 n d e)) (fun n e => x6 (ix3 0 n e)) (fun l => x7 (ix2 0 l)) b l n

theorem word_int (j : ℕ) (hj : j < 4096) : (BitVec.ofNat 32 j).toInt = (j : ℤ) := by
  rw [BitVec.toInt_eq_toNat_of_lt (by simp; omega)]
  simp
  omega

theorem fits (j : ℕ) (hj : j < 4096) : S4096x4x512.Slices ![j, 0, 0] S1x4x512 :=
  ⟨rfl, fun a => by
    match a with
    | ⟨0, _⟩ => show j + 1 ≤ 4096; omega
    | ⟨1, _⟩ => show 0 + 4 ≤ 4; omega
    | ⟨2, _⟩ => show 0 + 512 ≤ 512; omega⟩

theorem slice_at (x : FVec Ideal S4096x4x512 .f32) (j : ℕ) (hj : j < 4096) (b : Fin 4) (l : Fin 512) :
    Host.dynamicSlice S1x4x512 x (fun k => (((![(constantI S_ 32 (BitVec.ofNat 32 j)), (constantI S_ 32 0#32), (constantI S_ 32 0#32)] : Fin 3 → IVec S_ 32)) k (Shape.Idx.first h_S_)).toInt) sliceFits_S4096x4x512_S1x4x512 (ix3 0 b l)
      = x (ix3 ⟨j, hj⟩ b l) := by
  rw [WordCmp.dynamicSlice_eq_extract _ _ _ _ ![j, 0, 0] (fits j hj) (fun a => by
    match a with
    | ⟨0, _⟩ => exact word_int j hj
    | ⟨1, _⟩ => rfl
    | ⟨2, _⟩ => rfl)]
  pointwise

variable (s : State Ideal) (j : ℕ)

theorem trip_h (hj : j < 4096) (b : Fin 4) (l : Fin 512) : (step j s).main_v90_3 (ix2 b l)
    = s.main_v90_0 (ix3 ⟨j, hj⟩ b l) * s.main_v90_3 (ix2 b l) + s.main_v90_1 (ix3 ⟨j, hj⟩ b l) := by
  rw [step_main_v90_3]
  rw [← slice_at s.main_v90_0 j hj b l, ← slice_at s.main_v90_1 j hj b l]
  pointwise [b9, b8, b7, b6, b3, b2, b0, b1, b4, b5]

theorem trip_rows (hj : j < 4096) (p : Fin 4096) (b : Fin 4) (l : Fin 512) : (step j s).main_v90_4 (ix3 p b l)
    = if p.val = j then (step j s).main_v90_3 (ix2 b l) else s.main_v90_4 (ix3 p b l) := by
  rw [step_main_v90_4, step_main_v90_3]
  unfold b13
  rw [WordCmp.dynamicUpdateSlice_eq_update _ _ _ _ ![j, 0, 0] (fits j hj) (fun a => by
    match a with
    | ⟨0, _⟩ => exact word_int j hj
    | ⟨1, _⟩ => rfl
    | ⟨2, _⟩ => rfl)]
  pointwise [b10]
  by_cases h : p.val = j
  · rw [dif_pos (by omega), if_pos h]
  · rw [dif_neg (by omega), if_neg h]

/-- The states of the loop. -/
def states (s0 : State Ideal) : ℕ → State Ideal
  | 0 => s0
  | n + 1 => step n (states s0 n)

theorem loop_at : ∀ n, n ≤ 4096 →
    (states (init (F := Ideal) x0 x1 x2 x3 x4 x5 x6 x7) n).main_v90_0 = A_main_v87 (F := Ideal) x0 x1 x2 x3 x4 x5 x6 x7
    ∧ (states (init (F := Ideal) x0 x1 x2 x3 x4 x5 x6 x7) n).main_v90_1 = A_main_v88 (F := Ideal) x0 x1 x2 x3 x4 x5 x6 x7
    ∧ (∀ b l, (states (init (F := Ideal) x0 x1 x2 x3 x4 x5 x6 x7) n).main_v90_3 (ix2 b l) = hid x0 x1 x2 x3 x4 x5 x6 x7 b l n)
    ∧ ∀ (p : Fin 4096) b l, p.val < n → (states (init (F := Ideal) x0 x1 x2 x3 x4 x5 x6 x7) n).main_v90_4 (ix3 p b l)
      = hid x0 x1 x2 x3 x4 x5 x6 x7 b l (p.val + 1)
  | 0, _ => ⟨rfl, rfl, fun b l => by
      show K_main_v86 (F := Ideal) (ix2 b l) = 0
      pointwise [K_main_v86, K_main_cst_7], fun p b l h => absurd h (Nat.not_lt_zero _)⟩
  | n + 1, hn => by
    obtain ⟨h0, h1, h3, h4⟩ := loop_at n (by omega)
    have e3 : ∀ b l, (states (init (F := Ideal) x0 x1 x2 x3 x4 x5 x6 x7) (n + 1)).main_v90_3 (ix2 b l)
        = hid x0 x1 x2 x3 x4 x5 x6 x7 b l (n + 1) := by
      intro b l
      show (step n (states _ n)).main_v90_3 (ix2 b l) = _
      rw [trip_h _ n (by omega), h0, h1, h3, decay_at, drive_at]
      show _ = every _ n * _ + every _ n
      unfold every
      rw [dif_pos (by omega), dif_pos (by omega)]
      rfl
    refine ⟨h0, h1, e3, fun p b l hp => ?_⟩
    show (step n (states _ n)).main_v90_4 (ix3 p b l) = _
    rw [trip_rows _ n (by omega)]
    by_cases h : p.val = n
    · rw [if_pos h, h]
      exact e3 b l
    · rw [if_neg h]
      exact h4 p b l (by omega)

/-- The reference's last rows of states. -/
theorem last_at (b : Fin 4) (r : Fin 8) (l : Fin 512) :
    R_main_v93 (states (init (F := Ideal) x0 x1 x2 x3 x4 x5 x6 x7) 4096) (ix3 b r l)
      = hid x0 x1 x2 x3 x4 x5 x6 x7 b l (4088 + r.val + 1) := by
  rw [← (loop_at x0 x1 x2 x3 x4 x5 x6 x7 4096 le_rfl).2.2.2 ⟨4088 + r.val, by omega⟩ b l (by simp; omega)]
  pointwise [R_main_v93]

end Cert.LruRefIdeal.Lru

end
-- ==== Proof.Lru.Conv.lean ====
module

public import proofs.«01_k».proof.Proof.Gen.LruIdeal.Value
public import Idealize.ShloMosaic.Lib.Pipeline.ValueKit
public import Idealize.ShloMosaic.Lib.Pipeline.ReadBack

/-! # The conv state the recurrence's call leaves -/

@[expose] public section

set_option maxRecDepth 16384

noncomputable section

namespace Cert.LruIdeal.Lru

open Idealize.ShloMosaic Idealize.ShloMosaic.TcCoe Idealize.SL.Sem Cert.LruIdeal Cert.LruIdeal.Gen

variable (m : (ℓ : Loc nD τ sig) → Buf (Elt Ideal) ℓ)

theorem idx : ∀ t : Fin cfg0.N, win0_0.index t = ![t.val / 8, t.val % 8, 0]
    ∧ win0_8.index t = ![t.val / 8, 0, 0] ∧ win0_9.index t = ![t.val / 8, 0, 0] ∧ t.val < 32
    ∧ ((cfg0.win 8).flush t = true → t.val % 8 = 7) ∧ ((cfg0.win 9).flush t = true → t.val % 8 = 7) :=
  (by decide +kernel : ∀ t : Fin grid0.N, _)

/-- The entry of the batch of a point. -/
def entryOf (t : Fin cfg0.N) : Fin 4 := ⟨t.val / 8, by have h := lt_of_lt_of_eq t.isLt N_0; omega⟩

/-- The row of the sequence of a row of a point's block. -/
def rowOf (t : Fin cfg0.N) (r : Fin 512) : Fin 4096 := ⟨t.val % 8 * 512 + r.val, by omega⟩

/-- The projected rows. -/
abbrev rows (c : Dev nD) (b : Fin 4) (s : Fin 4096) (l : Fin 1792) : EReal := m ((c : Thread nD τ).loc main_arg0) (ix3 b s l)

theorem blk0 (c : Dev nD) (t : Fin cfg0.N) (r : Fin 512) (d : Fin 1024) :
    (X0_0 m c t : FVec Ideal S1x512x1024 .f32) (ix3 0 r d) = rows m c (entryOf t) (rowOf t r) ⟨d.val, by omega⟩ := by
  unfold X0_0 Pipeline.Window.fill
  rw [dif_pos (moved0_0 t _)]
  blk_ext [iblk, V, idx t, entryOf, rowOf]

/-- The first half of the columns of a point's block. -/
abbrev half (c : Dev nD) (t : Fin cfg0.N) : FVec Ideal S1x512x512 .f32 :=
  View.ld (Val := Elt Ideal) (e' := .f32) (X0_0 m c t) (Rect.unit (s := S1x512x1024) ![0, 0, 0] S1x512x512.size inb_S1x512x1024_S1x512x512_0_0_0)

theorem half_at (c : Dev nD) (t : Fin cfg0.N) (r l : Fin 512) :
    half m c t (ix3 0 r l) = (X0_0 m c t : FVec Ideal S1x512x1024 .f32) (ix3 0 r ⟨l.val, by omega⟩) := by
  unfold half
  pointwise

/-- A point leaves the last 8 rows of its block as the conv state. -/
theorem conv_out (c : Dev nD) (t : Fin cfg0.N) : (outsAt0 m c t.val t.isLt).2.1 = (k0_pay15 (F := Ideal) (k0_pay7 (half m c t)) : FVec Ideal S1x8x512 .f32) := by
  by_cases h0 : t.val % 8 = 0
  · rw [outsAt0_A m c t h0]
    frame_out
    rfl
  · rw [outsAt0_B m c t h0]
    frame_out
    rfl

theorem conv_at (c : Dev nD) (t : Fin cfg0.N) (h : t.val % 8 = 7) (r : Fin 8) (l : Fin 512) :
    (outsAt0 m c t.val t.isLt).2.1 (ix3 0 r l) = rows m c (entryOf t) ⟨4088 + r.val, by omega⟩ ⟨l.val, by omega⟩ := by
  rw [conv_out]
  pointwise [k0_pay15, k0_pay7]
  rw [half_at, blk0]
  have e : rowOf t ⟨504 + r.val, by omega⟩ = ⟨4088 + r.val, by omega⟩ :=
    Fin.ext (show t.val % 8 * 512 + (504 + r.val) = 4088 + r.val by omega)
  rw [e]

/-- The last 8 rows of the first 512 columns, as an array. -/
def convState (c : Dev nD) : FVec Ideal S4x8x512 .f32 := fun i =>
  rows m c (i 0) ⟨4088 + (i 1).val, by have := (i 1).isLt; simp at this; omega⟩ ⟨(i 2).val, by have := (i 2).isLt; simp at this; omega⟩

theorem conv_point (c : Dev nD) (t : Fin cfg0.N) (ht : t.val % 8 = 7) (y : S1x8x512.Idx) (i : S4x8x512.Idx)
    (h : i = ix3 (entryOf t) (y 1) (y 2)) : (outsAt0 m c t.val t.isLt).2.1 y = convState m c i := by
  subst h
  idx_vars y
  obtain rfl : y0 = 0 := Subsingleton.elim _ _
  exact conv_at m c t ht y1 y2

theorem conv_final (c : Dev nD) : (dats m 0 c).arrAt 8 (cfgs 0).N = convState m c := by
  refine (dats m 0 c).arrAt_eq_of_covers 8 _ (by decide +kernel) fun t hf y => ?_
  have hl := (idx t).2.2.2.2.1 hf
  blk_simp
  rw [after0_8]
  refine conv_point m c t hl y _ ?_
  blk_ext [idx t, entryOf]

end Cert.LruIdeal.Lru

end
-- ==== Proof.Lru.Sweep.lean ====
module

public import proofs.«01_k».proof.Proof.Gen.LruIdeal.Skeleton
public import proofs.«01_k».proof.Proof.Lru.Scan
public import Idealize.ShloMosaic.Lib.KernelVsHost

/-! # The kernel's doubling steps -/

@[expose] public section

set_option maxRecDepth 16384

noncomputable section

namespace Cert.LruIdeal.Lru

open Idealize.ShloMosaic Idealize.ShloMosaic.TcCoe Idealize.SL.Sem Cert.LruIdeal Cert.LruIdeal.Gen Cert.Rec

/-- The row numbers of a block. -/
abbrev rowNo : IVec S512x512 32 := iota .tc S512x512 32 [0] iota_S512x512_d0_w32

/-- An array moved down by `s` rows, the first `s` rows filled. -/
def down (s : ℕ) (z : Ideal .f32) (x : FVec Ideal S512x512 .f32) : FVec Ideal S512x512 .f32 :=
  select (cmpi .sge rowNo (broadcast S512x512 (BitVec.ofNat 32 s))) (dynamicRotate 0 (BitVec.ofNat 32 s) none x rotates_S512x512_d0)
    (broadcast S512x512 z)

/-- The factors and the terms after `k` doublings. -/
def sweep (a b : FVec Ideal S512x512 .f32) : ℕ → FVec Ideal S512x512 .f32 × FVec Ideal S512x512 .f32
  | 0 => (a, b)
  | k + 1 => (mulf (sweep a b k).1 (down (2 ^ k) (Scalar.ofBits .f32 0x3F800000#32) (sweep a b k).1),
      addf (mulf (sweep a b k).1 (down (2 ^ k) (Scalar.ofBits .f32 0x00000000#32) (sweep a b k).2)) (sweep a b k).2)

theorem select_ge (r s : ℕ) (hr : r < 512) (hs : s < 512) (x y : EReal) :
    Scalar.select (IntOp.cmpi CmpIPredicate.sge (BitVec.ofNat 32 r) (BitVec.ofNat 32 s)) x y = if s ≤ r then x else y := by
  have er : (BitVec.ofNat 32 r).toInt = r := by
    rw [BitVec.toInt_eq_toNat_of_lt (by simp; omega)]
    simp
    omega
  have es : (BitVec.ofNat 32 s).toInt = s := by
    rw [BitVec.toInt_eq_toNat_of_lt (by simp; omega)]
    simp
    omega
  by_cases h : s ≤ r <;> simp [Scalar.select, IntOp.cmpi, BitVec.sle, er, es, h]

theorem down_at (s : ℕ) (hs : s < 512) (z : Ideal .f32) (x : FVec Ideal S512x512 .f32) (r l : Fin 512) :
    down s z x (ix2 r l) = if s ≤ r.val then x (ix2 ⟨r.val - s, by omega⟩ l) else z := by
  have e : dynamicRotate 0 (BitVec.ofNat 32 s) none x rotates_S512x512_d0 (ix2 r l)
      = x (ix2 ⟨(r.val + 512 - s) % 512, Nat.mod_lt _ (by decide)⟩ l) := by
    refine dynamicRotate_apply _ _ _ _ _ _ fun b => ?_
    have e2 : (BitVec.ofNat 32 s).toNat = s := by simp; omega
    rw [e2]
    match b with
    | ⟨0, _⟩ => show (r.val + 512 - s) % 512 = (r.val + 512 - s % 512) % 512; rw [Nat.mod_eq_of_lt hs]
    | ⟨1, _⟩ => rfl
  have e3 : down s z x (ix2 r l) = Scalar.select (IntOp.cmpi CmpIPredicate.sge (BitVec.ofNat 32 r.val) (BitVec.ofNat 32 s))
      (dynamicRotate 0 (BitVec.ofNat 32 s) none x rotates_S512x512_d0 (ix2 r l)) z := by
    unfold down
    pointwise
  rw [e3, select_ge _ _ r.isLt hs, e]
  split_ifs with h
  · congr 2
    exact Fin.ext (show (r.val + 512 - s) % 512 = r.val - s by omega)
  · rfl

/-- A column of a block, extended over all indices. -/
def ext (f : Fin 512 → EReal) (z : EReal) (i : ℤ) : EReal := if h : 0 ≤ i ∧ i < 512 then f ⟨i.toNat, by omega⟩ else z

theorem ext_at (f : Fin 512 → EReal) (z : EReal) (i : Fin 512) : ext f z (i.val : ℤ) = f i := by
  unfold ext
  rw [dif_pos (by omega)]
  rfl

theorem ext_neg (f : Fin 512 → EReal) (z : EReal) (i : ℤ) (h : i < 0) : ext f z i = z := by
  unfold ext
  rw [dif_neg (by omega)]

theorem sweep_at (a b : FVec Ideal S512x512 .f32) (l : Fin 512) (hu : Unit01 (ext (fun r => a (ix2 r l)) 1)) :
    ∀ (k : ℕ) (_ : k ≤ 9) (r : Fin 512),
      (sweep a b k).1 (ix2 r l) = prod (ext (fun r => a (ix2 r l)) 1) r.val (2 ^ k)
      ∧ (sweep a b k).2 (ix2 r l) = fold (ext (fun r => a (ix2 r l)) 1) (ext (fun r => b (ix2 r l)) 0) r.val (2 ^ k)
  | 0, _, r => by
    simp [sweep, prod, fold, ext_at]
  | k + 1, h, r => by
    have hk := sweep_at a b l hu k (by omega)
    have hs : 2 ^ k < 512 := lt_of_le_of_lt (Nat.pow_le_pow_right (by decide) (show k ≤ 8 by omega)) (by decide)
    have e0 : (Scalar.ofBits .f32 0x00000000#32 : Ideal .f32) = (0 : EReal) := by pointwise
    have e1 : (Scalar.ofBits .f32 0x3F800000#32 : Ideal .f32) = (1 : EReal) := by pointwise
    rw [pow_succ, Nat.mul_two, prod_double _ (ext_neg _ _), fold_double hu (ext_neg _ _)]
    constructor
    · show (sweep a b k).1 (ix2 r l) * down (2 ^ k) _ (sweep a b k).1 (ix2 r l) = _
      rw [down_at _ hs, (hk r).1, e1]
      split_ifs with h
      · rw [(hk _).1]
      · rfl
    · show (sweep a b k).1 (ix2 r l) * down (2 ^ k) _ (sweep a b k).2 (ix2 r l) + (sweep a b k).2 (ix2 r l) = _
      rw [down_at _ hs, (hk r).1, (hk r).2, e0]
      split_ifs with h
      · rw [(hk _).2]
      · rfl

end Cert.LruIdeal.Lru

end
-- ==== Proof.Lru.Pay.lean ====
module

public import proofs.«01_k».proof.Proof.Lru.Math
public import proofs.«01_k».proof.Proof.Lru.Sweep
public import Idealize.ShloMosaic.Lib.KernelVsHost

/-! # What one point of the recurrence computes -/

@[expose] public section

set_option maxRecDepth 16384

noncomputable section

namespace Cert.LruIdeal.Lru

open Idealize.ShloMosaic Idealize.ShloMosaic.TcCoe Idealize.SL.Sem Cert.LruIdeal Cert.LruIdeal.Gen
open Cert.Gate
open Cert.Rec (Unit01)

/-- The row numbers of the first eight rows. -/
abbrev topNo : IVec S8x512 32 := iota .tc S8x512 32 [0] iota_S8x512_d0_w32

/-- A block moved down by `k` rows, the first rows taken from the end of the eight rows before it. -/
def back (k : ℕ) (x : FVec Ideal S512x512 .f32) (y : FVec Ideal S8x512 .f32) : FVec Ideal S512x512 .f32 :=
  concatenate S512x512 0 [⟨S8x512, select (cmpi .sge topNo (broadcast S8x512 (BitVec.ofNat 32 k)))
      (extractStridedSlice S8x512 ![0, 0] (dynamicRotate 0 (BitVec.ofNat 32 k) none x rotates_S512x512_d0) slices_S512x512_o0_0_S8x512)
      (dynamicRotate 0 (BitVec.ofNat 32 k) none y rotates_S8x512_d0)⟩,
    ⟨S504x512, extractStridedSlice S504x512 ![8, 0] (dynamicRotate 0 (BitVec.ofNat 32 k) none x rotates_S512x512_d0) slices_S512x512_o8_0_S504x512⟩]
    concatenates_S8x512_S504x512_S512x512_d0

theorem rot_at (k : ℕ) (hk : k < 8) (x : FVec Ideal S512x512 .f32) (r l : Fin 512) :
    dynamicRotate 0 (BitVec.ofNat 32 k) none x rotates_S512x512_d0 (ix2 r l)
      = x (ix2 ⟨(r.val + 512 - k) % 512, Nat.mod_lt _ (by decide)⟩ l) := by
  refine dynamicRotate_apply _ _ _ _ _ _ fun b => ?_
  have e2 : (BitVec.ofNat 32 k).toNat = k := by simp; omega
  rw [e2]
  match b with
  | ⟨0, _⟩ => show (r.val + 512 - k) % 512 = (r.val + 512 - k % 512) % 512; rw [Nat.mod_eq_of_lt (by omega : k < 512)]
  | ⟨1, _⟩ => rfl

theorem rot8_at (k : ℕ) (hk : k < 8) (x : FVec Ideal S8x512 .f32) (r : Fin 8) (l : Fin 512) :
    dynamicRotate 0 (BitVec.ofNat 32 k) none x rotates_S8x512_d0 (ix2 r l)
      = x (ix2 ⟨(r.val + 8 - k) % 8, Nat.mod_lt _ (by decide)⟩ l) := by
  refine dynamicRotate_apply _ _ _ _ _ _ fun b => ?_
  have e2 : (BitVec.ofNat 32 k).toNat = k := by simp; omega
  rw [e2]
  match b with
  | ⟨0, _⟩ => show (r.val + 8 - k) % 8 = (r.val + 8 - k % 8) % 8; rw [Nat.mod_eq_of_lt hk]
  | ⟨1, _⟩ => rfl

theorem back_at (k : ℕ) (hk : k < 8) (x : FVec Ideal S512x512 .f32) (y : FVec Ideal S8x512 .f32) (r l : Fin 512) :
    back k x y (ix2 r l) = if h : k ≤ r.val then x (ix2 ⟨r.val - k, by omega⟩ l)
      else y (ix2 ⟨r.val + 8 - k, by omega⟩ l) := by
  have key : back k x y (ix2 r l) = if h : r.val < 8 then
      Scalar.select (IntOp.cmpi CmpIPredicate.sge (BitVec.ofNat 32 r.val) (BitVec.ofNat 32 k))
        (dynamicRotate 0 (BitVec.ofNat 32 k) none x rotates_S512x512_d0 (ix2 r l))
        (dynamicRotate 0 (BitVec.ofNat 32 k) none y rotates_S8x512_d0 (ix2 ⟨r.val, h⟩ l))
      else dynamicRotate 0 (BitVec.ofNat 32 k) none x rotates_S512x512_d0 (ix2 r l) := by
    unfold back
    pointwise
    by_cases h : r.val < 8
    · rw [dif_pos h, dif_pos h]
    · rw [dif_neg h, dif_neg h]
      congr 2
      exact Fin.ext (by
        show (8 + (r.val - 8) + 512 - _) % 512 = _
        rw [show 8 + (r.val - 8) = r.val by omega])
  rw [key]
  by_cases h8 : r.val < 8
  · rw [dif_pos h8, select_ge _ _ r.isLt (by omega), rot_at k hk, rot8_at k hk]
    by_cases h : k ≤ r.val
    · rw [if_pos h, dif_pos h]
      congr 2
      exact Fin.ext (show (r.val + 512 - k) % 512 = r.val - k by omega)
    · rw [if_neg h, dif_neg h]
      congr 2
      exact Fin.ext (show (r.val + 8 - k) % 8 = r.val + 8 - k by omega)
  · rw [dif_neg h8, rot_at k hk, dif_pos (by omega)]
    congr 2
    exact Fin.ext (show (r.val + 512 - k) % 512 = r.val - k by omega)

/-- The convolution of a block, whole. -/
def convBlock (x : FVec Ideal S1x512x512 .f32) (cb : FVec Ideal S1x512 .f32) (w0 w1 w2 w3 : FVec Ideal S1x512 .f32)
    (y : FVec Ideal S8x512 .f32) : FVec Ideal S512x512 .f32 :=
  k0_pay13 (F := Ideal) (k0_pay7 x) topNo y (k0_pay9 x cb w3 y w2) (k0_pay10 x) k0_pay11 (k0_pay12 x) 2#32 w1 w0

theorem convBlock_at (x : FVec Ideal S1x512x512 .f32) (cb : FVec Ideal S1x512 .f32) (w0 w1 w2 w3 : FVec Ideal S1x512 .f32)
    (y : FVec Ideal S8x512 .f32) (r l : Fin 512) : convBlock x cb w0 w1 w2 w3 y (ix2 r l)
      = cb (ix2 0 l) + w3 (ix2 0 l) * x (ix3 0 r l) + w2 (ix2 0 l) * back 1 (k0_pay7 x) y (ix2 r l)
        + w1 (ix2 0 l) * back 2 (k0_pay7 x) y (ix2 r l) + w0 (ix2 0 l) * back 3 (k0_pay7 x) y (ix2 r l) := by
  have e : convBlock x cb w0 w1 w2 w3 y = addf (addf (addf (addf (broadcastTo S512x512 (shapeCast S1x512 cb shapeCasts_S1x512_S1x512) broadcasts_S1x512_S512x512)
      (mulf (broadcastTo S512x512 (shapeCast S1x512 w3 shapeCasts_S1x512_S1x512) broadcasts_S1x512_S512x512) (k0_pay7 x)))
      (mulf (broadcastTo S512x512 (shapeCast S1x512 w2 shapeCasts_S1x512_S1x512) broadcasts_S1x512_S512x512) (back 1 (k0_pay7 x) y)))
      (mulf (broadcastTo S512x512 (shapeCast S1x512 w1 shapeCasts_S1x512_S1x512) broadcasts_S1x512_S512x512) (back 2 (k0_pay7 x) y)))
      (mulf (broadcastTo S512x512 (shapeCast S1x512 w0 shapeCasts_S1x512_S1x512) broadcasts_S1x512_S512x512) (back 3 (k0_pay7 x) y)) := rfl
  rw [e]
  pointwise [k0_pay7]

variable (xc : FVec Ideal S512x512 .f32) (lo hi : FVec Ideal S256x512 .bf16) (bg : FVec Ideal S1x1024 .f32) (lam : FVec Ideal S1x512 .f32)

/-- The first gate's linear map of a block at an index, from the half of the row its block lies in. -/
def linA (r l : Fin 512) : EReal :=
  (if h : l.val < 256 then ∑ k : Fin 256, xc (ix2 r ⟨k.val, by omega⟩) * lo (ix2 k l)
    else ∑ k : Fin 256, xc (ix2 r ⟨256 + k.val, by omega⟩) * hi (ix2 k ⟨l.val - 256, by omega⟩))
    + bg (ix2 0 ⟨l.val, by omega⟩)

/-- The second gate's. -/
def linX (r l : Fin 512) : EReal :=
  (if h : l.val < 256 then ∑ k : Fin 256, xc (ix2 r ⟨k.val, by omega⟩) * lo (ix2 k ⟨256 + l.val, by omega⟩)
    else ∑ k : Fin 256, xc (ix2 r ⟨256 + k.val, by omega⟩) * hi (ix2 k ⟨256 + (l.val - 256), by omega⟩))
    + bg (ix2 0 ⟨512 + l.val, by omega⟩)

theorem log_at (r l : Fin 512) : (k0_pay23 (F := Ideal) xc (k0_pay17 lam) (k0_pay18 lam) lo hi bg : FVec Ideal S512x512 .f32) (ix2 r l)
    = logDecay (sigm (linA xc lo hi bg r l)) (lam (ix2 0 l)) := by
  pointwise [k0_pay23, k0_pay21, k0_pay20, k0_pay19, k0_pay18, k0_pay17, k0_pay16]
  rw [eight_bits]
  simp only [zero_sub]
  rfl

theorem a_at (r l : Fin 512) : (k0_pay24 (F := Ideal) xc (k0_pay17 lam) (k0_pay18 lam) lo hi bg : FVec Ideal S512x512 .f32) (ix2 r l)
    = decay (linA xc lo hi bg r l) (lam (ix2 0 l)) := by
  show Ideal.exp _ = _
  rw [log_at]
  rfl

theorem i_at (r l : Fin 512) : (k0_pay22 (F := Ideal) xc lo hi bg : FVec Ideal S512x512 .f32) (ix2 r l)
    = sigm (linX xc lo hi bg r l) := by
  pointwise [k0_pay22, k0_pay21, k0_pay20, k0_pay19]
  simp only [zero_sub]
  rfl

/-- What a step adds, as the kernel writes it. -/
def bBlock (a t g : FVec Ideal S512x512 .f32) : FVec Ideal S512x512 .f32 :=
  mulf (sqrt (mulf (subf (broadcast S512x512 (Scalar.ofBits .f32 0x00000000#32)) t)
    (addf (mulf a a) (broadcast S512x512 (Scalar.ofBits .f32 0x3F800000#32))))) (mulf g xc)

/-- The decays and the additions of a block. -/
def aOf : FVec Ideal S512x512 .f32 := k0_pay24 (F := Ideal) xc (k0_pay17 lam) (k0_pay18 lam) lo hi bg
def bOf : FVec Ideal S512x512 .f32 :=
  bBlock xc (aOf xc lo hi bg lam) (k0_pay25 (F := Ideal) xc (k0_pay17 lam) (k0_pay18 lam) lo hi bg) (k0_pay22 (F := Ideal) xc lo hi bg)

theorem b_at (r l : Fin 512) : bOf xc lo hi bg lam (ix2 r l)
    = drive (linA xc lo hi bg r l) (linX xc lo hi bg r l) (xc (ix2 r l)) (lam (ix2 0 l)) := by
  have e : bOf xc lo hi bg lam (ix2 r l) = Ideal.sqrt ((0 - Ideal.tanh ((k0_pay23 (F := Ideal) xc (k0_pay17 lam) (k0_pay18 lam) lo hi bg : FVec Ideal S512x512 .f32) (ix2 r l)))
      * (aOf xc lo hi bg lam (ix2 r l) * aOf xc lo hi bg lam (ix2 r l) + 1))
      * ((k0_pay22 (F := Ideal) xc lo hi bg : FVec Ideal S512x512 .f32) (ix2 r l) * xc (ix2 r l)) := by
    pointwise [bOf, bBlock, k0_pay25]
  rw [e, i_at, log_at]
  unfold aOf
  rw [a_at]
  unfold decay drive
  rw [one_sub_sq (logDecay_nonpos _ _)]

/-- The states of a block: the doublings, then the state carried in. -/
def hBlock (a b : FVec Ideal S512x512 .f32) (h : FVec Ideal S1x512 .f32) : FVec Ideal S512x512 .f32 :=
  addf (mulf (sweep a b 9).1 (broadcastTo S512x512 h broadcasts_S1x512_S512x512)) (sweep a b 9).2

theorem hBlock_at (a b : FVec Ideal S512x512 .f32) (h : FVec Ideal S1x512 .f32) (A B : Fin 512 → EReal) (l : Fin 512)
    (ha : ∀ r, a (ix2 r l) = A r) (hb : ∀ r, b (ix2 r l) = B r) (hu : ∀ r, 0 ≤ A r ∧ A r ≤ 1) (r : Fin 512) :
    hBlock a b h (ix2 r l) = Cert.Rec.state (fun k => ext A 1 k) (fun k => ext B 0 k) (h (ix2 0 l)) (r.val + 1) := by
  have hx : Unit01 (ext A 1) := by
    intro i
    unfold ext
    split_ifs
    · exact hu _
    · exact ⟨zero_le_one, le_rfl⟩
  have ea : (fun r => a (ix2 r l)) = A := funext ha
  have eb : (fun r => b (ix2 r l)) = B := funext hb
  have hs := sweep_at a b l (by rw [ea]; exact hx) 9 (by decide) r
  rw [ea, eb] at hs
  have e : hBlock a b h (ix2 r l) = (sweep a b 9).1 (ix2 r l) * h (ix2 0 l) + (sweep a b 9).2 (ix2 r l) := by
    unfold hBlock
    pointwise
  rw [e, hs.1, hs.2]
  exact Cert.Rec.state_long hx (fun i hi => ext_neg _ _ i hi) (fun i hi => ext_neg _ _ i hi) _ r.val _ (by have := r.isLt; norm_num)

section
variable (a b t g p q : FVec Ideal S512x512 .f32)

theorem first_doublings : (k0_pay27 (F := Ideal) rowNo xc g a t : FVec Ideal S512x512 .f32) = (sweep a (bBlock xc a t g) 2).2
    ∧ (k0_pay28 (F := Ideal) rowNo a : FVec Ideal S512x512 .f32) = (sweep a (bBlock xc a t g) 2).1 := ⟨rfl, rfl⟩

theorem sweep_from (k n : ℕ) : sweep a b (k + n + 1) = (mulf (sweep a b (k + n)).1 (down (2 ^ (k + n)) (Scalar.ofBits .f32 0x3F800000#32) (sweep a b (k + n)).1),
      addf (mulf (sweep a b (k + n)).1 (down (2 ^ (k + n)) (Scalar.ofBits .f32 0x00000000#32) (sweep a b (k + n)).2)) (sweep a b (k + n)).2) := rfl

theorem next_doublings (h1 : p = (sweep a b 2).1) (h2 : q = (sweep a b 2).2) :
    (k0_pay33 (F := Ideal) rowNo q p (down 4 (Scalar.ofBits .f32 0x3F800000#32) p) (k0_pay30 rowNo) : FVec Ideal S512x512 .f32) = (sweep a b 5).2
    ∧ (k0_pay34 (F := Ideal) rowNo p (down 4 (Scalar.ofBits .f32 0x3F800000#32) p) : FVec Ideal S512x512 .f32) = (sweep a b 5).1 := by
  have e3 := sweep_from a b 2 0
  have e4 := sweep_from a b 3 0
  have e5 := sweep_from a b 4 0
  simp only [Nat.add_zero, Nat.reduceAdd] at e3 e4 e5
  rw [← h1, ← h2] at e3
  rw [e3] at e4
  rw [e4] at e5
  rw [e5]
  exact ⟨rfl, rfl⟩

theorem last_doublings (h1 : p = (sweep a b 5).1) (h2 : q = (sweep a b 5).2) (h : FVec Ideal S1x512 .f32) :
    (k0_pay1 (F := Ideal)
      (k0_pay40 rowNo q p (down 32 (Scalar.ofBits .f32 0x3F800000#32) p) (k0_pay36 rowNo) (dynamicRotate 0 32#32 none q rotates_S512x512_d0) (Scalar.ofBits .f32 0x00000000#32))
      (k0_pay41 rowNo p (down 32 (Scalar.ofBits .f32 0x3F800000#32) p))
      (k0_pay42 rowNo p (down 32 (Scalar.ofBits .f32 0x3F800000#32) p))
      (k0_pay43 rowNo q p (down 32 (Scalar.ofBits .f32 0x3F800000#32) p) (k0_pay36 rowNo) (dynamicRotate 0 32#32 none q rotates_S512x512_d0) (Scalar.ofBits .f32 0x00000000#32)) h : FVec Ideal S512x512 .f32)
      = hBlock a b h := by
  have e6 := sweep_from a b 5 0
  have e7 := sweep_from a b 6 0
  have e8 := sweep_from a b 7 0
  have e9 := sweep_from a b 8 0
  simp only [Nat.add_zero, Nat.reduceAdd] at e6 e7 e8 e9
  rw [← h1, ← h2] at e6
  rw [e6] at e7
  rw [e7] at e8
  rw [e8] at e9
  unfold hBlock
  rw [e9]
  rfl

/-- The kernel's states of a block, of its gates' values. -/
theorem pay1_eq (h : FVec Ideal S1x512 .f32) :
    (k0_pay1 (F := Ideal)
      (k0_pay40 rowNo (k0_pay33 rowNo (k0_pay27 rowNo xc g a t) (k0_pay28 rowNo a) (k0_pay29 rowNo a) (k0_pay30 rowNo)) (k0_pay34 rowNo (k0_pay28 rowNo a) (k0_pay29 rowNo a)) (k0_pay35 rowNo (k0_pay28 rowNo a) (k0_pay29 rowNo a)) (k0_pay36 rowNo) (k0_pay37 rowNo (k0_pay27 rowNo xc g a t) (k0_pay28 rowNo a) (k0_pay29 rowNo a) (k0_pay30 rowNo)) (Scalar.ofBits .f32 0x00000000#32))
      (k0_pay41 rowNo (k0_pay34 rowNo (k0_pay28 rowNo a) (k0_pay29 rowNo a)) (k0_pay35 rowNo (k0_pay28 rowNo a) (k0_pay29 rowNo a)))
      (k0_pay42 rowNo (k0_pay34 rowNo (k0_pay28 rowNo a) (k0_pay29 rowNo a)) (k0_pay35 rowNo (k0_pay28 rowNo a) (k0_pay29 rowNo a)))
      (k0_pay43 rowNo (k0_pay33 rowNo (k0_pay27 rowNo xc g a t) (k0_pay28 rowNo a) (k0_pay29 rowNo a) (k0_pay30 rowNo)) (k0_pay34 rowNo (k0_pay28 rowNo a) (k0_pay29 rowNo a)) (k0_pay35 rowNo (k0_pay28 rowNo a) (k0_pay29 rowNo a)) (k0_pay36 rowNo) (k0_pay37 rowNo (k0_pay27 rowNo xc g a t) (k0_pay28 rowNo a) (k0_pay29 rowNo a) (k0_pay30 rowNo)) (Scalar.ofBits .f32 0x00000000#32)) h : FVec Ideal S512x512 .f32)
      = hBlock a (bBlock xc a t g) h := by
  obtain ⟨f1, f2⟩ := first_doublings xc a t g
  obtain ⟨n1, n2⟩ := next_doublings a (bBlock xc a t g) _ _ f2 f1
  exact last_doublings a (bBlock xc a t g) _ _ n2 n1 h

end

end Cert.LruIdeal.Lru

end
-- ==== Proof.Lru.Point.lean ====
module

public import proofs.«01_k».proof.Proof.Lru.Conv
public import proofs.«01_k».proof.Proof.Lru.Pay

/-! # One point of the recurrence -/

@[expose] public section

set_option maxRecDepth 16384

noncomputable section

namespace Cert.LruIdeal.Lru

open Idealize.ShloMosaic Idealize.ShloMosaic.TcCoe Idealize.SL.Sem Cert.LruIdeal Cert.LruIdeal.Gen
open Cert.Gate

variable (m : (ℓ : Loc nD τ sig) → Buf (Elt Ideal) ℓ)

/-- A row of the convolution's weights. -/
abbrev tap0 (c : Dev nD) (t : Fin cfg0.N) : FVec Ideal S1x512 .f32 :=
  View.ld (Val := Elt Ideal) (e' := .f32) (iblk m c 1 t) (Rect.unit (s := S4x512) ![0, 0] S1x512.size inb_S4x512_S1x512_0_0)
abbrev tap1 (c : Dev nD) (t : Fin cfg0.N) : FVec Ideal S1x512 .f32 :=
  View.ld (Val := Elt Ideal) (e' := .f32) (iblk m c 1 t) (Rect.unit (s := S4x512) ![1, 0] S1x512.size inb_S4x512_S1x512_1_0)
abbrev tap2 (c : Dev nD) (t : Fin cfg0.N) : FVec Ideal S1x512 .f32 :=
  View.ld (Val := Elt Ideal) (e' := .f32) (iblk m c 1 t) (Rect.unit (s := S4x512) ![2, 0] S1x512.size inb_S4x512_S1x512_2_0)
abbrev tap3 (c : Dev nD) (t : Fin cfg0.N) : FVec Ideal S1x512 .f32 :=
  View.ld (Val := Elt Ideal) (e' := .f32) (iblk m c 1 t) (Rect.unit (s := S4x512) ![3, 0] S1x512.size inb_S4x512_S1x512_3_0)

/-- The last of eight carried rows. -/
abbrev lastRow (y : FVec Ideal S8x512 .f32) : FVec Ideal S1x512 .f32 :=
  View.ld (Val := Elt Ideal) (e' := .f32) y (Rect.unit (s := S8x512) ![7, 0] S1x512.size inb_S8x512_S1x512_7_0)

/-- The convolved rows of a point, of the eight rows before its block. -/
abbrev xcOf (c : Dev nD) (t : Fin cfg0.N) (y : FVec Ideal S8x512 .f32) : FVec Ideal S512x512 .f32 :=
  convBlock (half m c t) (iblk m c 2 t) (tap0 m c t) (tap1 m c t) (tap2 m c t) (tap3 m c t) y

/-- The states of a point, of the eight rows before its block and the eight states before it. -/
def statesOf (c : Dev nD) (t : Fin cfg0.N) (y h : FVec Ideal S8x512 .f32) : FVec Ideal S512x512 .f32 :=
  hBlock (aOf (xcOf m c t y) (iblk m c 3 t) (iblk m c 4 t) (iblk m c 5 t) (iblk m c 6 t))
    (bOf (xcOf m c t y) (iblk m c 3 t) (iblk m c 4 t) (iblk m c 5 t) (iblk m c 6 t)) (lastRow h)

/-- The last eight rows, as the carried rows and as the result's block. -/
def tail8 (x : FVec Ideal S512x512 .f32) : FVec Ideal S8x512 .f32 :=
  shapeCast S8x512 (extractStridedSlice S8x512 ![504, 0] x slices_S512x512_o504_0_S8x512) shapeCasts_S8x512_S8x512
def tail18 (x : FVec Ideal S512x512 .f32) : FVec Ideal S1x8x512 .f32 :=
  shapeCast S1x8x512 (extractStridedSlice S8x512 ![504, 0] x slices_S512x512_o504_0_S8x512) shapeCasts_S8x512_S1x8x512

/-- The rows and the states a point finds. -/
def before (c : Dev nD) (t : Fin cfg0.N) : FVec Ideal S8x512 .f32 × FVec Ideal S8x512 .f32 :=
  if t.val % 8 = 0 then (k0_pay5 (F := Ideal), k0_pay6 (F := Ideal))
  else ((outsAt0 m c (t.val - 1) (Nat.lt_of_le_of_lt (Nat.sub_le _ _) t.isLt)).2.2.2.1, (outsAt0 m c (t.val - 1) (Nat.lt_of_le_of_lt (Nat.sub_le _ _) t.isLt)).2.2.2.2)

theorem rows_out (c : Dev nD) (t : Fin cfg0.N) : (outsAt0 m c t.val t.isLt).2.2.2.1 = tail8 (k0_pay7 (F := Ideal) (half m c t)) := by
  by_cases h0 : t.val % 8 = 0
  · rw [outsAt0_A m c t h0]
    frame_out
    rfl
  · rw [outsAt0_B m c t h0]
    frame_out
    rfl

theorem carry_out (c : Dev nD) (t : Fin cfg0.N) :
    (outsAt0 m c t.val t.isLt).2.2.2.2 = tail8 (statesOf m c t (before m c t).1 (before m c t).2) := by
  by_cases h0 : t.val % 8 = 0
  · have e : before m c t = (k0_pay5 (F := Ideal), k0_pay6 (F := Ideal)) := if_pos h0
    rw [e, outsAt0_A m c t h0]
    frame_out
    generalize hX : k0_pay13 (F := Ideal) _ _ _ _ _ _ _ _ _ _ = X
    generalize hz : k0_pay24 (F := Ideal) _ _ _ _ _ _ = z
    generalize hu : k0_pay25 (F := Ideal) _ _ _ _ _ _ = u
    generalize hg : k0_pay22 (F := Ideal) _ _ _ _ = g
    generalize hh : View.readCov (Val := Elt Ideal) _ _ _ = y
    have hy : y = lastRow (k0_pay6 (F := Ideal)) := hh.symm.trans (View.readCov_fill _ _ _ _ _ (fun a => by fin_cases a <;> rfl))
    rw [hy]
    refine (congrArg tail8 (pay1_eq X z u g _)).trans (congrArg tail8 ?_)
    subst hg hu hz hX
    rfl
  · have e : before m c t = _ := if_neg h0
    rw [e, outsAt0_B m c t h0]
    frame_out
    generalize hX : k0_pay13 (F := Ideal) _ _ _ _ _ _ _ _ _ _ = X
    generalize hz : k0_pay24 (F := Ideal) _ _ _ _ _ _ = z
    generalize hu : k0_pay25 (F := Ideal) _ _ _ _ _ _ = u
    generalize hg : k0_pay22 (F := Ideal) _ _ _ _ = g
    rw [read_unread_whole] at hX ⊢
    refine (congrArg tail8 (pay1_eq X z u g _)).trans (congrArg tail8 ?_)
    subst hg hu hz hX
    rfl

theorem last_out (c : Dev nD) (t : Fin cfg0.N) :
    (outsAt0 m c t.val t.isLt).2.2.1 = tail18 (statesOf m c t (before m c t).1 (before m c t).2) := by
  by_cases h0 : t.val % 8 = 0
  · have e : before m c t = (k0_pay5 (F := Ideal), k0_pay6 (F := Ideal)) := if_pos h0
    rw [e, outsAt0_A m c t h0]
    frame_out
    generalize hX : k0_pay13 (F := Ideal) _ _ _ _ _ _ _ _ _ _ = X
    generalize hz : k0_pay24 (F := Ideal) _ _ _ _ _ _ = z
    generalize hu : k0_pay25 (F := Ideal) _ _ _ _ _ _ = u
    generalize hg : k0_pay22 (F := Ideal) _ _ _ _ = g
    generalize hh : View.readCov (Val := Elt Ideal) _ _ _ = y
    have hy : y = lastRow (k0_pay6 (F := Ideal)) := hh.symm.trans (View.readCov_fill _ _ _ _ _ (fun a => by fin_cases a <;> rfl))
    rw [hy]
    refine (congrArg tail18 (pay1_eq X z u g _)).trans (congrArg tail18 ?_)
    subst hg hu hz hX
    rfl
  · have e : before m c t = _ := if_neg h0
    rw [e, outsAt0_B m c t h0]
    frame_out
    generalize hX : k0_pay13 (F := Ideal) _ _ _ _ _ _ _ _ _ _ = X
    generalize hz : k0_pay24 (F := Ideal) _ _ _ _ _ _ = z
    generalize hu : k0_pay25 (F := Ideal) _ _ _ _ _ _ = u
    generalize hg : k0_pay22 (F := Ideal) _ _ _ _ = g
    rw [read_unread_whole] at hX ⊢
    refine (congrArg tail18 (pay1_eq X z u g _)).trans (congrArg tail18 ?_)
    subst hg hu hz hX
    rfl

end Cert.LruIdeal.Lru

end
-- ==== Proof.Lru.Host.lean ====
module

public import proofs.«01_k».proof.Proof.Lru.Conv
public import proofs.«01_k».proof.Proof.Lru.Math

/-! # The weights of the gates, joined along a diagonal -/

@[expose] public section

set_option maxRecDepth 16384

noncomputable section

namespace Cert.LruIdeal.Lru

open Idealize.ShloMosaic Idealize.ShloMosaic.TcCoe Idealize.SL.Sem Cert.LruIdeal Cert.LruIdeal.Gen
open Cert.Gate

/-- The whole-array windows. -/
theorem idxW : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- The identity of four. -/
def eye : FVec Ideal S4x4 .f32 :=
  uitofp .f32 (cmpi .eq (addi (iotaInDim S4x4 32 0) (broadcastInDim S4x4 ![] bcast_S_S4x4 (constantI S_ 32 0#32))) (iotaInDim S4x4 32 1))

theorem eye_at (i j : Fin 4) : eye (ix2 i j) = if i = j then 1 else 0 := by
  unfold eye
  pointwise
  have h : IntOp.cmpi CmpIPredicate.eq (IntOp.addi (BitVec.ofNat 32 i.val) 0#32) (BitVec.ofNat 32 j.val) = if i = j then 1#1 else 0#1 := by
    revert i j
    decide
  rw [h]
  split_ifs
  · show (((1#1 : BitVec 1).toNat : ℝ) : EReal) = 1
    simp
  · show (((0#1 : BitVec 1).toNat : ℝ) : EReal) = 0
    simp

/-- Four blocks along the diagonal. -/
def diag (w : FVec Ideal S4x64x64 .f32) : FVec Ideal S256x256 .f32 :=
  shapeCast S256x256 (mulf (broadcastInDim S4x64x4x64 ![0, 1, 2, 3] bcast_S4x64x1x64_S4x64x4x64_0_1_2_3
      (broadcastInDim S4x64x1x64 ![0, 1, 3] bcast_S4x64x64_S4x64x1x64_0_1_3 w))
    (broadcastInDim S4x64x4x64 ![0, 1, 2, 3] bcast_S4x1x4x1_S4x64x4x64_0_1_2_3
      (broadcastInDim S4x1x4x1 ![0, 2] bcast_S4x4_S4x1x4x1_0_2 eye))) shapeCasts_S4x64x4x64_S256x256

theorem diag_at (w : FVec Ideal S4x64x64 .f32) (k e : Fin 256) : diag w (ix2 k e)
    = w (ix3 ⟨k.val / 64, by omega⟩ ⟨k.val % 64, by omega⟩ ⟨e.val % 64, by omega⟩)
      * eye (ix2 ⟨k.val / 64, by omega⟩ ⟨e.val / 64, by omega⟩) := by
  unfold diag
  pointwise

variable (m : (ℓ : Loc nD τ sig) → Buf (Elt Ideal) ℓ)

abbrev wA (c : Dev nD) : FVec Ideal S1x8x64x64 .f32 := m ((c : Thread nD τ).loc main_arg3)
abbrev wX (c : Dev nD) : FVec Ideal S1x8x64x64 .f32 := m ((c : Thread nD τ).loc main_arg5)

/-- The joined weights of four of the eight blocks, of both gates. -/
def joined (o : ℕ) (h : S8x64x64.Slices ![o, 0, 0] S4x64x64) (a x : FVec Ideal S1x8x64x64 .f32) : FVec Ideal S256x512 .f32 :=
  concatenate S256x512 1 [⟨S256x256, diag (extractStridedSlice S4x64x64 ![o, 0, 0] (shapeCast S8x64x64 a shapeCasts_S1x8x64x64_S8x64x64) h)⟩,
    ⟨S256x256, diag (extractStridedSlice S4x64x64 ![o, 0, 0] (shapeCast S8x64x64 x shapeCasts_S1x8x64x64_S8x64x64) h)⟩] concatenates_S256x256_S256x256_S256x512_d1

theorem joined_a (o : ℕ) (h : S8x64x64.Slices ![o, 0, 0] S4x64x64) (ho : o ≤ 4) (a x : FVec Ideal S1x8x64x64 .f32) (k e : Fin 256) :
    joined o h a x (ix2 k ⟨e.val, by omega⟩) = a (ix4 0 ⟨o + k.val / 64, by omega⟩ ⟨k.val % 64, by omega⟩ ⟨e.val % 64, by omega⟩)
      * (if k.val / 64 = e.val / 64 then 1 else 0) := by
  have he := eye_at ⟨k.val / 64, by omega⟩ ⟨e.val / 64, by omega⟩
  simp only [Fin.mk.injEq] at he
  rw [← he]
  have e1 : joined o h a x (ix2 k ⟨e.val, by omega⟩) = diag (extractStridedSlice S4x64x64 ![o, 0, 0] (shapeCast S8x64x64 a shapeCasts_S1x8x64x64_S8x64x64) h) (ix2 k e) := by
    unfold joined
    pointwise
  rw [e1, diag_at]
  congr 1
  pointwise

theorem joined_x (o : ℕ) (h : S8x64x64.Slices ![o, 0, 0] S4x64x64) (ho : o ≤ 4) (a x : FVec Ideal S1x8x64x64 .f32) (k e : Fin 256) :
    joined o h a x (ix2 k ⟨256 + e.val, by omega⟩) = x (ix4 0 ⟨o + k.val / 64, by omega⟩ ⟨k.val % 64, by omega⟩ ⟨e.val % 64, by omega⟩)
      * (if k.val / 64 = e.val / 64 then 1 else 0) := by
  have he := eye_at ⟨k.val / 64, by omega⟩ ⟨e.val / 64, by omega⟩
  simp only [Fin.mk.injEq] at he
  rw [← he]
  have e1 : joined o h a x (ix2 k ⟨256 + e.val, by omega⟩) = diag (extractStridedSlice S4x64x64 ![o, 0, 0] (shapeCast S8x64x64 x shapeCasts_S1x8x64x64_S8x64x64) h) (ix2 k e) := by
    unfold joined
    pointwise
  rw [e1, diag_at]
  congr 1
  pointwise

/-- A sum over 256 columns of which only the 64 of one block count. -/
theorem block_sum (x : Fin 256 → EReal) (w : Fin 4 → Fin 64 → EReal) (n : Fin 4) :
    ∑ k : Fin 256, x k * (w ⟨k.val / 64, by omega⟩ ⟨k.val % 64, by omega⟩ * (if k.val / 64 = n.val then 1 else 0))
      = ∑ d : Fin 64, w n d * x ⟨n.val * 64 + d.val, by omega⟩ := by
  rw [← (finProdFinEquiv (m := 4) (n := 64)).sum_comp, Fintype.sum_prod_type, Finset.sum_eq_single n]
  · refine Finset.sum_congr rfl fun d _ => ?_
    have hv : (finProdFinEquiv (m := 4) (n := 64) (n, d)).val = d.val + 64 * n.val := rfl
    have hq : (⟨(finProdFinEquiv (m := 4) (n := 64) (n, d)).val / 64, by omega⟩ : Fin 4) = n := Fin.ext (by simp only [hv]; omega)
    have hr : (⟨(finProdFinEquiv (m := 4) (n := 64) (n, d)).val % 64, by omega⟩ : Fin 64) = d := Fin.ext (by simp only [hv]; omega)
    rw [hq, hr, if_pos (by rw [hv]; omega), mul_one, mul_comm]
    congr 2
    exact Fin.ext (by rw [hv]; show _ = n.val * 64 + d.val; omega)
  · intro i _ hi
    refine Finset.sum_eq_zero fun d _ => ?_
    have hv : (finProdFinEquiv (m := 4) (n := 64) (i, d)).val = d.val + 64 * i.val := rfl
    have hne : i.val ≠ n.val := fun h => hi (Fin.ext h)
    rw [if_neg (by rw [hv]; omega), mul_zero, mul_zero]
  · intro h
    exact absurd (Finset.mem_univ _) h

theorem V_lows (c : Dev nD) : (V m c main_v67 : FVec Ideal S256x512 .bf16) = (joined 0 slices_S8x64x64_S4x64x64_0_0_0 (wA m c) (wX m c) : S256x512.Idx → EReal) := by
  entry_read
  rfl

theorem V_highs (c : Dev nD) : (V m c main_v68 : FVec Ideal S256x512 .bf16) = (joined 4 slices_S8x64x64_S4x64x64_4_0_0 (wA m c) (wX m c) : S256x512.Idx → EReal) := by
  entry_read
  rfl

theorem blkLow (c : Dev nD) (t : Fin cfg0.N) : (iblk m c 3 t : FVec Ideal S256x512 .bf16)
    = (joined 0 slices_S8x64x64_S4x64x64_0_0_0 (wA m c) (wX m c) : S256x512.Idx → EReal) := by
  rw [← V_lows]
  funext i
  idx_vars i
  blk_ext [iblk, idxW t]

theorem blkHigh (c : Dev nD) (t : Fin cfg0.N) : (iblk m c 4 t : FVec Ideal S256x512 .bf16)
    = (joined 4 slices_S8x64x64_S4x64x64_4_0_0 (wA m c) (wX m c) : S256x512.Idx → EReal) := by
  rw [← V_highs]
  funext i
  idx_vars i
  blk_ext [iblk, idxW t]

theorem blkTap (c : Dev nD) (t : Fin cfg0.N) (j : Fin 4) (l : Fin 512) : (iblk m c 1 t : FVec Ideal S4x512 .f32) (ix2 j l)
    = m ((c : Thread nD τ).loc main_arg1) (ix3 0 j l) := by
  blk_simp [iblk, idxW t]
  entry_read
  pointwise
  blk_ext [idxW t]

theorem blkShift (c : Dev nD) (t : Fin cfg0.N) (l : Fin 512) : (iblk m c 2 t : FVec Ideal S1x512 .f32) (ix2 0 l)
    = m ((c : Thread nD τ).loc main_arg2) (ix2 0 l) := by
  blk_simp [iblk, idxW t]
  entry_read
  pointwise
  blk_ext [idxW t]

theorem blkLam (c : Dev nD) (t : Fin cfg0.N) (l : Fin 512) : (iblk m c 6 t : FVec Ideal S1x512 .f32) (ix2 0 l)
    = m ((c : Thread nD τ).loc main_arg7) (ix2 0 l) := by
  blk_simp [iblk, idxW t]
  entry_read
  pointwise
  blk_ext [idxW t]

/-- The joined biases. -/
def biases (a x : FVec Ideal S1x8x64 .f32) : FVec Ideal S1x1024 .f32 :=
  shapeCast S1x1024 (concatenate S1024 0 [⟨S512, shapeCast S512 (shapeCast S8x64 a shapeCasts_S1x8x64_S8x64) shapeCasts_S8x64_S512⟩,
    ⟨S512, shapeCast S512 (shapeCast S8x64 x shapeCasts_S1x8x64_S8x64) shapeCasts_S8x64_S512⟩] concatenates_S512_S512_S1024_d0) shapeCasts_S1024_S1x1024

theorem biases_a (a x : FVec Ideal S1x8x64 .f32) (l : Fin 512) : biases a x (ix2 0 ⟨l.val, by omega⟩)
    = a (ix3 0 ⟨l.val / 64, by omega⟩ ⟨l.val % 64, by omega⟩) := by
  unfold biases
  pointwise

theorem biases_x (a x : FVec Ideal S1x8x64 .f32) (l : Fin 512) : biases a x (ix2 0 ⟨512 + l.val, by omega⟩)
    = x (ix3 0 ⟨l.val / 64, by omega⟩ ⟨l.val % 64, by omega⟩) := by
  unfold biases
  pointwise

theorem V_bias (c : Dev nD) : (V m c main_v61 : FVec Ideal S1x1024 .f32)
    = biases (m ((c : Thread nD τ).loc main_arg4)) (m ((c : Thread nD τ).loc main_arg6)) := by
  entry_read
  rfl

theorem blkBias (c : Dev nD) (t : Fin cfg0.N) : (iblk m c 5 t : FVec Ideal S1x1024 .f32)
    = biases (m ((c : Thread nD τ).loc main_arg4)) (m ((c : Thread nD τ).loc main_arg6)) := by
  rw [← V_bias]
  funext i
  idx_vars i
  blk_ext [iblk, idxW t]

end Cert.LruIdeal.Lru

end
-- ==== Proof.Lru.Gates.lean ====
module

public import proofs.«01_k».proof.Proof.Lru.Host
public import proofs.«01_k».proof.Proof.Lru.Pay

/-! # The gates' linear maps -/

@[expose] public section

set_option maxRecDepth 16384

noncomputable section

namespace Cert.LruIdeal.Lru

open Idealize.ShloMosaic Idealize.SL.Sem Cert.LruIdeal Cert.LruIdeal.Gen
open Cert.Gate

/-- The product of a row with two block-diagonal halves is the eight-block product. -/
theorem halves (W : Fin 8 → Fin 64 → Fin 64 → EReal) (X : Fin 512 → EReal) (lo hi : Fin 256 → Fin 256 → EReal)
    (hlo : ∀ k e : Fin 256, lo k e = W ⟨0 + k.val / 64, by omega⟩ ⟨k.val % 64, by omega⟩ ⟨e.val % 64, by omega⟩ * (if k.val / 64 = e.val / 64 then 1 else 0))
    (hhi : ∀ k e : Fin 256, hi k e = W ⟨4 + k.val / 64, by omega⟩ ⟨k.val % 64, by omega⟩ ⟨e.val % 64, by omega⟩ * (if k.val / 64 = e.val / 64 then 1 else 0))
    (l : Fin 512) :
    (if h : l.val < 256 then ∑ k : Fin 256, X ⟨k.val, by omega⟩ * lo k ⟨l.val, h⟩
      else ∑ k : Fin 256, X ⟨256 + k.val, by omega⟩ * hi k ⟨l.val - 256, by omega⟩)
      = ∑ d : Fin 64, W ⟨l.val / 64, by omega⟩ d ⟨l.val % 64, by omega⟩ * X ⟨l.val / 64 * 64 + d.val, by omega⟩ := by
  split_ifs with h
  · refine (Finset.sum_congr rfl fun k _ => ?_).trans
      ((block_sum (fun k => X ⟨k.val, by omega⟩) (fun n d => W ⟨0 + n.val, by omega⟩ d ⟨l.val % 64, by omega⟩) ⟨l.val / 64, by omega⟩).trans
        (Finset.sum_congr rfl fun d _ => ?_))
    · rw [hlo]
    · simp only [Nat.zero_add]
  · refine (Finset.sum_congr rfl fun k _ => ?_).trans
      ((block_sum (fun k => X ⟨256 + k.val, by omega⟩) (fun n d => W ⟨4 + n.val, by omega⟩ d ⟨(l.val - 256) % 64, by omega⟩) ⟨(l.val - 256) / 64, by omega⟩).trans
        (Finset.sum_congr rfl fun d _ => ?_))
    · rw [hhi]
    · have e1 : (⟨4 + (l.val - 256) / 64, by omega⟩ : Fin 8) = ⟨l.val / 64, by omega⟩ := Fin.ext (by show 4 + (l.val - 256) / 64 = l.val / 64; omega)
      have e2 : (⟨(l.val - 256) % 64, by omega⟩ : Fin 64) = ⟨l.val % 64, by omega⟩ := Fin.ext (by show (l.val - 256) % 64 = l.val % 64; omega)
      have e3 : (⟨256 + ((l.val - 256) / 64 * 64 + d.val), by omega⟩ : Fin 512) = ⟨l.val / 64 * 64 + d.val, by omega⟩ :=
        Fin.ext (by show 256 + ((l.val - 256) / 64 * 64 + d.val) = l.val / 64 * 64 + d.val; omega)
      show W ⟨4 + (l.val - 256) / 64, _⟩ d _ * X ⟨256 + ((l.val - 256) / 64 * 64 + d.val), _⟩ = _
      rw [e1, e2, e3]

variable (xc : FVec Ideal S512x512 .f32) (a x : FVec Ideal S1x8x64x64 .f32) (ba bx : FVec Ideal S1x8x64 .f32)
  (h0 : S8x64x64.Slices ![0, 0, 0] S4x64x64) (h4 : S8x64x64.Slices ![4, 0, 0] S4x64x64) (r l : Fin 512)

theorem linA_lin : linA xc (joined 0 h0 a x) (joined 4 h4 a x) (biases ba bx) r l
    = lin (fun n d e => a (ix4 0 n d e)) (fun n e => ba (ix3 0 n e)) (fun l => xc (ix2 r l)) l :=
  congrArg₂ (· + ·) (halves (fun n d e => a (ix4 0 n d e)) (fun l => xc (ix2 r l)) (fun k e => joined 0 h0 a x (ix2 k ⟨e.val, by omega⟩))
    (fun k e => joined 4 h4 a x (ix2 k ⟨e.val, by omega⟩)) (joined_a 0 h0 (by omega) a x) (joined_a 4 h4 (by omega) a x) l) (biases_a ba bx l)

theorem linX_lin : linX xc (joined 0 h0 a x) (joined 4 h4 a x) (biases ba bx) r l
    = lin (fun n d e => x (ix4 0 n d e)) (fun n e => bx (ix3 0 n e)) (fun l => xc (ix2 r l)) l :=
  congrArg₂ (· + ·) (halves (fun n d e => x (ix4 0 n d e)) (fun l => xc (ix2 r l)) (fun k e => joined 0 h0 a x (ix2 k ⟨256 + e.val, by omega⟩))
    (fun k e => joined 4 h4 a x (ix2 k ⟨256 + e.val, by omega⟩)) (joined_x 0 h0 (by omega) a x) (joined_x 4 h4 (by omega) a x) l) (biases_x ba bx l)

end Cert.LruIdeal.Lru

end
-- ==== Proof.Lru.State.lean ====
module

public import proofs.«01_k».proof.Proof.Lru.Point
public import proofs.«01_k».proof.Proof.Lru.Gates
public import Idealize.ShloMosaic.Lib.Pipeline.ReadBack

/-! # The states the recurrence's call leaves -/

@[expose] public section

set_option maxRecDepth 16384

noncomputable section

namespace Cert.LruIdeal.Lru

open Idealize.ShloMosaic Idealize.ShloMosaic.TcCoe Idealize.SL.Sem Cert.LruIdeal Cert.LruIdeal.Gen
open Cert.Gate

variable (m : (ℓ : Loc nD τ sig) → Buf (Elt Ideal) ℓ)

/-- The arguments, as functions of their indices. -/
abbrev aZ (c : Dev nD) : Fin 4 → Fin 4096 → Fin 512 → EReal := fun b s l => rows m c b s ⟨l.val, by omega⟩
abbrev aCW (c : Dev nD) : Fin 4 → Fin 512 → EReal := fun t l => m ((c : Thread nD τ).loc main_arg1) (ix3 0 t l)
abbrev aCB (c : Dev nD) : Fin 512 → EReal := fun l => m ((c : Thread nD τ).loc main_arg2) (ix2 0 l)
abbrev aWA (c : Dev nD) : Fin 8 → Fin 64 → Fin 64 → EReal := fun n d e => m ((c : Thread nD τ).loc main_arg3) (ix4 0 n d e)
abbrev aBA (c : Dev nD) : Fin 8 → Fin 64 → EReal := fun n e => m ((c : Thread nD τ).loc main_arg4) (ix3 0 n e)
abbrev aWX (c : Dev nD) : Fin 8 → Fin 64 → Fin 64 → EReal := fun n d e => m ((c : Thread nD τ).loc main_arg5) (ix4 0 n d e)
abbrev aBX (c : Dev nD) : Fin 8 → Fin 64 → EReal := fun n e => m ((c : Thread nD τ).loc main_arg6) (ix3 0 n e)
abbrev aLAM (c : Dev nD) : Fin 512 → EReal := fun l => m ((c : Thread nD τ).loc main_arg7) (ix2 0 l)

/-- The state of a batch entry's lane after `n` steps. -/
abbrev stateAfter (c : Dev nD) (b : Fin 4) (l : Fin 512) (n : ℕ) : EReal :=
  hidden (aZ m c) (aCW m c) (aCB m c) (aWA m c) (aBA m c) (aWX m c) (aBX m c) (aLAM m c) b l n

theorem tail8_at (x : FVec Ideal S512x512 .f32) (r : Fin 8) (l : Fin 512) : tail8 x (ix2 r l) = x (ix2 ⟨504 + r.val, by omega⟩ l) := by
  unfold tail8
  pointwise

theorem tail18_at (x : FVec Ideal S512x512 .f32) (r : Fin 8) (l : Fin 512) : tail18 x (ix3 0 r l) = x (ix2 ⟨504 + r.val, by omega⟩ l) := by
  unfold tail18
  pointwise

theorem lastRow_at (y : FVec Ideal S8x512 .f32) (l : Fin 512) : lastRow y (ix2 0 l) = y (ix2 7 l) := by
  unfold lastRow
  pointwise

theorem pay7_at (x : FVec Ideal S1x512x512 .f32) (r l : Fin 512) : (k0_pay7 (F := Ideal) x : FVec Ideal S512x512 .f32) (ix2 r l) = x (ix3 0 r l) := by
  pointwise [k0_pay7]

theorem pay5_at (r : Fin 8) (l : Fin 512) : (k0_pay5 (F := Ideal) : FVec Ideal S8x512 .f32) (ix2 r l) = 0 := by
  pointwise [k0_pay5]

theorem pay6_at (r : Fin 8) (l : Fin 512) : (k0_pay6 (F := Ideal) : FVec Ideal S8x512 .f32) (ix2 r l) = 0 := by
  pointwise [k0_pay6]

theorem taps_at (c : Dev nD) (t : Fin cfg0.N) (l : Fin 512) : tap0 m c t (ix2 0 l) = aCW m c 0 l ∧ tap1 m c t (ix2 0 l) = aCW m c 1 l
    ∧ tap2 m c t (ix2 0 l) = aCW m c 2 l ∧ tap3 m c t (ix2 0 l) = aCW m c 3 l := by
  refine ⟨Eq.trans ?_ (blkTap m c t 0 l), Eq.trans ?_ (blkTap m c t 1 l), Eq.trans ?_ (blkTap m c t 2 l), Eq.trans ?_ (blkTap m c t 3 l)⟩
  · unfold tap0
    pointwise
  · unfold tap1
    pointwise
  · unfold tap2
    pointwise
  · unfold tap3
    pointwise

/-- The point before one that does not begin an entry. -/
def prev (t : Fin cfg0.N) : Fin cfg0.N := ⟨t.val - 1, Nat.lt_of_le_of_lt (Nat.sub_le _ _) t.isLt⟩

theorem prev_entry (t : Fin cfg0.N) (h : t.val % 8 ≠ 0) : entryOf (prev t) = entryOf t :=
  Fin.ext (by show (t.val - 1) / 8 = t.val / 8; omega)

theorem rows_at (c : Dev nD) (t : Fin cfg0.N) (r l : Fin 512) : (k0_pay7 (F := Ideal) (half m c t) : FVec Ideal S512x512 .f32) (ix2 r l)
    = aZ m c (entryOf t) (rowOf t r) l := by
  rw [pay7_at, half_at, blk0]

theorem back_past (c : Dev nD) (t : Fin cfg0.N) (k : ℕ) (hk : k < 8) (r l : Fin 512) :
    back k (k0_pay7 (F := Ideal) (half m c t)) (before m c t).1 (ix2 r l) = past (aZ m c) (entryOf t) (rowOf t r) k l := by
  have hv : (rowOf t r).val = t.val % 8 * 512 + r.val := rfl
  rw [back_at k hk]
  unfold past
  by_cases h : k ≤ r.val
  · rw [dif_pos h, if_pos (by omega), rows_at]
    exact congrArg (fun s => aZ m c (entryOf t) s l) (Fin.ext (by show t.val % 8 * 512 + (r.val - k) = t.val % 8 * 512 + r.val - k; omega))
  · rw [dif_neg h]
    by_cases h0 : t.val % 8 = 0
    · have e : before m c t = (k0_pay5 (F := Ideal), k0_pay6 (F := Ideal)) := if_pos h0
      rw [e, if_neg (by omega)]
      exact pay5_at ⟨r.val + 8 - k, by omega⟩ l
    · have e : before m c t = ((outsAt0 m c (prev t).val (prev t).isLt).2.2.2.1, (outsAt0 m c (prev t).val (prev t).isLt).2.2.2.2) := if_neg h0
      rw [e, if_pos (by omega)]
      show (outsAt0 m c (prev t).val (prev t).isLt).2.2.2.1 _ = _
      rw [rows_out, tail8_at, rows_at, prev_entry t h0]
      exact congrArg (fun s => aZ m c (entryOf t) s l)
        (Fin.ext (by show (t.val - 1) % 8 * 512 + (504 + (r.val + 8 - k)) = t.val % 8 * 512 + r.val - k; omega))

theorem xc_at (c : Dev nD) (t : Fin cfg0.N) (r l : Fin 512) :
    xcOf m c t (before m c t).1 (ix2 r l) = conv (aZ m c) (aCW m c) (aCB m c) (entryOf t) (rowOf t r) l := by
  obtain ⟨e0, e1, e2, e3⟩ := taps_at m c t l
  have z : half m c t (ix3 0 r l) = past (aZ m c) (entryOf t) (rowOf t r) 0 l := by
    exact (pay7_at (half m c t) r l).symm.trans (rows_at m c t r l)
  unfold xcOf
  rw [convBlock_at, e0, e1, e2, e3, z, back_past m c t 1 (by omega), back_past m c t 2 (by omega), back_past m c t 3 (by omega), blkShift]
  rfl

theorem xc_row (c : Dev nD) (t : Fin cfg0.N) (r : Fin 512) :
    (fun l => xcOf m c t (before m c t).1 (ix2 r l)) = conv (aZ m c) (aCW m c) (aCB m c) (entryOf t) (rowOf t r) :=
  funext fun l => xc_at m c t r l

theorem gateA (c : Dev nD) (t : Fin cfg0.N) (r l : Fin 512) :
    linA (xcOf m c t (before m c t).1) (iblk m c 3 t) (iblk m c 4 t) (iblk m c 5 t) r l
      = lin (aWA m c) (aBA m c) (conv (aZ m c) (aCW m c) (aCB m c) (entryOf t) (rowOf t r)) l := by
  rw [blkLow, blkHigh, blkBias, linA_lin, xc_row]

theorem gateX (c : Dev nD) (t : Fin cfg0.N) (r l : Fin 512) :
    linX (xcOf m c t (before m c t).1) (iblk m c 3 t) (iblk m c 4 t) (iblk m c 5 t) r l
      = lin (aWX m c) (aBX m c) (conv (aZ m c) (aCW m c) (aCB m c) (entryOf t) (rowOf t r)) l := by
  rw [blkLow, blkHigh, blkBias, linX_lin, xc_row]

theorem decay_at (c : Dev nD) (t : Fin cfg0.N) (r l : Fin 512) :
    aOf (xcOf m c t (before m c t).1) (iblk m c 3 t) (iblk m c 4 t) (iblk m c 5 t) (iblk m c 6 t) (ix2 r l)
      = stepA (aZ m c) (aCW m c) (aCB m c) (aWA m c) (aBA m c) (aLAM m c) (entryOf t) (rowOf t r) l :=
  (a_at (xcOf m c t (before m c t).1) _ _ _ _ r l).trans (by rw [gateA, blkLam]; rfl)

theorem drive_at (c : Dev nD) (t : Fin cfg0.N) (r l : Fin 512) :
    bOf (xcOf m c t (before m c t).1) (iblk m c 3 t) (iblk m c 4 t) (iblk m c 5 t) (iblk m c 6 t) (ix2 r l)
      = stepB (aZ m c) (aCW m c) (aCB m c) (aWA m c) (aBA m c) (aWX m c) (aBX m c) (aLAM m c) (entryOf t) (rowOf t r) l :=
  (b_at (xcOf m c t (before m c t).1) _ _ _ _ r l).trans (by rw [gateA, gateX, blkLam, xc_at]; rfl)

/-- A point's states follow the recurrence from the state it finds. -/
theorem states_at (c : Dev nD) (t : Fin cfg0.N) (l : Fin 512)
    (hc : lastRow (before m c t).2 (ix2 0 l) = stateAfter m c (entryOf t) l (t.val % 8 * 512)) (r : Fin 512) :
    statesOf m c t (before m c t).1 (before m c t).2 (ix2 r l) = stateAfter m c (entryOf t) l (t.val % 8 * 512 + (r.val + 1)) := by
  unfold statesOf
  rw [hBlock_at _ _ _ (fun r => stepA (aZ m c) (aCW m c) (aCB m c) (aWA m c) (aBA m c) (aLAM m c) (entryOf t) (rowOf t r) l)
    (fun r => stepB (aZ m c) (aCW m c) (aCB m c) (aWA m c) (aBA m c) (aWX m c) (aBX m c) (aLAM m c) (entryOf t) (rowOf t r) l) l
    (fun r => decay_at m c t r l) (fun r => drive_at m c t r l)
    (fun r => decay_unit _ _) r]
  unfold stateAfter Cert.Gate.hidden
  rw [Cert.Rec.state_add _ _ 0 (t.val % 8 * 512)]
  refine Cert.Rec.state_congr (N := 512) (fun k hk => ?_) (fun k hk => ?_) hc _ (Nat.succ_le_of_lt r.isLt)
  · refine (ext_at _ 1 ⟨k, hk⟩).trans ?_
    unfold every
    rw [dif_pos (by omega)]
    rfl
  · refine (ext_at _ 0 ⟨k, hk⟩).trans ?_
    unfold every
    rw [dif_pos (by omega)]
    rfl

/-- The state a point finds is the state after all earlier steps. -/
theorem carry_at (c : Dev nD) (l : Fin 512) : ∀ (n : ℕ) (hn : n < cfg0.N),
    lastRow (before m c ⟨n, hn⟩).2 (ix2 0 l) = stateAfter m c (entryOf ⟨n, hn⟩) l (n % 8 * 512)
  | 0, hn => by
    have e : before m c ⟨0, hn⟩ = (k0_pay5 (F := Ideal), k0_pay6 (F := Ideal)) := if_pos rfl
    rw [e, lastRow_at]
    exact pay6_at 7 l
  | n + 1, hn => by
    have ih := carry_at c l n (Nat.lt_of_succ_lt hn)
    by_cases h0 : (n + 1) % 8 = 0
    · have e : before m c ⟨n + 1, hn⟩ = (k0_pay5 (F := Ideal), k0_pay6 (F := Ideal)) := if_pos h0
      rw [e, lastRow_at, h0]
      exact pay6_at 7 l
    · have e : before m c ⟨n + 1, hn⟩ = ((outsAt0 m c n (Nat.lt_of_succ_lt hn)).2.2.2.1, (outsAt0 m c n (Nat.lt_of_succ_lt hn)).2.2.2.2) := if_neg h0
      rw [e, lastRow_at]
      refine (congrFun (carry_out m c ⟨n, Nat.lt_of_succ_lt hn⟩) (ix2 7 l)).trans ?_
      rw [tail8_at, states_at m c ⟨n, Nat.lt_of_succ_lt hn⟩ l ih]
      have e1 : entryOf ⟨n, Nat.lt_of_succ_lt hn⟩ = entryOf ⟨n + 1, hn⟩ := prev_entry ⟨n + 1, hn⟩ h0
      have e2 : n % 8 * 512 + (504 + 7 + 1) = (n + 1) % 8 * 512 := by omega
      rw [e1, ← e2]
      rfl

theorem h_at (c : Dev nD) (t : Fin cfg0.N) (h : t.val % 8 = 7) (r : Fin 8) (l : Fin 512) :
    (outsAt0 m c t.val t.isLt).2.2.1 (ix3 0 r l) = stateAfter m c (entryOf t) l (4088 + r.val + 1) := by
  rw [last_out, tail18_at, states_at m c t l (carry_at m c l t.val t.isLt)]
  exact congrArg (stateAfter m c (entryOf t) l) (by show t.val % 8 * 512 + (504 + r.val + 1) = 4088 + r.val + 1; omega)

/-- The states after the last 8 steps, as an array. -/
def lastStates (c : Dev nD) : FVec Ideal S4x8x512 .f32 := fun i => stateAfter m c (i 0) (i 2) (4088 + (i 1).val + 1)

theorem h_point (c : Dev nD) (t : Fin cfg0.N) (ht : t.val % 8 = 7) (y : S1x8x512.Idx) (i : S4x8x512.Idx)
    (h : i = ix3 (entryOf t) (y 1) (y 2)) : (outsAt0 m c t.val t.isLt).2.2.1 y = lastStates m c i := by
  subst h
  idx_vars y
  obtain rfl : y0 = 0 := Subsingleton.elim _ _
  exact h_at m c t ht y1 y2

theorem h_final (c : Dev nD) : (dats m 0 c).arrAt 9 (cfgs 0).N = lastStates m c := by
  refine (dats m 0 c).arrAt_eq_of_covers 9 _ (by decide +kernel) fun t hf y => ?_
  have hl := (idx t).2.2.2.2.2 hf
  blk_simp
  rw [after0_9]
  refine h_point m c t hl y _ ?_
  blk_ext [idx t, entryOf]

end Cert.LruIdeal.Lru

end
-- ==== Proof.Lru.Claim.lean ====
module

public import proofs.«01_k».proof.Defs
public import proofs.«01_k».proof.Proof.Gen.LruIdeal.Value
public import proofs.«01_k».proof.Proof.Lru.Trips
public import proofs.«01_k».proof.Proof.Lru.Ref
public import proofs.«01_k».proof.Proof.Lru.State
public import Idealize.ShloMosaic.Adequacy
public import Idealize.ShloMosaic.Init

/-! # The recurrence and its reference give equal results -/

@[expose] public section

set_option maxRecDepth 16384

noncomputable section

namespace Cert.LruPair

open Idealize.ShloMosaic Idealize.SL.Sem

/-- The kernel's conv state and last states are the last rows of the sequence and the states after its last steps. -/
theorem algebraic : algebraic_LruIdeal_LruRefIdeal := by
  intro m ρ m' ρ' _ hagree
  refine ⟨_, _, (θ_run Cert.LruIdeal.defs _ _).mono (fun _ h c => ⟨(h c).2.1, (h c).2.2.1, (h c).2.2.2⟩)
    (Cert.LruIdeal.Value.run_blocks (F := Ideal) m ρ), ?_⟩
  refine (θ_run Cert.LruRefIdeal.defs _ _).mono (fun _ h c => ⟨?_, ?_, (h c).2.2⟩)
    (Cert.LruRefIdeal.Trips.run_iter (F := Ideal) m' ρ' (fun c => Cert.LruRefIdeal.Lru.states (Cert.LruRefIdeal.Trips.initState m' c))
      (fun _ => rfl) (fun _ _ => rfl))
  · rw [(h c).1]
    obtain ⟨a0, a1, a2, a3, a4, a5, a6, a7⟩ := hagree c
    rw [a0]
    refine Eq.trans ?_ (Cert.LruIdeal.Lru.conv_final m c).symm
    funext i
    idx_vars i
    pointwise [Cert.LruRefIdeal.Step.R_main_v92, Cert.LruIdeal.Lru.convState, Cert.LruIdeal.Lru.rows]
  · rw [(h c).2.1]
    obtain ⟨a0, a1, a2, a3, a4, a5, a6, a7⟩ := hagree c
    refine Eq.trans ?_ (Cert.LruIdeal.Lru.h_final m c).symm
    unfold Cert.LruRefIdeal.Trips.initState
    rw [a0, a1, a2, a3, a4, a5, a6, a7]
    funext i
    idx_vars i
    exact Cert.LruRefIdeal.Lru.last_at _ _ _ _ _ _ _ _ i0 i1 i2

end Cert.LruPair

end
-- ==== Proof.MoeSample.Math.lean ====
module

public import proofs.«01_k».proof.Proof.Moe.Math

/-! # What the mixture of experts computes when every row has its own modulation vectors -/

@[expose] public section

set_option maxRecDepth 16384

noncomputable section

namespace Cert.MoeRows

open Idealize.ShloMosaic Cert.Moe

variable (X : Fin 128 → Fin 1024 → EReal) (C : Fin 128 → Fin 32 → EReal) (sh sc gt : Fin 128 → Fin 1024 → EReal)
  (Wg Wu : Fin 32 → Fin 1024 → Fin 256 → EReal) (Wd : Fin 32 → Fin 256 → Fin 1024 → EReal) (g b : Fin 1024 → EReal)

/-- The modulated hidden row. -/
def hidden (r : Fin 128) (d : Fin 1024) : EReal := X r d * (1 + sc r d) + sh r d

/-- The residual row: the scaled input and the gated sum of all experts. -/
def row (r : Fin 128) (k : Fin 1024) : EReal :=
  Ideal.ofBits .f32 1066940400#32 * X r k + (1 + gt r k) *
    ∑ e, expert (hidden X sh sc r) (Wg e) (Wu e) (fun f => Wd e f k) (C r e)

/-- The layer at one row and one place. -/
def layer (r : Fin 128) (k : Fin 1024) : EReal := norm (row X C sh sc gt Wg Wu Wd r) (g k) (b k) k

end Cert.MoeRows

end
-- ==== Proof.MoeSample.Ref.lean ====
module

public import proofs.«01_k».proof.Proof.Gen.MoeSampleRefIdeal.Read
public import proofs.«01_k».proof.Proof.MoeSample.Math

/-! # What the reference of the sample's mixture of experts computes -/

@[expose] public section

set_option maxRecDepth 16384

noncomputable section

namespace Cert.MoeSampleRefIdeal.Moe

open Idealize.ShloMosaic Idealize.ShloMosaic.TcCoe Idealize.SL.Sem Cert.MoeSampleRefIdeal Cert.MoeSampleRefIdeal.Read
open Cert.MoeRows
open Cert.Moe (silu expert norm mean)

variable (x0 : FVec Ideal S128x1024 .f32) (x1 : FVec Ideal S128x128 .f32) (x2 : FVec Ideal S128x6144 .f32)
  (x3 x4 : FVec Ideal S1x32x1024x256 .f32) (x5 : FVec Ideal S1x32x256x1024 .f32) (x6 x7 : FVec Ideal S1x1024 .f32)

/-- The shifts of the rows. -/
def shifts (r : Fin 128) (d : Fin 1024) : EReal := x2 (ix2 r ⟨3072 + d.val, by omega⟩)
/-- The scales of the rows. -/
def scales (r : Fin 128) (d : Fin 1024) : EReal := x2 (ix2 r ⟨4096 + d.val, by omega⟩)
/-- The gates of the rows. -/
def gates (r : Fin 128) (d : Fin 1024) : EReal := x2 (ix2 r ⟨5120 + d.val, by omega⟩)

theorem v12_at (r : Fin 128) (d : Fin 1024) : val_main_v12 (F := Ideal) x0 x2 (ix3 r 0 d)
    = hidden (fun r d => x0 (ix2 r d)) (shifts x2) (scales x2) r d := by
  pointwise [val_main_v12, val_main_v11, val_main_v10, val_main_v9, val_main_v6, val_main_v5, val_main_v4, val_main_v3,
    val_main_v0, val_main_cst]
  rfl

theorem v14_at (r : Fin 128) (e : Fin 32) (f : Fin 256) :
    val_main_v14 (F := Ideal) x0 x2 x3 (ix4 r 0 e f)
      = ∑ d, hidden (fun r d => x0 (ix2 r d)) (shifts x2) (scales x2) r d * x3 (ix4 0 e d f) := by
  pointwise [val_main_v14, val_main_v13]
  exact Finset.sum_congr rfl fun d _ => by rw [← v12_at]

theorem v16_at (r : Fin 128) (e : Fin 32) (f : Fin 256) :
    val_main_v16 (F := Ideal) x0 x2 x4 (ix4 r 0 e f)
      = ∑ d, hidden (fun r d => x0 (ix2 r d)) (shifts x2) (scales x2) r d * x4 (ix4 0 e d f) := by
  pointwise [val_main_v16, val_main_v15]
  exact Finset.sum_congr rfl fun d _ => by rw [← v12_at]

theorem v21_at (r : Fin 128) (e : Fin 32) (f : Fin 256) :
    val_main_v21 (F := Ideal) x0 x1 x2 x3 x4 (ix4 r 0 e f)
      = silu (val_main_v14 (F := Ideal) x0 x2 x3 (ix4 r 0 e f))
        * val_main_v16 (F := Ideal) x0 x2 x4 (ix4 r 0 e f) * x1 (ix2 r (e.castLE (by omega))) := by
  pointwise [val_main_v21, val_main_v18, val_main_v20, val_main_v19, val_main_v2, val_main_v1, val_main_v17,
    val_main_call0_v5, val_main_call0_v4, val_main_call0_v3, val_main_call0_v2, val_main_call0_v1, val_main_call0_v0,
    val_main_call0_cst, val_main_call0_cst_0]
  rfl

theorem v29_at (r : Fin 128) (k : Fin 1024) :
    val_main_v29 (F := Ideal) x0 x1 x2 x3 x4 x5 (ix3 r 0 k)
      = row (fun r d => x0 (ix2 r d)) (fun r e => x1 (ix2 r (e.castLE (by omega)))) (shifts x2) (scales x2) (gates x2)
          (fun e d f => x3 (ix4 0 e d f)) (fun e d f => x4 (ix4 0 e d f)) (fun e f d => x5 (ix4 0 e f d)) r k := by
  have hsum : val_main_v23 (F := Ideal) x0 x1 x2 x3 x4 x5 (ix3 r 0 k)
      = ∑ e : Fin 32, ∑ f : Fin 256, val_main_v21 (F := Ideal) x0 x1 x2 x3 x4 (ix4 r 0 e f) * x5 (ix4 0 e f k) := by
    pointwise [val_main_v23, val_main_v22]
  pointwise [val_main_v29, val_main_v28, val_main_v27, val_main_v26, val_main_v25, val_main_v24,
    val_main_v8, val_main_v7, val_main_v0, val_main_cst_0, val_main_cst_1]
  rw [hsum]
  unfold row expert
  simp only [v21_at, v14_at, v16_at]
  rfl

/-- THE REFERENCE at a row and a place is the layer there. -/
theorem ref_at (r : Fin 128) (k : Fin 1024) : val_main_v56 (F := Ideal) x0 x1 x2 x3 x4 x5 x6 x7 (ix2 r k)
      = layer (fun r d => x0 (ix2 r d)) (fun r e => x1 (ix2 r (e.castLE (by omega)))) (shifts x2) (scales x2) (gates x2)
          (fun e d f => x3 (ix4 0 e d f)) (fun e d f => x4 (ix4 0 e d f)) (fun e f d => x5 (ix4 0 e f d))
          (fun k => x6 (ix2 0 k)) (fun k => x7 (ix2 0 k)) r k := by
  unfold layer
  simp only [funext fun k => (v29_at x0 x1 x2 x3 x4 x5 r k).symm]
  pointwise [val_main_v56, val_main_v55, val_main_v54, val_main_v53, val_main_v31, val_main_v52, val_main_v51,
    val_main_v50, val_main_v30, val_main_v49, val_main_v48, val_main_v47, val_main_v46, val_main_v45, val_main_v44,
    val_main_v43, val_main_v42, val_main_v41, val_main_v40, val_main_v39, val_main_v38, val_main_v37, val_main_v36,
    val_main_v35, val_main_v34, val_main_v33, val_main_v32, val_main_cst_2, val_main_cst_3, val_main_cst_4,
    val_main_cst_5, val_main_cst_6]
  unfold Cert.Moe.norm mean
  rfl

end Cert.MoeSampleRefIdeal.Moe

end
-- ==== Proof.MoeSample.Pay.lean ====
module

public import proofs.«01_k».proof.Proof.Gen.MoeSampleIdeal.Skeleton
public import proofs.«01_k».proof.Proof.MoeSample.Math
public import proofs.«01_k».proof.Proof.Moe.Pay

/-! # What the sample's stores hold, read at an index -/

@[expose] public section

set_option maxRecDepth 16384

noncomputable section

namespace Cert.MoeSampleIdeal.Moe

open Idealize.ShloMosaic Cert.MoeSampleIdeal Cert.MoeSampleIdeal.Gen Cert.Moe

theorem pay3_at (x sc sh : FVec Ideal S128x1024 .f32) (j : S128x1024.Idx) :
    k0_pay3 (F := Ideal) x sc sh j = x j * (1 + sc j) + sh j := by
  pointwise [k0_pay3]

theorem pay4_at (j : S128x1024.Idx) : k0_pay4 (F := Ideal) j = 0 := by
  pointwise [k0_pay4]

theorem pay1_at (acc : FVec Ideal S128x1024 .f32) (z : FVec Ideal S128x256 .bf16) (wd : FVec Ideal S1x256x1024 .f32)
    (j : S128x1024.Idx) :
    k0_pay1 (F := Ideal) acc z wd j = acc j + ∑ f : Fin 256, z (ix2 (j 0) f) * wd (ix3 0 f (j 1)) := by
  pointwise [k0_pay1]

/-- The gated block of the expert the grid point names. -/
theorem pay5_at (i : grid0.Coords) (e : Fin 32) (he : (i 1 : ℕ) = e) (h : FVec Ideal S128x1024 .bf16)
    (wg wu : FVec Ideal S1x1024x256 .f32) (cb : FVec Ideal S128x128 .f32) (j : S128x256.Idx) :
    k0_pay5 (F := Ideal) i h wg wu cb j
      = silu (∑ d : Fin 1024, h (ix2 (j 0) d) * wg (ix3 0 d (j 1)))
        * (∑ d : Fin 1024, h (ix2 (j 0) d) * wu (ix3 0 d (j 1))) * cb (ix2 (j 0) (e.castLE (by omega))) := by
  pointwise [k0_pay5]
  rw [he, Cert.KernelIdeal.Moe.sum_lane e fun x => cb (ix2 (j 0) x), zero_sub]
  rfl

/-- The stored block: the layer norm of the residual row. -/
theorem pay2_at (x gt f : FVec Ideal S128x1024 .f32) (g b : FVec Ideal S1x1024 .f32) (j : S128x1024.Idx) :
    k0_pay2 (F := Ideal) x gt f g b j
      = norm (fun k => Ideal.ofBits .f32 1066940400#32 * x (ix2 (j 0) k) + (1 + gt (ix2 (j 0) k)) * f (ix2 (j 0) k))
          (g (ix2 0 (j 1))) (b (ix2 0 (j 1))) (j 1) := by
  idx_vars j
  pointwise [k0_pay2]
  rfl

end Cert.MoeSampleIdeal.Moe

end
-- ==== Proof.MoeSample.Cases.lean ====
module

public import proofs.«01_k».proof.Proof.Gen.MoeSampleIdeal.Value
public import proofs.«01_k».proof.Proof.MoeSample.Pay
public import Idealize.ShloMosaic.Lib.Pipeline.ReadBack

/-! # What a point of the sample's grid leaves behind

At the first expert of a block of rows, at an expert in between, at the last expert: the scratch blocks and the stored
block, as the stores' values over the blocks the point reads and the scratch it finds. -/

@[expose] public section

set_option maxRecDepth 16384

noncomputable section

namespace Cert.MoeSampleIdeal.Moe

open Idealize.ShloMosaic Idealize.ShloMosaic.TcCoe Idealize.SL.Sem Cert.MoeSampleIdeal Cert.MoeSampleIdeal.Gen Cert.Moe

variable (m : (ℓ : Loc nD τ sig) → Buf (Elt Ideal) ℓ)

/-- The first expert's point stores the hidden block. -/
theorem first_hidden (c : Dev nD) (t : Fin cfg0.N) (h0 : t.val % 32 = 0) (h1 : ¬t.val % 32 = 31) :
    (outsAt0 m c t.val t.isLt).2.1 = k0_pay3 (iblk m c 0 t) (iblk m c 3 t) (iblk m c 2 t) := by
  rw [outsAt0_A m c t h0 h1]
  frame_out

/-- The first expert's point starts the accumulation from zero. -/
theorem first_acc (c : Dev nD) (t : Fin cfg0.N) (h0 : t.val % 32 = 0) (h1 : ¬t.val % 32 = 31) :
    (outsAt0 m c t.val t.isLt).2.2 = k0_pay1 (k0_pay4 (F := Ideal)) (k0_pay5 (grid0.coords t)
      (k0_pay3 (iblk m c 0 t) (iblk m c 3 t) (iblk m c 2 t)) (iblk m c 5 t) (iblk m c 6 t) (iblk m c 1 t)) (iblk m c 7 t) := by
  rw [outsAt0_A m c t h0 h1]
  frame_out

/-- A later expert's point keeps the hidden block. -/
theorem mid_hidden (c : Dev nD) (t : Fin cfg0.N) (h0 : ¬t.val % 32 = 0) :
    (outsAt0 m c t.val t.isLt).2.1 = (outsAt0 m c (t.val - 1) (Nat.lt_of_le_of_lt (Nat.sub_le _ _) t.isLt)).2.1 := by
  by_cases h1 : t.val % 32 = 31
  · rw [outsAt0_C m c t h0 h1]
    rfl
  · rw [outsAt0_B m c t h0 h1]
    rfl

/-- A later expert's point adds its expert to the accumulation. -/
theorem mid_acc (c : Dev nD) (t : Fin cfg0.N) (h0 : ¬t.val % 32 = 0) :
    (outsAt0 m c t.val t.isLt).2.2 = k0_pay1 (outsAt0 m c (t.val - 1) (Nat.lt_of_le_of_lt (Nat.sub_le _ _) t.isLt)).2.2
      (k0_pay5 (grid0.coords t) (outsAt0 m c (t.val - 1) (Nat.lt_of_le_of_lt (Nat.sub_le _ _) t.isLt)).2.1
        (iblk m c 5 t) (iblk m c 6 t) (iblk m c 1 t)) (iblk m c 7 t) := by
  by_cases h1 : t.val % 32 = 31
  · rw [outsAt0_C m c t h0 h1]
    frame_out
    simp only [read_unread_whole]
  · rw [outsAt0_B m c t h0 h1]
    frame_out
    simp only [read_unread_whole]

/-- The last expert's point stores the layer norm of the residual with the full accumulation. -/
theorem last_out (c : Dev nD) (t : Fin cfg0.N) (h1 : t.val % 32 = 31) :
    (outsAt0 m c t.val t.isLt).1 = k0_pay2 (iblk m c 0 t) (iblk m c 4 t) (outsAt0 m c t.val t.isLt).2.2
      (iblk m c 8 t) (iblk m c 9 t) := by
  have h0 : ¬t.val % 32 = 0 := by omega
  rw [mid_acc m c t h0, outsAt0_C m c t h0 h1]
  frame_out
  simp only [read_unread_whole]

end Cert.MoeSampleIdeal.Moe

end
-- ==== Proof.MoeSample.Blocks.lean ====
module

public import proofs.«01_k».proof.Proof.Gen.MoeSampleIdeal.Value
public import proofs.«01_k».proof.Proof.MoeSample.Math

/-! # The blocks a point of the sample's grid reads -/

@[expose] public section

set_option maxRecDepth 16384

noncomputable section

namespace Cert.MoeSampleIdeal.Moe

open Idealize.ShloMosaic Idealize.ShloMosaic.TcCoe Idealize.SL.Sem Cert.MoeSampleIdeal Cert.MoeSampleIdeal.Gen Cert.Moe

variable (m : (ℓ : Loc nD τ sig) → Buf (Elt Ideal) ℓ)

theorem idx : ∀ t : Fin cfg0.N, win0_0.index t = ![0, 0] ∧ win0_1.index t = ![0, 0]
    ∧ win0_2.index t = ![0, 0] ∧ win0_3.index t = ![0, 0] ∧ win0_4.index t = ![0, 0]
    ∧ win0_5.index t = ![t.val % 32, 0, 0] ∧ win0_6.index t = ![t.val % 32, 0, 0] ∧ win0_7.index t = ![t.val % 32, 0, 0]
    ∧ win0_8.index t = ![0, 0] ∧ win0_9.index t = ![0, 0] ∧ win0_10.index t = ![0, 0]
    ∧ (grid0.coords t 1 : ℕ) = t.val % 32 ∧ t.val < 32 :=
  (by decide +kernel : ∀ t : Fin grid0.N, _)

/-- The expert of a point. -/
def expertOf (t : Fin cfg0.N) : Fin 32 := ⟨t.val % 32, Nat.mod_lt _ (by decide)⟩

theorem blk0 (c : Dev nD) (t : Fin cfg0.N) (p : Fin 128) (d : Fin 1024) :
    (iblk m c 0 t : FVec Ideal S128x1024 .f32) (ix2 p d) = m ((c : Thread nD τ).loc main_arg0) (ix2 p d) := by
  blk_ext [iblk, V, idx t]

theorem blk1 (c : Dev nD) (t : Fin cfg0.N) (p l : Fin 128) :
    (iblk m c 1 t : FVec Ideal S128x128 .f32) (ix2 p l) = m ((c : Thread nD τ).loc main_arg1) (ix2 p l) := by
  blk_ext [iblk, V, idx t]

theorem blk2 (c : Dev nD) (t : Fin cfg0.N) (p : Fin 128) (d : Fin 1024) :
    (iblk m c 2 t : FVec Ideal S128x1024 .f32) (ix2 p d)
      = m ((c : Thread nD τ).loc main_arg2) (ix2 p ⟨3072 + d.val, by omega⟩) := by
  blk_simp [iblk, idx t]
  entry_read
  pointwise
  blk_ext [idx t]

theorem blk3 (c : Dev nD) (t : Fin cfg0.N) (p : Fin 128) (d : Fin 1024) :
    (iblk m c 3 t : FVec Ideal S128x1024 .f32) (ix2 p d)
      = m ((c : Thread nD τ).loc main_arg2) (ix2 p ⟨4096 + d.val, by omega⟩) := by
  blk_simp [iblk, idx t]
  entry_read
  pointwise
  blk_ext [idx t]

theorem blk4 (c : Dev nD) (t : Fin cfg0.N) (p : Fin 128) (d : Fin 1024) :
    (iblk m c 4 t : FVec Ideal S128x1024 .f32) (ix2 p d)
      = m ((c : Thread nD τ).loc main_arg2) (ix2 p ⟨5120 + d.val, by omega⟩) := by
  blk_simp [iblk, idx t]
  entry_read
  pointwise
  blk_ext [idx t]

theorem blk5 (c : Dev nD) (t : Fin cfg0.N) (d : Fin 1024) (f : Fin 256) :
    (iblk m c 5 t : FVec Ideal S1x1024x256 .f32) (ix3 0 d f)
      = m ((c : Thread nD τ).loc main_arg3) (ix4 0 (expertOf t) d f) := by
  blk_simp [iblk, idx t]
  entry_read
  pointwise
  blk_ext [idx t, expertOf]

theorem blk6 (c : Dev nD) (t : Fin cfg0.N) (d : Fin 1024) (f : Fin 256) :
    (iblk m c 6 t : FVec Ideal S1x1024x256 .f32) (ix3 0 d f)
      = m ((c : Thread nD τ).loc main_arg4) (ix4 0 (expertOf t) d f) := by
  blk_simp [iblk, idx t]
  entry_read
  pointwise
  blk_ext [idx t, expertOf]

theorem blk7 (c : Dev nD) (t : Fin cfg0.N) (f : Fin 256) (d : Fin 1024) :
    (iblk m c 7 t : FVec Ideal S1x256x1024 .f32) (ix3 0 f d)
      = m ((c : Thread nD τ).loc main_arg5) (ix4 0 (expertOf t) f d) := by
  blk_simp [iblk, idx t]
  entry_read
  pointwise
  blk_ext [idx t, expertOf]

theorem blk8 (c : Dev nD) (t : Fin cfg0.N) (d : Fin 1024) :
    (iblk m c 8 t : FVec Ideal S1x1024 .f32) (ix2 0 d) = m ((c : Thread nD τ).loc main_arg6) (ix2 0 d) := by
  blk_simp [iblk, idx t]
  entry_read
  pointwise
  blk_ext [idx t]

theorem blk9 (c : Dev nD) (t : Fin cfg0.N) (d : Fin 1024) :
    (iblk m c 9 t : FVec Ideal S1x1024 .f32) (ix2 0 d) = m ((c : Thread nD τ).loc main_arg7) (ix2 0 d) := by
  blk_simp [iblk, idx t]
  entry_read
  pointwise
  blk_ext [idx t]

end Cert.MoeSampleIdeal.Moe

end
-- ==== Proof.MoeSample.Sum.lean ====
module

public import proofs.«01_k».proof.Proof.MoeSample.Cases
public import proofs.«01_k».proof.Proof.MoeSample.Blocks
public import proofs.«01_k».proof.Proof.MoeSample.Pay
public import proofs.«01_k».proof.Proof.Moe.Sum

/-! # What the scratch and the result array hold

After the point of expert `e` the hidden block is that of the rows, and the accumulation is the sum of the
experts up to `e`; the last expert's point therefore stores the layer at every row. -/

@[expose] public section

set_option maxRecDepth 16384

noncomputable section

namespace Cert.MoeSampleIdeal.Moe

open Idealize.ShloMosaic Idealize.ShloMosaic.TcCoe Idealize.SL.Sem Cert.MoeSampleIdeal Cert.MoeSampleIdeal.Gen Cert.MoeRows
open Cert.Moe (expert norm)

variable (m : (ℓ : Loc nD τ sig) → Buf (Elt Ideal) ℓ)

/-- The rows of the argument, as a function of token and place. -/
def rows (c : Dev nD) (r : Fin 128) (d : Fin 1024) : EReal := m ((c : Thread nD τ).loc main_arg0) (ix2 r d)
/-- The combine weights of the experts. -/
def weights (c : Dev nD) (r : Fin 128) (e : Fin 32) : EReal :=
  m ((c : Thread nD τ).loc main_arg1) (ix2 r (e.castLE (by omega)))
/-- The shifts of the rows. -/
def shifts (c : Dev nD) (r : Fin 128) (d : Fin 1024) : EReal :=
  m ((c : Thread nD τ).loc main_arg2) (ix2 r ⟨3072 + d.val, by omega⟩)
/-- The scales of the rows. -/
def scales (c : Dev nD) (r : Fin 128) (d : Fin 1024) : EReal :=
  m ((c : Thread nD τ).loc main_arg2) (ix2 r ⟨4096 + d.val, by omega⟩)
/-- The gates of the rows. -/
def gates (c : Dev nD) (r : Fin 128) (d : Fin 1024) : EReal :=
  m ((c : Thread nD τ).loc main_arg2) (ix2 r ⟨5120 + d.val, by omega⟩)
/-- The gate projections. -/
def gate (c : Dev nD) (e : Fin 32) (d : Fin 1024) (f : Fin 256) : EReal :=
  m ((c : Thread nD τ).loc main_arg3) (ix4 0 e d f)
/-- The up projections. -/
def up (c : Dev nD) (e : Fin 32) (d : Fin 1024) (f : Fin 256) : EReal :=
  m ((c : Thread nD τ).loc main_arg4) (ix4 0 e d f)
/-- The down projections. -/
def down (c : Dev nD) (e : Fin 32) (f : Fin 256) (d : Fin 1024) : EReal :=
  m ((c : Thread nD τ).loc main_arg5) (ix4 0 e f d)

/-- The output of expert `e` at token `r` and place `k`; zero past the last expert. -/
def term (c : Dev nD) (r : Fin 128) (k : Fin 1024) (e : ℕ) : EReal :=
  if h : e < 32 then expert (hidden (rows m c) (shifts m c) (scales m c) r) (gate m c ⟨e, h⟩) (up m c ⟨e, h⟩)
    (fun f => down m c ⟨e, h⟩ f k) (weights m c r ⟨e, h⟩) else 0

/-- One accumulation step at a point whose scratch holds the hidden rows: the point's expert is added. -/
theorem step_at (c : Dev nD) (t : Fin cfg0.N) (acc : FVec Ideal S128x1024 .f32) (h : FVec Ideal S128x1024 .bf16)
    (hh : ∀ p d, h (ix2 p d) = hidden (rows m c) (shifts m c) (scales m c) p d) (p : Fin 128) (k : Fin 1024) :
    k0_pay1 (F := Ideal) acc (k0_pay5 (grid0.coords t) h (iblk m c 5 t) (iblk m c 6 t) (iblk m c 1 t)) (iblk m c 7 t)
        (ix2 p k)
      = acc (ix2 p k) + term m c p k (t.val % 32) := by
  rw [pay1_at, term, dif_pos (Nat.mod_lt _ (by decide))]
  congr 1
  unfold expert
  refine Finset.sum_congr rfl fun f _ => ?_
  rw [pay5_at (grid0.coords t) (expertOf t) (idx t).2.2.2.2.2.2.2.2.2.2.2.1]
  have e5 := fun d => blk5 m c t d f
  have e6 := fun d => blk6 m c t d f
  have e1 := blk1 m c t p ((expertOf t).castLE (by omega))
  have e7 := blk7 m c t f k
  congr 1
  congr 1
  congr 1
  · congr 1
    exact Finset.sum_congr rfl fun d _ => Ideal.mul_congr (hh p d) (e5 d)
  · exact Finset.sum_congr rfl fun d _ => Ideal.mul_congr (hh p d) (e6 d)

/-- After the first expert's point: the hidden rows, and the first expert. -/
theorem start_at (c : Dev nD) (t : Fin cfg0.N) (h0 : t.val % 32 = 0) :
    (∀ p d, (outsAt0 m c t.val t.isLt).2.1 (ix2 p d) = hidden (rows m c) (shifts m c) (scales m c) p d)
    ∧ ∀ p k, (outsAt0 m c t.val t.isLt).2.2 (ix2 p k)
      = ∑ e ∈ Finset.range (t.val % 32 + 1), term m c p k e := by
  have h1 : ¬ t.val % 32 = 31 := by omega
  have hh : ∀ p d, k0_pay3 (F := Ideal) (iblk m c 0 t) (iblk m c 3 t) (iblk m c 2 t) (ix2 p d)
      = hidden (rows m c) (shifts m c) (scales m c) p d := fun p d => by
    refine (pay3_at _ _ _ _).trans ?_
    exact Ideal.add_congr (Ideal.mul_congr (blk0 m c t p d) (congrArg (1 + ·) (blk3 m c t p d))) (blk2 m c t p d)
  refine ⟨fun p d => ?_, fun p k => ?_⟩
  · rw [first_hidden m c t h0 h1]
    exact hh p d
  · rw [first_acc m c t h0 h1]
    refine (step_at m c t _ _ hh p k).trans ?_
    rw [pay4_at, h0, zero_add, zero_add, Finset.sum_range_one]

/-- After every point: the hidden rows, and the sum of the experts so far. -/
theorem scratch_at (c : Dev nD) : ∀ (n : ℕ) (hn : n < cfg0.N),
    (∀ p d, (outsAt0 m c n hn).2.1 (ix2 p d) = hidden (rows m c) (shifts m c) (scales m c) p d)
    ∧ ∀ p k, (outsAt0 m c n hn).2.2 (ix2 p k) = ∑ e ∈ Finset.range (n % 32 + 1), term m c p k e := by
  intro n
  induction n with
  | zero => exact fun hn => start_at m c ⟨0, hn⟩ (Nat.zero_mod _)
  | succ n ih =>
    intro hn
    by_cases h0 : (n + 1) % 32 = 0
    · exact start_at m c ⟨n + 1, hn⟩ h0
    · obtain ⟨ih1, ih2⟩ := ih (by omega)
      have h1 : ∀ p d, (outsAt0 m c n (by omega)).2.1 (ix2 p d)
          = hidden (rows m c) (shifts m c) (scales m c) p d := ih1
      refine ⟨fun p d => ?_, fun p k => ?_⟩
      · rw [mid_hidden m c ⟨n + 1, hn⟩ h0]
        exact h1 p d
      · rw [mid_acc m c ⟨n + 1, hn⟩ h0]
        refine (step_at m c ⟨n + 1, hn⟩ _ _ h1 p k).trans ?_
        rw [Finset.sum_range_succ]
        congr 1
        refine (ih2 p k).trans ?_
        rw [show n % 32 + 1 = (n + 1) % 32 by omega]

/-- The point of the last expert stores the layer at every row. -/
theorem stored_at (c : Dev nD) (t : Fin cfg0.N) (h1 : t.val % 32 = 31) (p : Fin 128) (k : Fin 1024) :
    (outsAt0 m c t.val t.isLt).1 (ix2 p k)
      = layer (rows m c) (weights m c) (shifts m c) (scales m c) (gates m c) (gate m c) (up m c) (down m c)
          (fun k => m ((c : Thread nD τ).loc main_arg6) (ix2 0 k))
          (fun k => m ((c : Thread nD τ).loc main_arg7) (ix2 0 k)) p k := by
  rw [last_out m c t h1]
  refine (pay2_at _ _ _ _ _ (ix2 p k)).trans ?_
  unfold layer
  have hrow : ∀ k, (outsAt0 m c t.val t.isLt).2.2 (ix2 p k) = ∑ e : Fin 32,
      expert (hidden (rows m c) (shifts m c) (scales m c) p) (gate m c e) (up m c e) (fun f => down m c e f k)
        (weights m c p e) := fun k => by
    refine ((scratch_at m c t.val t.isLt).2 p k).trans ?_
    rw [h1, ← Fin.sum_univ_eq_sum_range]
    exact Finset.sum_congr rfl fun e _ => dif_pos e.isLt
  have e0 := blk0 m c t p
  have e4 := blk4 m c t p
  have hr : (fun k => Ideal.ofBits .f32 1066940400#32 * (iblk m c 0 t : FVec Ideal S128x1024 .f32) (ix2 p k)
      + (1 + (iblk m c 4 t : FVec Ideal S128x1024 .f32) (ix2 p k)) * (outsAt0 m c t.val t.isLt).2.2 (ix2 p k))
      = row (rows m c) (weights m c) (shifts m c) (scales m c) (gates m c) (gate m c) (up m c) (down m c) p := by
    funext k
    rw [e0, e4, hrow]
    rfl
  have e8 := blk8 m c t k
  have e9 := blk9 m c t k
  exact Cert.KernelIdeal.Moe.norm_congr hr e8 e9 k

end Cert.MoeSampleIdeal.Moe

end
-- ==== Proof.MoeSample.Final.lean ====
module

public import proofs.«01_k».proof.Proof.MoeSample.Sum

/-! # The sample's result array is the layer -/

@[expose] public section

set_option maxRecDepth 16384

noncomputable section

namespace Cert.MoeSampleIdeal.Moe

open Idealize.ShloMosaic Idealize.ShloMosaic.TcCoe Idealize.SL.Sem Cert.MoeSampleIdeal Cert.MoeSampleIdeal.Gen Cert.MoeRows
open Cert.Moe (expert norm)

variable (m : (ℓ : Loc nD τ sig) → Buf (Elt Ideal) ℓ)

/-- The layer over the kernel's arguments, as an array. -/
def result (c : Dev nD) : FVec Ideal S128x1024 .f32 := fun i =>
  layer (rows m c) (weights m c) (shifts m c) (scales m c) (gates m c) (gate m c) (up m c) (down m c)
    (fun k => m ((c : Thread nD τ).loc main_arg6) (ix2 0 k)) (fun k => m ((c : Thread nD τ).loc main_arg7) (ix2 0 k))
    (i 0) (i 1)

/-- What a last expert's point stores at a block index is the layer at the array index it is written to. -/
theorem point (c : Dev nD) (t : Fin cfg0.N) (h1 : t.val % 32 = 31) (y : S128x1024.Idx) (i : S128x1024.Idx)
    (h : i = ix2 (y 0) (y 1)) : (outsAt0 m c t.val t.isLt).1 y = result m c i := by
  subst h
  idx_vars y
  exact stored_at m c t h1 _ _

/-- The result array after the run. -/
theorem final (c : Dev nD) : (dats m 0 c).arrAt 10 (cfgs 0).N = result m c := by
  refine (dats m 0 c).arrAt_eq_of_covers 10 _ (by decide +kernel) fun t hf y => ?_
  have h1 := (flush0_10 t).mp hf
  blk_simp
  rw [after0_10]
  refine point m c t h1 y _ ?_
  blk_ext [idx t]

end Cert.MoeSampleIdeal.Moe

end
-- ==== Proof.MoeSample.Claim.lean ====
module

public import proofs.«01_k».proof.Defs
public import proofs.«01_k».proof.Proof.Gen.MoeSampleIdeal.Value
public import proofs.«01_k».proof.Proof.Gen.MoeSampleRefIdeal.Run
public import proofs.«01_k».proof.Proof.MoeSample.Ref
public import proofs.«01_k».proof.Proof.MoeSample.Final
public import Idealize.ShloMosaic.Adequacy
public import Idealize.ShloMosaic.Init

/-! # The sample's mixture of experts and its reference give equal results -/

@[expose] public section

noncomputable section

namespace Cert.MoeSamplePair

open Idealize.ShloMosaic Idealize.SL.Sem

/-- The kernel's run, its result array read as the layer. -/
theorem algebraic : algebraic_MoeSampleIdeal_MoeSampleRefIdeal := by
  intro m ρ m' ρ' _ hagree
  refine ⟨_, Cert.MoeSampleIdeal.Value.run_blocks (F := Ideal) m ρ, ?_⟩
  refine (θ_run Cert.MoeSampleRefIdeal.defs _ _).mono (fun _ h c => ⟨?_, (h c).2⟩) (Cert.MoeSampleRefIdeal.Value.run (F := Ideal) m' ρ')
  rw [(h c).1, Cert.MoeSampleRefIdeal.Read.val_main_v56_eq]
  obtain ⟨a0, a1, a2, a3, a4, a5, a6, a7⟩ := hagree c
  rw [a0, a1, a2, a3, a4, a5, a6, a7]
  refine Eq.trans ?_ (Cert.MoeSampleIdeal.Moe.final m c).symm
  funext i
  idx_vars i
  exact Cert.MoeSampleRefIdeal.Moe.ref_at _ _ _ _ _ _ _ _ _ _

end Cert.MoeSamplePair

end
-- ==== Proof.Outproj.Math.lean ====
module

public import proofs.«01_k».proof.Proof.Moe.Math

/-! # The output projection and its layer norm -/

@[expose] public section

set_option maxRecDepth 16384

noncomputable section

namespace Cert.Outproj

open Idealize.ShloMosaic Cert.Moe

/-- The root-mean-square norm of a row of 512 numbers at one place, with the gain `g` of that place. -/
def rms (u : Fin 512 → EReal) (g : EReal) (d : Fin 512) : EReal :=
  u d * Ideal.rsqrt (Ideal.div (∑ l, u l * u l) (Ideal.ofBits .f32 1140850688#32) + Ideal.ofBits .f32 897988541#32) * g

/-- The two normed rows side by side. -/
def joined (u v gu gv : Fin 512 → EReal) (d : Fin 1024) : EReal :=
  if h : d.val < 512 then rms u (gu ⟨d.val, h⟩) ⟨d.val, h⟩
  else rms v (gv ⟨d.val - 512, by omega⟩) ⟨d.val - 512, by omega⟩

section
variable (X : Fin 16384 → Fin 1024 → EReal) (U V : Fin 16384 → Fin 512 → EReal) (M : Fin 4 → Fin 6 → Fin 1024 → EReal)
  (gu gv : Fin 512 → EReal) (W : Fin 1024 → Fin 1024 → EReal) (g b : Fin 1024 → EReal)

/-- The residual row of a token: the scaled input and the gated projection of the two normed rows. -/
def resid (r : Fin 16384) (k : Fin 1024) : EReal :=
  Ideal.ofBits .f32 1066940400#32 * X r k + (1 + M (entry r) 2 k) * ∑ d, joined (U r) (V r) gu gv d * W d k

/-- The layer at one token and one place. -/
def layer (r : Fin 16384) (k : Fin 1024) : EReal := norm (resid X U V M gu gv W r) (g k) (b k) k

end

end Cert.Outproj

end
-- ==== Proof.Outproj.Ref.lean ====
module

public import proofs.«01_k».proof.Proof.Gen.OutprojRefIdeal.Read
public import proofs.«01_k».proof.Proof.Moe.Ref
public import proofs.«01_k».proof.Proof.Outproj.Math

/-! # The reference of the output projection at an index -/

@[expose] public section

set_option maxRecDepth 16384

noncomputable section

namespace Cert.OutprojRefIdeal.Outproj

open Idealize.ShloMosaic Idealize.ShloMosaic.TcCoe Idealize.SL.Sem Cert.OutprojRefIdeal Cert.OutprojRefIdeal.Read
open Cert.Moe (entry norm mean)
open Cert.ReferenceIdeal.Moe (place entry_place)
open Cert.Outproj

variable (x0 : FVec Ideal S16384x1024 .f32) (x1 x2 : FVec Ideal S16384x512 .f32) (x3 : FVec Ideal S4x6x1024 .f32)
  (x4 x5 : FVec Ideal S1x512 .f32) (x6 : FVec Ideal S1024x1024 .f32) (x7 x8 : FVec Ideal S1x1024 .f32)

theorem v17_at (r : Fin 16384) (d : Fin 512) : val_main_v17 (F := Ideal) x1 x4 (ix3 (entry r) (place r) d)
    = rms (fun d => x1 (ix2 r d)) (x4 (ix2 0 d)) d := by
  pointwise [val_main_v17, val_main_v16, val_main_v15, val_main_v14, val_main_v13, val_main_v12, val_main_v11, val_main_v10,
    val_main_v9, val_main_v8, val_main_v7, val_main_v6, val_main_v5, val_main_v4, val_main_v1, val_main_cst, val_main_cst_0,
    val_main_cst_1]
  simp only [entry_place]
  rfl

theorem v31_at (r : Fin 16384) (d : Fin 512) : val_main_v31 (F := Ideal) x2 x5 (ix3 (entry r) (place r) d)
    = rms (fun d => x2 (ix2 r d)) (x5 (ix2 0 d)) d := by
  pointwise [val_main_v31, val_main_v30, val_main_v29, val_main_v28, val_main_v27, val_main_v26, val_main_v25, val_main_v24,
    val_main_v23, val_main_v22, val_main_v21, val_main_v20, val_main_v19, val_main_v18, val_main_v2, val_main_cst_2,
    val_main_cst_3, val_main_cst_4]
  simp only [entry_place]
  rfl

theorem v32_at (r : Fin 16384) (d : Fin 1024) : val_main_v32 (F := Ideal) x1 x2 x4 x5 (ix3 (entry r) (place r) d)
    = joined (fun d => x1 (ix2 r d)) (fun d => x2 (ix2 r d)) (fun d => x4 (ix2 0 d)) (fun d => x5 (ix2 0 d)) d := by
  pointwise [val_main_v32]
  unfold joined
  split_ifs
  · exact v17_at _ _ _ _
  all_goals exact v31_at _ _ _ _

theorem v40_at (r : Fin 16384) (k : Fin 1024) :
    val_main_v40 (F := Ideal) x0 x1 x2 x3 x4 x5 x6 (ix3 (entry r) (place r) k)
      = resid (fun r d => x0 (ix2 r d)) (fun r d => x1 (ix2 r d)) (fun r d => x2 (ix2 r d)) (fun b s d => x3 (ix3 b s d))
          (fun d => x4 (ix2 0 d)) (fun d => x5 (ix2 0 d)) (fun d k => x6 (ix2 d k)) r k := by
  have hsum : val_main_v33 (F := Ideal) x1 x2 x4 x5 x6 (ix3 (entry r) (place r) k)
      = ∑ d : Fin 1024, val_main_v32 (F := Ideal) x1 x2 x4 x5 (ix3 (entry r) (place r) d) * x6 (ix2 d k) := by
    pointwise [val_main_v33]
  pointwise [val_main_v40, val_main_v39, val_main_v38, val_main_v37, val_main_v36, val_main_v35, val_main_v34,
    val_main_v3, val_main_v0, val_main_cst_5, val_main_cst_6]
  rw [entry_place, hsum]
  unfold resid
  simp only [v32_at]

/-- THE REFERENCE at a token and a place is the layer there. -/
theorem ref_at (r : Fin 16384) (k : Fin 1024) : val_main_v67 (F := Ideal) x0 x1 x2 x3 x4 x5 x6 x7 x8 (ix2 r k)
      = layer (fun r d => x0 (ix2 r d)) (fun r d => x1 (ix2 r d)) (fun r d => x2 (ix2 r d)) (fun b s d => x3 (ix3 b s d))
          (fun d => x4 (ix2 0 d)) (fun d => x5 (ix2 0 d)) (fun d k => x6 (ix2 d k)) (fun k => x7 (ix2 0 k))
          (fun k => x8 (ix2 0 k)) r k := by
  unfold layer
  simp only [funext fun k => (v40_at x0 x1 x2 x3 x4 x5 x6 r k).symm]
  pointwise [val_main_v67, val_main_v66, val_main_v65, val_main_v64, val_main_v42, val_main_v63, val_main_v62,
    val_main_v61, val_main_v41, val_main_v60, val_main_v59, val_main_v58, val_main_v57, val_main_v56, val_main_v55,
    val_main_v54, val_main_v53, val_main_v52, val_main_v51, val_main_v50, val_main_v49, val_main_v48, val_main_v47,
    val_main_v46, val_main_v45, val_main_v44, val_main_v43, val_main_cst_7, val_main_cst_8, val_main_cst_9,
    val_main_cst_10, val_main_cst_11]
  unfold Cert.Moe.norm mean
  rfl

end Cert.OutprojRefIdeal.Outproj

end
-- ==== Proof.Outproj.Pay.lean ====
module

public import proofs.«01_k».proof.Proof.Gen.OutprojIdeal.Value
public import proofs.«01_k».proof.Proof.Outproj.Math

/-! # What a grid point of the output projection stores -/

@[expose] public section

set_option maxRecDepth 16384

noncomputable section

namespace Cert.OutprojIdeal.Outproj

open Idealize.ShloMosaic Idealize.ShloMosaic.TcCoe Idealize.SL.Sem Cert.OutprojIdeal Cert.OutprojIdeal.Gen
open Cert.Moe (norm)
open Cert.Outproj

/-- The squares' means of a block's rows, with the small constant added. -/
theorem pay9_at (u : FVec Ideal S512x512 .f32) (p : Fin 512) : k0_pay9 (F := Ideal) u (ix2 p 0)
    = Ideal.div (∑ l : Fin 512, u (ix2 p l) * u (ix2 p l)) (Ideal.ofBits .f32 1140850688#32) + Ideal.ofBits .f32 897988541#32 := by
  pointwise [k0_pay9]

/-- A block's rows divided by the roots of `s` and scaled with the gain. -/
def scaled (u : FVec Ideal S512x512 .f32) (s : FVec Ideal S512x1 .f32) (g : FVec Ideal S1x512 .f32) : FVec Ideal S512x512 .f32 :=
  mulf (mulf u (broadcastTo S512x512 (rsqrt s) broadcasts_S512x1_S512x512)) (broadcastTo S512x512 g broadcasts_S1x512_S512x512)

theorem scaled_at (u : FVec Ideal S512x512 .f32) (g : FVec Ideal S1x512 .f32) (p d : Fin 512) :
    scaled u (k0_pay9 u) g (ix2 p d) = rms (fun d => u (ix2 p d)) (g (ix2 0 d)) d := by
  have h : scaled u (k0_pay9 u) g (ix2 p d) = u (ix2 p d) * Ideal.rsqrt (k0_pay9 (F := Ideal) u (ix2 p 0)) * g (ix2 0 d) := by
    pointwise [scaled]
  rw [h, pay9_at]
  rfl

/-- The two normed blocks side by side. -/
def both (u v : FVec Ideal S512x512 .f32) (gu gv : FVec Ideal S1x512 .f32) : FVec Ideal S512x1024 .f32 :=
  concatenate S512x1024 1 [⟨S512x512, scaled u (k0_pay9 u) gu⟩, ⟨S512x512, scaled v (k0_pay9 v) gv⟩]
    concatenates_S512x512_S512x512_S512x1024_d1

theorem both_at (u v : FVec Ideal S512x512 .f32) (gu gv : FVec Ideal S1x512 .f32) (p : Fin 512) (d : Fin 1024) :
    both u v gu gv (ix2 p d)
      = joined (fun d => u (ix2 p d)) (fun d => v (ix2 p d)) (fun d => gu (ix2 0 d)) (fun d => gv (ix2 0 d)) d := by
  pointwise [both]
  unfold joined
  split_ifs
  all_goals exact scaled_at _ _ _ _

/-- The residual block. -/
def sumUp (gt : FVec Ideal S1x1024 .f32) (x y : FVec Ideal S512x1024 .f32) (w : FVec Ideal S1024x1024 .bf16) : FVec Ideal S512x1024 .f32 :=
  addf (mulf (broadcast S512x1024 (Scalar.ofBits .f32 0x3F9837F0#32)) x)
    (mulf (broadcastTo S512x1024 (addf (broadcast S1x1024 (Scalar.ofBits .f32 0x3F800000#32)) gt) broadcasts_S1x1024_S512x1024)
      (matmul dot_S512x1024_S1024x1024_S512x1024_1_0_0_1_n_n none (truncf .bf16 y bitsLt_bf16_f32) w
        (constant S512x1024 .f32 0x00000000#32)))

theorem sumUp_at (gt : FVec Ideal S1x1024 .f32) (x y : FVec Ideal S512x1024 .f32) (w : FVec Ideal S1024x1024 .bf16) (p : Fin 512)
    (k : Fin 1024) : sumUp gt x y w (ix2 p k)
      = Ideal.ofBits .f32 1066940400#32 * x (ix2 p k) + (1 + gt (ix2 0 k)) * ∑ d : Fin 1024, y (ix2 p d) * w (ix2 d k) := by
  pointwise [sumUp]

/-- A block's rows less their means. -/
def centred (y : FVec Ideal S512x1024 .f32) : FVec Ideal S512x1024 .f32 :=
  subf y (broadcastTo S512x1024 (divf (shapeCast S512x1 (multiReduction .add [1] S512 y 0x00000000#32 reduces_S512x1024_S512 (.inl rfl) rfl)
    shapeCasts_S512_S512x1) (broadcast S512x1 (Scalar.ofBits .f32 0x44800000#32))) broadcasts_S512x1_S512x1024)

/-- The layer norm of a block's rows. -/
def normed (y : FVec Ideal S512x1024 .f32) (g b : FVec Ideal S1x1024 .f32) : FVec Ideal S512x1024 .f32 :=
  addf (mulf (mulf (centred y) (broadcastTo S512x1024 (rsqrt (addf (divf (shapeCast S512x1
    (multiReduction .add [1] S512 (mulf (centred y) (centred y)) 0x00000000#32 reduces_S512x1024_S512 (.inl rfl) rfl)
    shapeCasts_S512_S512x1) (broadcast S512x1 (Scalar.ofBits .f32 0x44800000#32)))
    (broadcast S512x1 (Scalar.ofBits .f32 0x3727C5AC#32)))) broadcasts_S512x1_S512x1024))
    (broadcastTo S512x1024 g broadcasts_S1x1024_S512x1024)) (broadcastTo S512x1024 b broadcasts_S1x1024_S512x1024)

theorem normed_at (y : FVec Ideal S512x1024 .f32) (g b : FVec Ideal S1x1024 .f32) (p : Fin 512) (k : Fin 1024) :
    normed y g b (ix2 p k) = norm (fun k => y (ix2 p k)) (g (ix2 0 k)) (b (ix2 0 k)) k := by
  pointwise [normed, centred]
  rfl

/-- The stored block is the layer norm of the residual block. -/
theorem pay10_eq (gt : FVec Ideal S1x1024 .f32) (x : FVec Ideal S512x1024 .f32) (u v : FVec Ideal S512x512 .f32)
    (gu gv : FVec Ideal S1x512 .f32) (w : FVec Ideal S1024x1024 .bf16) (g b : FVec Ideal S1x1024 .f32) :
    k0_pay10 (F := Ideal) gt x u v gu gv w g b (k0_pay9 u) = normed (sumUp gt x (both u v gu gv) w) g b := rfl

theorem pay10_at (gt : FVec Ideal S1x1024 .f32) (x : FVec Ideal S512x1024 .f32) (u v : FVec Ideal S512x512 .f32)
    (gu gv : FVec Ideal S1x512 .f32) (w : FVec Ideal S1024x1024 .bf16) (g b : FVec Ideal S1x1024 .f32) (p : Fin 512) (k : Fin 1024) :
    k0_pay10 (F := Ideal) gt x u v gu gv w g b (k0_pay9 u) (ix2 p k)
      = norm (fun k => Ideal.ofBits .f32 1066940400#32 * x (ix2 p k) + (1 + gt (ix2 0 k)) * ∑ d : Fin 1024,
          joined (fun d => u (ix2 p d)) (fun d => v (ix2 p d)) (fun d => gu (ix2 0 d)) (fun d => gv (ix2 0 d)) d * w (ix2 d k))
          (g (ix2 0 k)) (b (ix2 0 k)) k := by
  rw [pay10_eq, normed_at]
  simp only [sumUp_at, both_at]

end Cert.OutprojIdeal.Outproj

end
-- ==== Proof.Outproj.Final.lean ====
module

public import proofs.«01_k».proof.Proof.Outproj.Pay

/-! # The output projection's result array -/

@[expose] public section

set_option maxRecDepth 16384

noncomputable section

namespace Cert.OutprojIdeal.Outproj

open Idealize.ShloMosaic Idealize.ShloMosaic.TcCoe Idealize.SL.Sem Cert.OutprojIdeal Cert.OutprojIdeal.Gen
open Cert.Moe (entry norm)
open Cert.Outproj

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val / 8, 0, 0] ∧ win0_4.index t = ![0, 0] ∧ win0_5.index t = ![0, 0] ∧ win0_6.index t = ![0, 0]
    ∧ win0_7.index t = ![0, 0] ∧ win0_8.index t = ![0, 0] ∧ win0_11.index t = ![t.val, 0] ∧ t.val < 32 :=
  (by decide +kernel : ∀ t : Fin grid0.N, _)

/-- The token a row of a point's block is. -/
def rowOf (t : Fin cfg0.N) (p : Fin 512) : Fin 16384 :=
  ⟨t.val * 512 + p.val, by have h := lt_of_lt_of_eq t.isLt N_0; omega⟩

theorem entry_rowOf (t : Fin cfg0.N) (p : Fin 512) : (entry (rowOf t p) : ℕ) = t.val / 8 := by
  simp only [entry, rowOf]
  omega

/-- The rows of the residual stream. -/
def rows (c : Dev nD) (r : Fin 16384) (d : Fin 1024) : EReal := m ((c : Thread nD τ).loc main_arg0) (ix2 r d)
/-- The recurrence's rows. -/
def lru (c : Dev nD) (r : Fin 16384) (d : Fin 512) : EReal := m ((c : Thread nD τ).loc main_arg1) (ix2 r d)
/-- The attention's rows. -/
def att (c : Dev nD) (r : Fin 16384) (d : Fin 512) : EReal := m ((c : Thread nD τ).loc main_arg2) (ix2 r d)
/-- The modulation vectors. -/
def mods (c : Dev nD) (b : Fin 4) (s : Fin 6) (d : Fin 1024) : EReal := m ((c : Thread nD τ).loc main_arg3) (ix3 b s d)
/-- The gain of the recurrence's rows. -/
def gainLru (c : Dev nD) (d : Fin 512) : EReal := m ((c : Thread nD τ).loc main_arg4) (ix2 0 d)
/-- The gain of the attention's rows. -/
def gainAtt (c : Dev nD) (d : Fin 512) : EReal := m ((c : Thread nD τ).loc main_arg5) (ix2 0 d)
/-- The projection's weights. -/
def weights (c : Dev nD) (d k : Fin 1024) : EReal := m ((c : Thread nD τ).loc main_arg6) (ix2 d k)
/-- The layer norm's gain. -/
def gain (c : Dev nD) (k : Fin 1024) : EReal := m ((c : Thread nD τ).loc main_arg7) (ix2 0 k)
/-- The layer norm's shift. -/
def shift (c : Dev nD) (k : Fin 1024) : EReal := m ((c : Thread nD τ).loc main_arg8) (ix2 0 k)

theorem blk0 (c : Dev nD) (t : Fin cfg0.N) (p : Fin 512) (d : Fin 1024) :
    (iblk m c 0 t : FVec Ideal S512x1024 .f32) (ix2 p d) = rows m c (rowOf t p) d := by
  unfold rows
  blk_ext [iblk, V, idx t, rowOf]

theorem blk1 (c : Dev nD) (t : Fin cfg0.N) (p d : Fin 512) :
    (iblk m c 1 t : FVec Ideal S512x512 .f32) (ix2 p d) = lru m c (rowOf t p) d := by
  unfold lru
  blk_ext [iblk, V, idx t, rowOf]

theorem blk2 (c : Dev nD) (t : Fin cfg0.N) (p d : Fin 512) :
    (iblk m c 2 t : FVec Ideal S512x512 .f32) (ix2 p d) = att m c (rowOf t p) d := by
  unfold att
  blk_ext [iblk, V, idx t, rowOf]

theorem blk3 (c : Dev nD) (t : Fin cfg0.N) (p : Fin 512) (s : Fin 6) (d : Fin 1024) :
    (iblk m c 3 t : FVec Ideal S1x6x1024 .f32) (ix3 0 s d) = mods m c (entry (rowOf t p)) s d := by
  have he := entry_rowOf t p
  unfold mods
  blk_ext [iblk, V, idx t]

theorem blk4 (c : Dev nD) (t : Fin cfg0.N) (d : Fin 512) :
    (iblk m c 4 t : FVec Ideal S1x512 .f32) (ix2 0 d) = gainLru m c d := by
  unfold gainLru
  blk_simp [iblk, idx t]
  entry_read
  pointwise
  blk_ext [idx t]

theorem blk5 (c : Dev nD) (t : Fin cfg0.N) (d : Fin 512) :
    (iblk m c 5 t : FVec Ideal S1x512 .f32) (ix2 0 d) = gainAtt m c d := by
  unfold gainAtt
  blk_ext [iblk, V, idx t]

theorem blk6 (c : Dev nD) (t : Fin cfg0.N) (d k : Fin 1024) :
    (iblk m c 6 t : FVec Ideal S1024x1024 .bf16) (ix2 d k) = weights m c d k := by
  unfold weights
  blk_simp [iblk, idx t]
  entry_read
  pointwise
  blk_ext [idx t]

theorem blk7 (c : Dev nD) (t : Fin cfg0.N) (k : Fin 1024) :
    (iblk m c 7 t : FVec Ideal S1x1024 .f32) (ix2 0 k) = gain m c k := by
  unfold gain
  blk_simp [iblk, idx t]
  entry_read
  pointwise
  blk_ext [idx t]

theorem blk8 (c : Dev nD) (t : Fin cfg0.N) (k : Fin 1024) :
    (iblk m c 8 t : FVec Ideal S1x1024 .f32) (ix2 0 k) = shift m c k := by
  unfold shift
  blk_simp [iblk, idx t]
  entry_read
  pointwise
  blk_ext [idx t]

theorem gate_at (X : FVec Ideal S1x6x1024 .f32) (k : Fin 1024) :
    k0_pay2 (F := Ideal) (View.ld (Val := Elt Ideal) (e' := .f32) X r0_0) (ix2 0 k) = X (ix3 0 2 k) := by
  rw [View.ld_unit]
  pointwise [k0_pay2]

/-- The layer over the kernel's arguments, as an array. -/
def result (c : Dev nD) : FVec Ideal S16384x1024 .f32 := fun i =>
  layer (rows m c) (lru m c) (att m c) (mods m c) (gainLru m c) (gainAtt m c) (weights m c) (gain m c) (shift m c) (i 0) (i 1)

theorem pay5_eq (g : FVec Ideal S1x512 .f32) : k0_pay5 (F := Ideal) g = g := by
  funext j
  pointwise [k0_pay5]

theorem pay6_eq (w : FVec Ideal S1024x1024 .bf16) : k0_pay6 (F := Ideal) w = w := by
  funext j
  pointwise [k0_pay6]

theorem pay7_eq (g : FVec Ideal S1x1024 .f32) : k0_pay7 (F := Ideal) g = g := by
  funext j
  pointwise [k0_pay7]

theorem pay8_eq (g : FVec Ideal S1x1024 .f32) : k0_pay8 (F := Ideal) g = g := by
  funext j
  pointwise [k0_pay8]

/-- What a point stores is the layer at its rows. -/
theorem stored_at (c : Dev nD) (t : Fin cfg0.N) (p : Fin 512) (k : Fin 1024) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 p k)
      = layer (rows m c) (lru m c) (att m c) (mods m c) (gainLru m c) (gainAtt m c) (weights m c) (gain m c) (shift m c) (rowOf t p) k := by
  unfold_out out0_11
  frame_out
  refine (congrFun (?_ : _ = k0_pay10 (F := Ideal)
    (k0_pay2 (View.ld (Val := Elt Ideal) (e' := .f32) (iblk m c 3 t : FVec Ideal S1x6x1024 .f32) r0_0)) (iblk m c 0 t) (iblk m c 1 t) (iblk m c 2 t) (iblk m c 4 t)
    (iblk m c 5 t) (iblk m c 6 t) (iblk m c 7 t) (iblk m c 8 t) (k0_pay9 (iblk m c 1 t))) (ix2 p k)).trans ?_
  · rw [pay5_eq, pay6_eq, pay7_eq, pay8_eq]
    rfl
  refine (pay10_at _ _ _ _ _ _ _ _ _ p k).trans ?_
  simp only [gate_at, blk0, blk1, blk2, blk3 m c t p, blk4, blk5, blk6, blk7, blk8]
  rfl

theorem point (c : Dev nD) (t : Fin cfg0.N) (y : S512x1024.Idx) (i : S16384x1024.Idx) (h : i = ix2 (rowOf t (y 0)) (y 1)) :
    out0_11 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) y = result m c i := by
  subst h
  idx_vars y
  exact stored_at m c t _ _

/-- The result array after the run. -/
theorem final (c : Dev nD) : (dats m 0 c).arrAt 11 (cfgs 0).N = result m c := by
  refine (dats m 0 c).arrAt_eq_of_covers 11 _ (by decide +kernel) fun t hf y => ?_
  blk_simp
  rw [after0_11]
  refine point m c t y _ ?_
  blk_ext [idx t, rowOf]

end Cert.OutprojIdeal.Outproj

end
-- ==== Proof.Outproj.Claim.lean ====
module

public import proofs.«01_k».proof.Defs
public import proofs.«01_k».proof.Proof.Gen.OutprojIdeal.Value
public import proofs.«01_k».proof.Proof.Gen.OutprojRefIdeal.Run
public import proofs.«01_k».proof.Proof.Outproj.Ref
public import proofs.«01_k».proof.Proof.Outproj.Final
public import Idealize.ShloMosaic.Adequacy
public import Idealize.ShloMosaic.Init

/-! # The output projection and its reference give equal results -/

@[expose] public section

set_option maxRecDepth 16384

noncomputable section

namespace Cert.OutprojPair

open Idealize.ShloMosaic Idealize.SL.Sem

/-- The kernel's run, its first result array read as the layer. -/
theorem algebraic : algebraic_OutprojIdeal_OutprojRefIdeal := by
  intro m ρ m' ρ' _ hagree
  refine ⟨_, (θ_run Cert.OutprojIdeal.defs _ _).mono (fun _ h c => ⟨(h c).1, (h c).2.2⟩)
    (Cert.OutprojIdeal.Value.run_blocks (F := Ideal) m ρ), ?_⟩
  refine (θ_run Cert.OutprojRefIdeal.defs _ _).mono (fun _ h c => ⟨?_, (h c).2⟩) (Cert.OutprojRefIdeal.Value.run (F := Ideal) m' ρ')
  rw [(h c).1, Cert.OutprojRefIdeal.Read.val_main_v67_eq]
  obtain ⟨a0, a1, a2, a3, a4, a5, a6, a7, a8, a9, a10⟩ := hagree c
  rw [a0, a1, a2, a3, a4, a5, a6, a7, a8]
  refine Eq.trans ?_ (Cert.OutprojIdeal.Outproj.final m c).symm
  funext i
  idx_vars i
  exact Cert.OutprojRefIdeal.Outproj.ref_at _ _ _ _ _ _ _ _ _ _ _

end Cert.OutprojPair

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Moe.Claim
public import proofs.«01_k».proof.Proof.Gen.Attn.Frame
public import proofs.«01_k».proof.Proof.Gen.AttnIdeal.Value
public import proofs.«01_k».proof.Proof.Gen.AttnRefIdeal.Run
public import proofs.«01_k».proof.Proof.Attn.Claim
public import proofs.«01_k».proof.Proof.Gen.Inproj.Frame
public import proofs.«01_k».proof.Proof.Gen.InprojIdeal.Value
public import proofs.«01_k».proof.Proof.Gen.InprojRefIdeal.Run
public import proofs.«01_k».proof.Proof.Inproj.Claim
public import proofs.«01_k».proof.Proof.Gen.SampleAttn.Frame
public import proofs.«01_k».proof.Proof.Gen.SampleAttnIdeal.Value
public import proofs.«01_k».proof.Proof.Gen.SampleAttnRefIdeal.Run
public import proofs.«01_k».proof.Proof.SampleAttn.Claim
public import proofs.«01_k».proof.Proof.Gen.Lru.Frame
public import proofs.«01_k».proof.Proof.Gen.LruIdeal.Value
public import proofs.«01_k».proof.Proof.Gen.LruRefIdeal.Run
public import proofs.«01_k».proof.Proof.Lru.Claim
public import proofs.«01_k».proof.Proof.Gen.MoeSample.Frame
public import proofs.«01_k».proof.Proof.Gen.MoeSampleIdeal.Value
public import proofs.«01_k».proof.Proof.Gen.MoeSampleRefIdeal.Run
public import proofs.«01_k».proof.Proof.MoeSample.Claim
public import proofs.«01_k».proof.Proof.Gen.Outproj.Frame
public import proofs.«01_k».proof.Proof.Gen.OutprojIdeal.Value
public import proofs.«01_k».proof.Proof.Gen.OutprojRefIdeal.Run
public import proofs.«01_k».proof.Proof.Outproj.Claim
public import proofs.«01_k».proof.Proof.Gen.Pre_finite_scores
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_AttnRefIdeal : quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem quiescent_AttnRefIdeal_pre : quiescent_AttnRefIdeal_pre_finite_scores := fun m ρ _ =>
  quiescent_AttnRefIdeal m ρ trivial

theorem quiescent_InprojRefIdeal : quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem quiescent_SampleAttnRefIdeal : quiescent_SampleAttnRefIdeal := fun m ρ _ =>
  (θ_run Cert.SampleAttnRefIdeal.defs _ _).mono (fun r h => ⟨fun c => (h c).2.2, sem_eq_zero_of_no_sems (by decide) r.2⟩)
    (Cert.SampleAttnRefIdeal.Value.run (F := Ideal) m ρ)

theorem quiescent_LruRefIdeal : quiescent_LruRefIdeal := fun m ρ _ =>
  (θ_run Cert.LruRefIdeal.defs _ _).mono (fun r h => ⟨fun c => (h c).2.2, sem_eq_zero_of_no_sems (by decide) r.2⟩)
    (Cert.LruRefIdeal.Value.run (F := Ideal) m ρ)

theorem quiescent_MoeSampleRefIdeal : quiescent_MoeSampleRefIdeal := fun m ρ _ =>
  (θ_run Cert.MoeSampleRefIdeal.defs _ _).mono (fun r h => ⟨fun c => (h c).2, sem_eq_zero_of_no_sems (by decide) r.2⟩)
    (Cert.MoeSampleRefIdeal.Value.run (F := Ideal) m ρ)

theorem quiescent_OutprojRefIdeal : quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

theorem claim : Cert.Claim := ⟨Cert.Kernel.Gen.facts, Cert.KernelIdeal.Gen.facts, Cert.ReferenceIdeal.Gen.facts, Cert.Attn.Gen.facts, Cert.AttnIdeal.Gen.facts, Cert.AttnRefIdeal.Gen.facts, Cert.Inproj.Gen.facts, Cert.InprojIdeal.Gen.facts, Cert.InprojRefIdeal.Gen.facts, Cert.SampleAttn.Gen.facts, Cert.SampleAttnIdeal.Gen.facts, Cert.SampleAttnRefIdeal.Gen.facts, Cert.Lru.Gen.facts, Cert.LruIdeal.Gen.facts, Cert.LruRefIdeal.Gen.facts, Cert.MoeSample.Gen.facts, Cert.MoeSampleIdeal.Gen.facts, Cert.MoeSampleRefIdeal.Gen.facts, Cert.Outproj.Gen.facts, Cert.OutprojIdeal.Gen.facts, Cert.OutprojRefIdeal.Gen.facts, Cert.Pre_finite_scores.Gen.facts,
  fun m ρ _ => Cert.Kernel.Gen.frame m ρ,
  fun m ρ _ => Cert.KernelIdeal.Gen.frame m ρ,
  quiescent_ReferenceIdeal,
  fun m ρ _ => Cert.Attn.Gen.frame m ρ,
  fun m ρ _ => Cert.AttnIdeal.Gen.frame m ρ,
  fun m ρ _ => Cert.AttnIdeal.Gen.frame m ρ,
  quiescent_AttnRefIdeal,
  quiescent_AttnRefIdeal_pre,
  fun m ρ _ => Cert.Inproj.Gen.frame m ρ,
  fun m ρ _ => Cert.InprojIdeal.Gen.frame m ρ,
  quiescent_InprojRefIdeal,
  fun m ρ _ => Cert.SampleAttn.Gen.frame m ρ,
  fun m ρ _ => Cert.SampleAttnIdeal.Gen.frame m ρ,
  quiescent_SampleAttnRefIdeal,
  fun m ρ _ => Cert.Lru.Gen.frame m ρ,
  fun m ρ _ => Cert.LruIdeal.Gen.frame m ρ,
  quiescent_LruRefIdeal,
  fun m ρ _ => Cert.MoeSample.Gen.frame m ρ,
  fun m ρ _ => Cert.MoeSampleIdeal.Gen.frame m ρ,
  quiescent_MoeSampleRefIdeal,
  fun m ρ _ => Cert.Outproj.Gen.frame m ρ,
  fun m ρ _ => Cert.OutprojIdeal.Gen.frame m ρ,
  quiescent_OutprojRefIdeal,
  (trivial : preserves_Kernel_KernelIdeal),
  Cert.MoePair.algebraic,
  (trivial : preserves_Attn_AttnIdeal),
  Cert.AttnPair.algebraic,
  (trivial : preserves_Inproj_InprojIdeal),
  Cert.InprojPair.algebraic,
  (trivial : preserves_SampleAttn_SampleAttnIdeal),
  Cert.SampleAttnPair.algebraic,
  (trivial : preserves_Lru_LruIdeal),
  Cert.LruPair.algebraic,
  (trivial : preserves_MoeSample_MoeSampleIdeal),
  Cert.MoeSamplePair.algebraic,
  (trivial : preserves_Outproj_OutprojIdeal),
  Cert.OutprojPair.algebraic⟩

end Cert.Proof

end
